-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![8, 512, 8, 64]⟩ ⟨4, ![8, 8192, 8, 64]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![8, 512, 8, 64]⟩ ⟨4, ![8, 8192, 8, 64]⟩ 1 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S8x1x8x64 : Shape := ⟨4, ![8, 1, 8, 64]⟩
abbrev S8x512x8x64 : Shape := ⟨4, ![8, 512, 8, 64]⟩
abbrev S_ : Shape := ⟨0, ![]⟩

class Facts : Prop where
  bcast_S_S8x1x8x64 : S_.BroadcastsInDim S8x1x8x64 (![] : Fin 0 → Fin S8x1x8x64.rank)
  bcast_S_S8x512x8x64 : S_.BroadcastsInDim S8x512x8x64 (![] : Fin 0 → Fin S8x512x8x64.rank)

variable [Facts]

def fn {F : FTy → Type} [FloatOps F] (main_arg0 : FVec F S8x1x8x64 .f32) (main_arg1 : FVec F S8x512x8x64 .f32) (main_arg2 : FVec F S8x512x8x64 .f32) : IVec S8x1x8x64 1 × IVec S8x512x8x64 1 :=
  let main_v0 : FVec F S8x1x8x64 .f32 := Host.absf main_arg0
  let main_cst : FVec F S_ .f32 := constant S_ .f32 0x7F800000#32
  let main_v1 : FVec F S8x1x8x64 .f32 := broadcastInDim S8x1x8x64 ![] bcast_S_S8x1x8x64 main_cst
  let main_v2 : IVec S8x1x8x64 1 := cmpf .olt main_v0 main_v1
  let main_v3 : FVec F S8x512x8x64 .f32 := Host.absf main_arg1
  let main_cst_0 : FVec F S_ .f32 := constant S_ .f32 0x7F800000#32
  let main_v4 : FVec F S8x512x8x64 .f32 := broadcastInDim S8x512x8x64 ![] bcast_S_S8x512x8x64 main_cst_0
  let main_v5 : IVec S8x512x8x64 1 := cmpf .olt main_v3 main_v4
  (main_v2, main_v5)
-- ==== Pre_finite_qk_ReferenceIdeal.lean ====
abbrev S8x1x8x64 : Shape := ⟨4, ![8, 1, 8, 64]⟩
abbrev S8x8192x8x64 : Shape := ⟨4, ![8, 8192, 8, 64]⟩
abbrev S_ : Shape := ⟨0, ![]⟩

class Facts : Prop where
  bcast_S_S8x1x8x64 : S_.BroadcastsInDim S8x1x8x64 (![] : Fin 0 → Fin S8x1x8x64.rank)
  bcast_S_S8x8192x8x64 : S_.BroadcastsInDim S8x8192x8x64 (![] : Fin 0 → Fin S8x8192x8x64.rank)

variable [Facts]

def fn {F : FTy → Type} [FloatOps F] (main_arg0 : FVec F S8x1x8x64 .f32) (main_arg1 : FVec F S8x8192x8x64 .f32) (main_arg2 : FVec F S8x8192x8x64 .f32) : IVec S8x1x8x64 1 × IVec S8x8192x8x64 1 :=
  let main_v0 : FVec F S8x1x8x64 .f32 := Host.absf main_arg0
  let main_cst : FVec F S_ .f32 := constant S_ .f32 0x7F800000#32
  let main_v1 : FVec F S8x1x8x64 .f32 := broadcastInDim S8x1x8x64 ![] bcast_S_S8x1x8x64 main_cst
  let main_v2 : IVec S8x1x8x64 1 := cmpf .olt main_v0 main_v1
  let main_v3 : FVec F S8x8192x8x64 .f32 := Host.absf main_arg1
  let main_cst_0 : FVec F S_ .f32 := constant S_ .f32 0x7F800000#32
  let main_v4 : FVec F S8x8192x8x64 .f32 := broadcastInDim S8x8192x8x64 ![] bcast_S_S8x8192x8x64 main_cst_0
  let main_v5 : IVec S8x8192x8x64 1 := cmpf .olt main_v3 main_v4
  (main_v2, main_v5)
-- ==== Kernel.lean ====
abbrev S8x1x8x64 : Shape := ⟨4, ![8, 1, 8, 64]⟩
abbrev S8x512x8x64 : Shape := ⟨4, ![8, 512, 8, 64]⟩
abbrev S8x512 : Shape := ⟨2, ![8, 512]⟩
abbrev S8x512x512 : Shape := ⟨3, ![8, 512, 512]⟩
abbrev S2x2x512x512 : Shape := ⟨4, ![2, 2, 512, 512]⟩
abbrev S16x4x16x128 : Shape := ⟨4, ![16, 4, 16, 128]⟩
abbrev S2 : Shape := ⟨1, ![2]⟩
abbrev S16x4 : Shape := ⟨2, ![16, 4]⟩
abbrev S1 : Shape := ⟨1, ![1]⟩
abbrev S_ : Shape := ⟨0, ![]⟩
abbrev S1x2x512x512 : Shape := ⟨4, ![1, 2, 512, 512]⟩
abbrev S2x512x512 : Shape := ⟨3, ![2, 512, 512]⟩
abbrev S1x512 : Shape := ⟨2, ![1, 512]⟩
abbrev S1x1x512x512 : Shape := ⟨4, ![1, 1, 512, 512]⟩
abbrev S512x512 : Shape := ⟨2, ![512, 512]⟩
abbrev S8 : Shape := ⟨1, ![8]⟩
abbrev S8x1 : Shape := ⟨2, ![8, 1]⟩
abbrev S1x64 : Shape := ⟨2, ![1, 64]⟩
abbrev S8x64 : Shape := ⟨2, ![8, 64]⟩
abbrev S1x1x8x64 : Shape := ⟨4, ![1, 1, 8, 64]⟩
abbrev S1x1x8x1 : Shape := ⟨4, ![1, 1, 8, 1]⟩
abbrev S1x1 : Shape := ⟨2, ![1, 1]⟩
abbrev S1x1x16x128 : Shape := ⟨4, ![1, 1, 16, 128]⟩
abbrev S16x128 : Shape := ⟨2, ![16, 128]⟩
abbrev S1x4x16x128 : Shape := ⟨4, ![1, 4, 16, 128]⟩
abbrev S4x16x128 : Shape := ⟨3, ![4, 16, 128]⟩
abbrev S64x128 : Shape := ⟨2, ![64, 128]⟩
abbrev S64x1 : Shape := ⟨2, ![64, 1]⟩
abbrev S64x64 : Shape := ⟨2, ![64, 64]⟩
abbrev S8x8x64 : Shape := ⟨3, ![8, 8, 64]⟩

abbrev nBuf : Space → Nat
  | .hbm => 7
  | .vmem => 5
  | .smem => 0
  | _ => 0

abbrev bufTy : (tb : Table) → Fin (tcTables nBuf tb) → BufTy
  | .hbm, ⟨0, _⟩ => ⟨S8x1x8x64, .f32⟩
  | .hbm, ⟨1, _⟩ => ⟨S8x512x8x64, .f32⟩
  | .hbm, ⟨2, _⟩ => ⟨S8x512x8x64, .f32⟩
  | .hbm, ⟨3, _⟩ => ⟨S8x512, .f32⟩
  | .hbm, ⟨4, _⟩ => ⟨S8x512x512, .f32⟩
  | .hbm, ⟨5, _⟩ => ⟨S8x512x512, .f32⟩
  | .hbm, ⟨6, _⟩ => ⟨S8x1x8x64, .f32⟩
  | .local _ .vmem, ⟨0, _⟩ => ⟨S8x512, .f32⟩
  | .local _ .vmem, ⟨1, _⟩ => ⟨S8x1x8x64, .f32⟩
  | .local _ .vmem, ⟨2, _⟩ => ⟨S2x2x512x512, .f32⟩
  | .local _ .vmem, ⟨3, _⟩ => ⟨S2x2x512x512, .f32⟩
  | .local _ .vmem, ⟨4, _⟩ => ⟨S16x4x16x128, .f32⟩
  | _, _ => ⟨S8x1x8x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_21 : BitVec 32 := 1#32
  let v41 : BitVec 32 := Scalar.addi v2 c1_i32_21
  let c16_i32_22 : BitVec 32 := 16#32
  let v42 : BitVec 32 := Scalar.remsi v41 c16_i32_22
  let c1_i32_24 : BitVec 32 := 1#32
  let v43 : BitVec 32 := Scalar.muli v42 c1_i32_24
  let v44 : BitVec 32 := Scalar.addi c0_i32_25 v43
  v44.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v45 : BitVec 32 := Scalar.addi v2 c2_i32
  let c16_i32_26 : BitVec 32 := 16#32
  let v46 : BitVec 32 := Scalar.remsi v45 c16_i32_26
  let c1_i32_28 : BitVec 32 := 1#32
  let v47 : BitVec 32 := Scalar.muli v46 c1_i32_28
  let v48 : BitVec 32 := Scalar.addi c0_i32_29 v47
  v48.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v49 : BitVec 32 := Scalar.addi v2 c3_i32
  let c16_i32_30 : BitVec 32 := 16#32
  let v50 : BitVec 32 := Scalar.remsi v49 c16_i32_30
  let c1_i32_32 : BitVec 32 := 1#32
  let v51 : BitVec 32 := Scalar.muli v50 c1_i32_32
  let v52 : BitVec 32 := Scalar.addi c0_i32_33 v51
  v52.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v53 : BitVec 32 := Scalar.addi v2 c4_i32
  let c16_i32_34 : BitVec 32 := 16#32
  let v54 : BitVec 32 := Scalar.remsi v53 c16_i32_34
  let c1_i32_36 : BitVec 32 := 1#32
  let v55 : BitVec 32 := Scalar.muli v54 c1_i32_36
  let v56 : BitVec 32 := Scalar.addi c0_i32_37 v55
  v56.toNat
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v57 : BitVec 32 := Scalar.addi v2 c5_i32
  let c16_i32_38 : BitVec 32 := 16#32
  let v58 : BitVec 32 := Scalar.remsi v57 c16_i32_38
  let c1_i32_40 : BitVec 32 := 1#32
  let v59 : BitVec 32 := Scalar.muli v58 c1_i32_40
  let v60 : BitVec 32 := Scalar.addi c0_i32_41 v59
  v60.toNat
def k0_dev6 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v61 : BitVec 32 := Scalar.addi v2 c6_i32
  let c16_i32_42 : BitVec 32 := 16#32
  let v62 : BitVec 32 := Scalar.remsi v61 c16_i32_42
  let c1_i32_44 : BitVec 32 := 1#32
  let v63 : BitVec 32 := Scalar.muli v62 c1_i32_44
  let v64 : BitVec 32 := Scalar.addi c0_i32_45 v63
  v64.toNat
def k0_dev7 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v65 : BitVec 32 := Scalar.addi v2 c7_i32
  let c16_i32_46 : BitVec 32 := 16#32
  let v66 : BitVec 32 := Scalar.remsi v65 c16_i32_46
  let c1_i32_48 : BitVec 32 := 1#32
  let v67 : BitVec 32 := Scalar.muli v66 c1_i32_48
  let v68 : BitVec 32 := Scalar.addi c0_i32_49 v67
  v68.toNat
def k0_dev8 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v69 : BitVec 32 := Scalar.addi v2 c8_i32
  let c16_i32_50 : BitVec 32 := 16#32
  let v70 : BitVec 32 := Scalar.remsi v69 c16_i32_50
  let c1_i32_52 : BitVec 32 := 1#32
  let v71 : BitVec 32 := Scalar.muli v70 c1_i32_52
  let v72 : BitVec 32 := Scalar.addi c0_i32_53 v71
  v72.toNat
def k0_dev9 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v73 : BitVec 32 := Scalar.addi v2 c9_i32
  let c16_i32_54 : BitVec 32 := 16#32
  let v74 : BitVec 32 := Scalar.remsi v73 c16_i32_54
  let c1_i32_56 : BitVec 32 := 1#32
  let v75 : BitVec 32 := Scalar.muli v74 c1_i32_56
  let v76 : BitVec 32 := Scalar.addi c0_i32_57 v75
  v76.toNat
def k0_dev10 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v77 : BitVec 32 := Scalar.addi v2 c10_i32
  let c16_i32_58 : BitVec 32 := 16#32
  let v78 : BitVec 32 := Scalar.remsi v77 c16_i32_58
  let c1_i32_60 : BitVec 32 := 1#32
  let v79 : BitVec 32 := Scalar.muli v78 c1_i32_60
  let v80 : BitVec 32 := Scalar.addi c0_i32_61 v79
  v80.toNat
def k0_dev11 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v81 : BitVec 32 := Scalar.addi v2 c11_i32
  let c16_i32_62 : BitVec 32 := 16#32
  let v82 : BitVec 32 := Scalar.remsi v81 c16_i32_62
  let c1_i32_64 : BitVec 32 := 1#32
  let v83 : BitVec 32 := Scalar.muli v82 c1_i32_64
  let v84 : BitVec 32 := Scalar.addi c0_i32_65 v83
  v84.toNat
def k0_dev12 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v85 : BitVec 32 := Scalar.addi v2 c12_i32
  let c16_i32_66 : BitVec 32 := 16#32
  let v86 : BitVec 32 := Scalar.remsi v85 c16_i32_66
  let c1_i32_68 : BitVec 32 := 1#32
  let v87 : BitVec 32 := Scalar.muli v86 c1_i32_68
  let v88 : BitVec 32 := Scalar.addi c0_i32_69 v87
  v88.toNat
def k0_dev13 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v89 : BitVec 32 := Scalar.addi v2 c13_i32
  let c16_i32_70 : BitVec 32 := 16#32
  let v90 : BitVec 32 := Scalar.remsi v89 c16_i32_70
  let c1_i32_72 : BitVec 32 := 1#32
  let v91 : BitVec 32 := Scalar.muli v90 c1_i32_72
  let v92 : BitVec 32 := Scalar.addi c0_i32_73 v91
  v92.toNat
def k0_dev14 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v93 : BitVec 32 := Scalar.addi v2 c14_i32
  let c16_i32_74 : BitVec 32 := 16#32
  let v94 : BitVec 32 := Scalar.remsi v93 c16_i32_74
  let c1_i32_76 : BitVec 32 := 1#32
  let v95 : BitVec 32 := Scalar.muli v94 c1_i32_76
  let v96 : BitVec 32 := Scalar.addi c0_i32_77 v95
  v96.toNat
def k0_dev15 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v97 : BitVec 32 := Scalar.addi v2 c15_i32
  let c16_i32_78 : BitVec 32 := 16#32
  let v98 : BitVec 32 := Scalar.remsi v97 c16_i32_78
  let c1_i32_80 : BitVec 32 := 1#32
  let v99 : BitVec 32 := Scalar.muli v98 c1_i32_80
  let v100 : BitVec 32 := Scalar.addi c0_i32_81 v99
  v100.toNat
def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v151 : Index := Scalar.indexCast v2
  let c0_129 : Index := 0#32
  let c0_130 : Index := 0#32
  let c0_131 : Index := 0#32
  ![v151.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v155 : Index := Scalar.indexCast v2
  let c0_132 : Index := 0#32
  let c0_133 : Index := 0#32
  let c64 : Index := 64#32
  ![v155.toNat, 0, 0, 64]
def k0_off3 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v159 : Index := Scalar.indexCast v2
  let c0_134 : Index := 0#32
  let c0_135 : Index := 0#32
  let c65 : Index := 65#32
  ![v159.toNat, 0, 0, 65]
def k0_off4 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v193 : Index := Scalar.indexCast v2
  let c0_151 : Index := 0#32
  let c8 : Index := 8#32
  let c0_152 : Index := 0#32
  ![v193.toNat, 0, 8, 0]
def k0_off5 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v197 : Index := Scalar.indexCast v2
  let c0_153 : Index := 0#32
  let c8_154 : Index := 8#32
  let c64_155 : Index := 64#32
  ![v197.toNat, 0, 8, 64]
def k0_off6 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v201 : Index := Scalar.indexCast v2
  let c0_156 : Index := 0#32
  let c8_157 : Index := 8#32
  let c65_158 : Index := 65#32
  ![v201.toNat, 0, 8, 65]
def k0_off7 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_162 : BitVec 32 := 0#32
  let c0_i32_169 : BitVec 32 := 0#32
  let c0_i32_170 : BitVec 32 := 0#32
  ![v2.toNat, 0, 0, 0]
def k0_dev16 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_159 : BitVec 32 := 1#32
  let v205 : BitVec 32 := Scalar.addi v2 c1_i32_159
  let c16_i32_160 : BitVec 32 := 16#32
  let v206 : BitVec 32 := Scalar.remsi v205 c16_i32_160
  let c1_i32_167 : BitVec 32 := 1#32
  let v207 : BitVec 32 := Scalar.muli v206 c1_i32_167
  let v208 : BitVec 32 := Scalar.addi c0_i32_168 v207
  v208.toNat
def k0_dev17 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_173 : BitVec 32 := 2#32
  let v217 : BitVec 32 := Scalar.addi v2 c2_i32_173
  let c16_i32_174 : BitVec 32 := 16#32
  let v218 : BitVec 32 := Scalar.remsi v217 c16_i32_174
  let c1_i32_181 : BitVec 32 := 1#32
  let v219 : BitVec 32 := Scalar.muli v218 c1_i32_181
  let v220 : BitVec 32 := Scalar.addi c0_i32_182 v219
  v220.toNat
def k0_dev18 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_187 : BitVec 32 := 3#32
  let v229 : BitVec 32 := Scalar.addi v2 c3_i32_187
  let c16_i32_188 : BitVec 32 := 16#32
  let v230 : BitVec 32 := Scalar.remsi v229 c16_i32_188
  let c1_i32_195 : BitVec 32 := 1#32
  let v231 : BitVec 32 := Scalar.muli v230 c1_i32_195
  let v232 : BitVec 32 := Scalar.addi c0_i32_196 v231
  v232.toNat
def k0_dev19 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_201 : BitVec 32 := 4#32
  let v241 : BitVec 32 := Scalar.addi v2 c4_i32_201
  let c16_i32_202 : BitVec 32 := 16#32
  let v242 : BitVec 32 := Scalar.remsi v241 c16_i32_202
  let c1_i32_209 : BitVec 32 := 1#32
  let v243 : BitVec 32 := Scalar.muli v242 c1_i32_209
  let v244 : BitVec 32 := Scalar.addi c0_i32_210 v243
  v244.toNat
def k0_dev20 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_215 : BitVec 32 := 5#32
  let v253 : BitVec 32 := Scalar.addi v2 c5_i32_215
  let c16_i32_216 : BitVec 32 := 16#32
  let v254 : BitVec 32 := Scalar.remsi v253 c16_i32_216
  let c1_i32_223 : BitVec 32 := 1#32
  let v255 : BitVec 32 := Scalar.muli v254 c1_i32_223
  let v256 : BitVec 32 := Scalar.addi c0_i32_224 v255
  v256.toNat
def k0_dev21 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_229 : BitVec 32 := 6#32
  let v265 : BitVec 32 := Scalar.addi v2 c6_i32_229
  let c16_i32_230 : BitVec 32 := 16#32
  let v266 : BitVec 32 := Scalar.remsi v265 c16_i32_230
  let c1_i32_237 : BitVec 32 := 1#32
  let v267 : BitVec 32 := Scalar.muli v266 c1_i32_237
  let v268 : BitVec 32 := Scalar.addi c0_i32_238 v267
  v268.toNat
def k0_dev22 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_243 : BitVec 32 := 7#32
  let v277 : BitVec 32 := Scalar.addi v2 c7_i32_243
  let c16_i32_244 : BitVec 32 := 16#32
  let v278 : BitVec 32 := Scalar.remsi v277 c16_i32_244
  let c1_i32_251 : BitVec 32 := 1#32
  let v279 : BitVec 32 := Scalar.muli v278 c1_i32_251
  let v280 : BitVec 32 := Scalar.addi c0_i32_252 v279
  v280.toNat
def k0_dev23 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_257 : BitVec 32 := 8#32
  let v289 : BitVec 32 := Scalar.addi v2 c8_i32_257
  let c16_i32_258 : BitVec 32 := 16#32
  let v290 : BitVec 32 := Scalar.remsi v289 c16_i32_258
  let c1_i32_265 : BitVec 32 := 1#32
  let v291 : BitVec 32 := Scalar.muli v290 c1_i32_265
  let v292 : BitVec 32 := Scalar.addi c0_i32_266 v291
  v292.toNat
def k0_dev24 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_271 : BitVec 32 := 9#32
  let v301 : BitVec 32 := Scalar.addi v2 c9_i32_271
  let c16_i32_272 : BitVec 32 := 16#32
  let v302 : BitVec 32 := Scalar.remsi v301 c16_i32_272
  let c1_i32_279 : BitVec 32 := 1#32
  let v303 : BitVec 32 := Scalar.muli v302 c1_i32_279
  let v304 : BitVec 32 := Scalar.addi c0_i32_280 v303
  v304.toNat
def k0_dev25 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_285 : BitVec 32 := 10#32
  let v313 : BitVec 32 := Scalar.addi v2 c10_i32_285
  let c16_i32_286 : BitVec 32 := 16#32
  let v314 : BitVec 32 := Scalar.remsi v313 c16_i32_286
  let c1_i32_293 : BitVec 32 := 1#32
  let v315 : BitVec 32 := Scalar.muli v314 c1_i32_293
  let v316 : BitVec 32 := Scalar.addi c0_i32_294 v315
  v316.toNat
def k0_dev26 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_299 : BitVec 32 := 11#32
  let v325 : BitVec 32 := Scalar.addi v2 c11_i32_299
  let c16_i32_300 : BitVec 32 := 16#32
  let v326 : BitVec 32 := Scalar.remsi v325 c16_i32_300
  let c1_i32_307 : BitVec 32 := 1#32
  let v327 : BitVec 32 := Scalar.muli v326 c1_i32_307
  let v328 : BitVec 32 := Scalar.addi c0_i32_308 v327
  v328.toNat
def k0_dev27 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_313 : BitVec 32 := 12#32
  let v337 : BitVec 32 := Scalar.addi v2 c12_i32_313
  let c16_i32_314 : BitVec 32 := 16#32
  let v338 : BitVec 32 := Scalar.remsi v337 c16_i32_314
  let c1_i32_321 : BitVec 32 := 1#32
  let v339 : BitVec 32 := Scalar.muli v338 c1_i32_321
  let v340 : BitVec 32 := Scalar.addi c0_i32_322 v339
  v340.toNat
def k0_dev28 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_327 : BitVec 32 := 13#32
  let v349 : BitVec 32 := Scalar.addi v2 c13_i32_327
  let c16_i32_328 : BitVec 32 := 16#32
  let v350 : BitVec 32 := Scalar.remsi v349 c16_i32_328
  let c1_i32_335 : BitVec 32 := 1#32
  let v351 : BitVec 32 := Scalar.muli v350 c1_i32_335
  let v352 : BitVec 32 := Scalar.addi c0_i32_336 v351
  v352.toNat
def k0_dev29 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_341 : BitVec 32 := 14#32
  let v361 : BitVec 32 := Scalar.addi v2 c14_i32_341
  let c16_i32_342 : BitVec 32 := 16#32
  let v362 : BitVec 32 := Scalar.remsi v361 c16_i32_342
  let c1_i32_349 : BitVec 32 := 1#32
  let v363 : BitVec 32 := Scalar.muli v362 c1_i32_349
  let v364 : BitVec 32 := Scalar.addi c0_i32_350 v363
  v364.toNat
def k0_dev30 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_355 : BitVec 32 := 15#32
  let v373 : BitVec 32 := Scalar.addi v2 c15_i32_355
  let c16_i32_356 : BitVec 32 := 16#32
  let v374 : BitVec 32 := Scalar.remsi v373 c16_i32_356
  let c1_i32_363 : BitVec 32 := 1#32
  let v375 : BitVec 32 := Scalar.muli v374 c1_i32_363
  let v376 : BitVec 32 := Scalar.addi c0_i32_364 v375
  v376.toNat
def k0_off8 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v435 : Index := Scalar.indexCast v2
  let c1_416 : Index := 1#32
  let c0_417 : Index := 0#32
  let c0_418 : Index := 0#32
  ![v435.toNat, 1, 0, 0]
def k0_off9 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v439 : Index := Scalar.indexCast v2
  let c1_419 : Index := 1#32
  let c0_420 : Index := 0#32
  let c64_421 : Index := 64#32
  ![v439.toNat, 1, 0, 64]
def k0_off10 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v443 : Index := Scalar.indexCast v2
  let c1_422 : Index := 1#32
  let c0_423 : Index := 0#32
  let c65_424 : Index := 65#32
  ![v443.toNat, 1, 0, 65]
def k0_off11 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v477 : Index := Scalar.indexCast v2
  let c1_440 : Index := 1#32
  let c8_441 : Index := 8#32
  let c0_442 : Index := 0#32
  ![v477.toNat, 1, 8, 0]
def k0_off12 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v481 : Index := Scalar.indexCast v2
  let c1_443 : Index := 1#32
  let c8_444 : Index := 8#32
  let c64_445 : Index := 64#32
  ![v481.toNat, 1, 8, 64]
def k0_off13 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v485 : Index := Scalar.indexCast v2
  let c1_446 : Index := 1#32
  let c8_447 : Index := 8#32
  let c65_448 : Index := 65#32
  ![v485.toNat, 1, 8, 65]
def k0_off14 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_452 : BitVec 32 := 1#32
  let c0_i32_459 : BitVec 32 := 0#32
  let c0_i32_460 : BitVec 32 := 0#32
  ![v2.toNat, 1, 0, 0]
def k0_dev31 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let v489 : BitVec 32 := Scalar.addi v2 c1_i32_449
  let c16_i32_450 : BitVec 32 := 16#32
  let v490 : BitVec 32 := Scalar.remsi v489 c16_i32_450
  let c1_i32_457 : BitVec 32 := 1#32
  let v491 : BitVec 32 := Scalar.muli v490 c1_i32_457
  let v492 : BitVec 32 := Scalar.addi c0_i32_458 v491
  v492.toNat
def k0_dev32 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_463 : BitVec 32 := 2#32
  let v501 : BitVec 32 := Scalar.addi v2 c2_i32_463
  let c16_i32_464 : BitVec 32 := 16#32
  let v502 : BitVec 32 := Scalar.remsi v501 c16_i32_464
  let c1_i32_471 : BitVec 32 := 1#32
  let v503 : BitVec 32 := Scalar.muli v502 c1_i32_471
  let v504 : BitVec 32 := Scalar.addi c0_i32_472 v503
  v504.toNat
def k0_dev33 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_477 : BitVec 32 := 3#32
  let v513 : BitVec 32 := Scalar.addi v2 c3_i32_477
  let c16_i32_478 : BitVec 32 := 16#32
  let v514 : BitVec 32 := Scalar.remsi v513 c16_i32_478
  let c1_i32_485 : BitVec 32 := 1#32
  let v515 : BitVec 32 := Scalar.muli v514 c1_i32_485
  let v516 : BitVec 32 := Scalar.addi c0_i32_486 v515
  v516.toNat
def k0_dev34 (d0 : Dev nD) : Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_491 : BitVec 32 := 4#32
  let v525 : BitVec 32 := Scalar.addi v2 c4_i32_491
  let c16_i32_492 : BitVec 32 := 16#32
  let v526 : BitVec 32 := Scalar.remsi v525 c16_i32_492
  let c1_i32_499 : BitVec 32 := 1#32
  let v527 : BitVec 32 := Scalar.muli v526 c1_i32_499
  let v528 : BitVec 32 := Scalar.addi c0_i32_500 v527
  v528.toNat
def k0_dev35 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_505 : BitVec 32 := 5#32
  let v537 : BitVec 32 := Scalar.addi v2 c5_i32_505
  let c16_i32_506 : BitVec 32 := 16#32
  let v538 : BitVec 32 := Scalar.remsi v537 c16_i32_506
  let c1_i32_513 : BitVec 32 := 1#32
  let v539 : BitVec 32 := Scalar.muli v538 c1_i32_513
  let v540 : BitVec 32 := Scalar.addi c0_i32_514 v539
  v540.toNat
def k0_dev36 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_519 : BitVec 32 := 6#32
  let v549 : BitVec 32 := Scalar.addi v2 c6_i32_519
  let c16_i32_520 : BitVec 32 := 16#32
  let v550 : BitVec 32 := Scalar.remsi v549 c16_i32_520
  let c1_i32_527 : BitVec 32 := 1#32
  let v551 : BitVec 32 := Scalar.muli v550 c1_i32_527
  let v552 : BitVec 32 := Scalar.addi c0_i32_528 v551
  v552.toNat
def k0_dev37 (d0 : Dev nD) : Nat :=
  let c0_i32_542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_533 : BitVec 32 := 7#32
  let v561 : BitVec 32 := Scalar.addi v2 c7_i32_533
  let c16_i32_534 : BitVec 32 := 16#32
  let v562 : BitVec 32 := Scalar.remsi v561 c16_i32_534
  let c1_i32_541 : BitVec 32 := 1#32
  let v563 : BitVec 32 := Scalar.muli v562 c1_i32_541
  let v564 : BitVec 32 := Scalar.addi c0_i32_542 v563
  v564.toNat
def k0_dev38 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_547 : BitVec 32 := 8#32
  let v573 : BitVec 32 := Scalar.addi v2 c8_i32_547
  let c16_i32_548 : BitVec 32 := 16#32
  let v574 : BitVec 32 := Scalar.remsi v573 c16_i32_548
  let c1_i32_555 : BitVec 32 := 1#32
  let v575 : BitVec 32 := Scalar.muli v574 c1_i32_555
  let v576 : BitVec 32 := Scalar.addi c0_i32_556 v575
  v576.toNat
def k0_dev39 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_561 : BitVec 32 := 9#32
  let v585 : BitVec 32 := Scalar.addi v2 c9_i32_561
  let c16_i32_562 : BitVec 32 := 16#32
  let v586 : BitVec 32 := Scalar.remsi v585 c16_i32_562
  let c1_i32_569 : BitVec 32 := 1#32
  let v587 : BitVec 32 := Scalar.muli v586 c1_i32_569
  let v588 : BitVec 32 := Scalar.addi c0_i32_570 v587
  v588.toNat
def k0_dev40 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_575 : BitVec 32 := 10#32
  let v597 : BitVec 32 := Scalar.addi v2 c10_i32_575
  let c16_i32_576 : BitVec 32 := 16#32
  let v598 : BitVec 32 := Scalar.remsi v597 c16_i32_576
  let c1_i32_583 : BitVec 32 := 1#32
  let v599 : BitVec 32 := Scalar.muli v598 c1_i32_583
  let v600 : BitVec 32 := Scalar.addi c0_i32_584 v599
  v600.toNat
def k0_dev41 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_589 : BitVec 32 := 11#32
  let v609 : BitVec 32 := Scalar.addi v2 c11_i32_589
  let c16_i32_590 : BitVec 32 := 16#32
  let v610 : BitVec 32 := Scalar.remsi v609 c16_i32_590
  let c1_i32_597 : BitVec 32 := 1#32
  let v611 : BitVec 32 := Scalar.muli v610 c1_i32_597
  let v612 : BitVec 32 := Scalar.addi c0_i32_598 v611
  v612.toNat
def k0_dev42 (d0 : Dev nD) : Nat :=
  let c0_i32_612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_603 : BitVec 32 := 12#32
  let v621 : BitVec 32 := Scalar.addi v2 c12_i32_603
  let c16_i32_604 : BitVec 32 := 16#32
  let v622 : BitVec 32 := Scalar.remsi v621 c16_i32_604
  let c1_i32_611 : BitVec 32 := 1#32
  let v623 : BitVec 32 := Scalar.muli v622 c1_i32_611
  let v624 : BitVec 32 := Scalar.addi c0_i32_612 v623
  v624.toNat
def k0_dev43 (d0 : Dev nD) : Nat :=
  let c0_i32_626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_617 : BitVec 32 := 13#32
  let v633 : BitVec 32 := Scalar.addi v2 c13_i32_617
  let c16_i32_618 : BitVec 32 := 16#32
  let v634 : BitVec 32 := Scalar.remsi v633 c16_i32_618
  let c1_i32_625 : BitVec 32 := 1#32
  let v635 : BitVec 32 := Scalar.muli v634 c1_i32_625
  let v636 : BitVec 32 := Scalar.addi c0_i32_626 v635
  v636.toNat
def k0_dev44 (d0 : Dev nD) : Nat :=
  let c0_i32_640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_631 : BitVec 32 := 14#32
  let v645 : BitVec 32 := Scalar.addi v2 c14_i32_631
  let c16_i32_632 : BitVec 32 := 16#32
  let v646 : BitVec 32 := Scalar.remsi v645 c16_i32_632
  let c1_i32_639 : BitVec 32 := 1#32
  let v647 : BitVec 32 := Scalar.muli v646 c1_i32_639
  let v648 : BitVec 32 := Scalar.addi c0_i32_640 v647
  v648.toNat
def k0_dev45 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_645 : BitVec 32 := 15#32
  let v657 : BitVec 32 := Scalar.addi v2 c15_i32_645
  let c16_i32_646 : BitVec 32 := 16#32
  let v658 : BitVec 32 := Scalar.remsi v657 c16_i32_646
  let c1_i32_653 : BitVec 32 := 1#32
  let v659 : BitVec 32 := Scalar.muli v658 c1_i32_653
  let v660 : BitVec 32 := Scalar.addi c0_i32_654 v659
  v660.toNat
def k0_off15 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v719 : Index := Scalar.indexCast v2
  let c2_706 : Index := 2#32
  let c0_707 : Index := 0#32
  let c0_708 : Index := 0#32
  ![v719.toNat, 2, 0, 0]
def k0_off16 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v723 : Index := Scalar.indexCast v2
  let c2_709 : Index := 2#32
  let c0_710 : Index := 0#32
  let c64_711 : Index := 64#32
  ![v723.toNat, 2, 0, 64]
def k0_off17 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v727 : Index := Scalar.indexCast v2
  let c2_712 : Index := 2#32
  let c0_713 : Index := 0#32
  let c65_714 : Index := 65#32
  ![v727.toNat, 2, 0, 65]
def k0_off18 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v761 : Index := Scalar.indexCast v2
  let c2_730 : Index := 2#32
  let c8_731 : Index := 8#32
  let c0_732 : Index := 0#32
  ![v761.toNat, 2, 8, 0]
def k0_off19 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v765 : Index := Scalar.indexCast v2
  let c2_733 : Index := 2#32
  let c8_734 : Index := 8#32
  let c64_735 : Index := 64#32
  ![v765.toNat, 2, 8, 64]
def k0_off20 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v769 : Index := Scalar.indexCast v2
  let c2_736 : Index := 2#32
  let c8_737 : Index := 8#32
  let c65_738 : Index := 65#32
  ![v769.toNat, 2, 8, 65]
def k0_off21 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_742 : BitVec 32 := 2#32
  let c0_i32_749 : BitVec 32 := 0#32
  let c0_i32_750 : BitVec 32 := 0#32
  ![v2.toNat, 2, 0, 0]
def k0_dev46 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_739 : BitVec 32 := 1#32
  let v773 : BitVec 32 := Scalar.addi v2 c1_i32_739
  let c16_i32_740 : BitVec 32 := 16#32
  let v774 : BitVec 32 := Scalar.remsi v773 c16_i32_740
  let c1_i32_747 : BitVec 32 := 1#32
  let v775 : BitVec 32 := Scalar.muli v774 c1_i32_747
  let v776 : BitVec 32 := Scalar.addi c0_i32_748 v775
  v776.toNat
def k0_dev47 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_753 : BitVec 32 := 2#32
  let v785 : BitVec 32 := Scalar.addi v2 c2_i32_753
  let c16_i32_754 : BitVec 32 := 16#32
  let v786 : BitVec 32 := Scalar.remsi v785 c16_i32_754
  let c1_i32_761 : BitVec 32 := 1#32
  let v787 : BitVec 32 := Scalar.muli v786 c1_i32_761
  let v788 : BitVec 32 := Scalar.addi c0_i32_762 v787
  v788.toNat
def k0_dev48 (d0 : Dev nD) : Nat :=
  let c0_i32_776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_767 : BitVec 32 := 3#32
  let v797 : BitVec 32 := Scalar.addi v2 c3_i32_767
  let c16_i32_768 : BitVec 32 := 16#32
  let v798 : BitVec 32 := Scalar.remsi v797 c16_i32_768
  let c1_i32_775 : BitVec 32 := 1#32
  let v799 : BitVec 32 := Scalar.muli v798 c1_i32_775
  let v800 : BitVec 32 := Scalar.addi c0_i32_776 v799
  v800.toNat
def k0_dev49 (d0 : Dev nD) : Nat :=
  let c0_i32_790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_781 : BitVec 32 := 4#32
  let v809 : BitVec 32 := Scalar.addi v2 c4_i32_781
  let c16_i32_782 : BitVec 32 := 16#32
  let v810 : BitVec 32 := Scalar.remsi v809 c16_i32_782
  let c1_i32_789 : BitVec 32 := 1#32
  let v811 : BitVec 32 := Scalar.muli v810 c1_i32_789
  let v812 : BitVec 32 := Scalar.addi c0_i32_790 v811
  v812.toNat
def k0_dev50 (d0 : Dev nD) : Nat :=
  let c0_i32_804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_795 : BitVec 32 := 5#32
  let v821 : BitVec 32 := Scalar.addi v2 c5_i32_795
  let c16_i32_796 : BitVec 32 := 16#32
  let v822 : BitVec 32 := Scalar.remsi v821 c16_i32_796
  let c1_i32_803 : BitVec 32 := 1#32
  let v823 : BitVec 32 := Scalar.muli v822 c1_i32_803
  let v824 : BitVec 32 := Scalar.addi c0_i32_804 v823
  v824.toNat
def k0_dev51 (d0 : Dev nD) : Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_809 : BitVec 32 := 6#32
  let v833 : BitVec 32 := Scalar.addi v2 c6_i32_809
  let c16_i32_810 : BitVec 32 := 16#32
  let v834 : BitVec 32 := Scalar.remsi v833 c16_i32_810
  let c1_i32_817 : BitVec 32 := 1#32
  let v835 : BitVec 32 := Scalar.muli v834 c1_i32_817
  let v836 : BitVec 32 := Scalar.addi c0_i32_818 v835
  v836.toNat
def k0_dev52 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_823 : BitVec 32 := 7#32
  let v845 : BitVec 32 := Scalar.addi v2 c7_i32_823
  let c16_i32_824 : BitVec 32 := 16#32
  let v846 : BitVec 32 := Scalar.remsi v845 c16_i32_824
  let c1_i32_831 : BitVec 32 := 1#32
  let v847 : BitVec 32 := Scalar.muli v846 c1_i32_831
  let v848 : BitVec 32 := Scalar.addi c0_i32_832 v847
  v848.toNat
def k0_dev53 (d0 : Dev nD) : Nat :=
  let c0_i32_846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_837 : BitVec 32 := 8#32
  let v857 : BitVec 32 := Scalar.addi v2 c8_i32_837
  let c16_i32_838 : BitVec 32 := 16#32
  let v858 : BitVec 32 := Scalar.remsi v857 c16_i32_838
  let c1_i32_845 : BitVec 32 := 1#32
  let v859 : BitVec 32 := Scalar.muli v858 c1_i32_845
  let v860 : BitVec 32 := Scalar.addi c0_i32_846 v859
  v860.toNat
def k0_dev54 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_851 : BitVec 32 := 9#32
  let v869 : BitVec 32 := Scalar.addi v2 c9_i32_851
  let c16_i32_852 : BitVec 32 := 16#32
  let v870 : BitVec 32 := Scalar.remsi v869 c16_i32_852
  let c1_i32_859 : BitVec 32 := 1#32
  let v871 : BitVec 32 := Scalar.muli v870 c1_i32_859
  let v872 : BitVec 32 := Scalar.addi c0_i32_860 v871
  v872.toNat
def k0_dev55 (d0 : Dev nD) : Nat :=
  let c0_i32_874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_865 : BitVec 32 := 10#32
  let v881 : BitVec 32 := Scalar.addi v2 c10_i32_865
  let c16_i32_866 : BitVec 32 := 16#32
  let v882 : BitVec 32 := Scalar.remsi v881 c16_i32_866
  let c1_i32_873 : BitVec 32 := 1#32
  let v883 : BitVec 32 := Scalar.muli v882 c1_i32_873
  let v884 : BitVec 32 := Scalar.addi c0_i32_874 v883
  v884.toNat
def k0_dev56 (d0 : Dev nD) : Nat :=
  let c0_i32_888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_879 : BitVec 32 := 11#32
  let v893 : BitVec 32 := Scalar.addi v2 c11_i32_879
  let c16_i32_880 : BitVec 32 := 16#32
  let v894 : BitVec 32 := Scalar.remsi v893 c16_i32_880
  let c1_i32_887 : BitVec 32 := 1#32
  let v895 : BitVec 32 := Scalar.muli v894 c1_i32_887
  let v896 : BitVec 32 := Scalar.addi c0_i32_888 v895
  v896.toNat
def k0_dev57 (d0 : Dev nD) : Nat :=
  let c0_i32_902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_893 : BitVec 32 := 12#32
  let v905 : BitVec 32 := Scalar.addi v2 c12_i32_893
  let c16_i32_894 : BitVec 32 := 16#32
  let v906 : BitVec 32 := Scalar.remsi v905 c16_i32_894
  let c1_i32_901 : BitVec 32 := 1#32
  let v907 : BitVec 32 := Scalar.muli v906 c1_i32_901
  let v908 : BitVec 32 := Scalar.addi c0_i32_902 v907
  v908.toNat
def k0_dev58 (d0 : Dev nD) : Nat :=
  let c0_i32_916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_907 : BitVec 32 := 13#32
  let v917 : BitVec 32 := Scalar.addi v2 c13_i32_907
  let c16_i32_908 : BitVec 32 := 16#32
  let v918 : BitVec 32 := Scalar.remsi v917 c16_i32_908
  let c1_i32_915 : BitVec 32 := 1#32
  let v919 : BitVec 32 := Scalar.muli v918 c1_i32_915
  let v920 : BitVec 32 := Scalar.addi c0_i32_916 v919
  v920.toNat
def k0_dev59 (d0 : Dev nD) : Nat :=
  let c0_i32_930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_921 : BitVec 32 := 14#32
  let v929 : BitVec 32 := Scalar.addi v2 c14_i32_921
  let c16_i32_922 : BitVec 32 := 16#32
  let v930 : BitVec 32 := Scalar.remsi v929 c16_i32_922
  let c1_i32_929 : BitVec 32 := 1#32
  let v931 : BitVec 32 := Scalar.muli v930 c1_i32_929
  let v932 : BitVec 32 := Scalar.addi c0_i32_930 v931
  v932.toNat
def k0_dev60 (d0 : Dev nD) : Nat :=
  let c0_i32_944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_935 : BitVec 32 := 15#32
  let v941 : BitVec 32 := Scalar.addi v2 c15_i32_935
  let c16_i32_936 : BitVec 32 := 16#32
  let v942 : BitVec 32 := Scalar.remsi v941 c16_i32_936
  let c1_i32_943 : BitVec 32 := 1#32
  let v943 : BitVec 32 := Scalar.muli v942 c1_i32_943
  let v944 : BitVec 32 := Scalar.addi c0_i32_944 v943
  v944.toNat
def k0_off22 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v993 : Index := Scalar.indexCast v2
  let c3_980 : Index := 3#32
  let c0_981 : Index := 0#32
  let c0_982 : Index := 0#32
  ![v993.toNat, 3, 0, 0]
def k0_off23 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v997 : Index := Scalar.indexCast v2
  let c3_983 : Index := 3#32
  let c0_984 : Index := 0#32
  let c64_985 : Index := 64#32
  ![v997.toNat, 3, 0, 64]
def k0_off24 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1001 : Index := Scalar.indexCast v2
  let c3_986 : Index := 3#32
  let c0_987 : Index := 0#32
  let c65_988 : Index := 65#32
  ![v1001.toNat, 3, 0, 65]
def k0_off25 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1035 : Index := Scalar.indexCast v2
  let c3_1004 : Index := 3#32
  let c8_1005 : Index := 8#32
  let c0_1006 : Index := 0#32
  ![v1035.toNat, 3, 8, 0]
def k0_off26 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1039 : Index := Scalar.indexCast v2
  let c3_1007 : Index := 3#32
  let c8_1008 : Index := 8#32
  let c64_1009 : Index := 64#32
  ![v1039.toNat, 3, 8, 64]
def k0_off27 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1043 : Index := Scalar.indexCast v2
  let c3_1010 : Index := 3#32
  let c8_1011 : Index := 8#32
  let c65_1012 : Index := 65#32
  ![v1043.toNat, 3, 8, 65]
def k0_off28 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1016 : BitVec 32 := 3#32
  let c0_i32_1023 : BitVec 32 := 0#32
  let c0_i32_1024 : BitVec 32 := 0#32
  ![v2.toNat, 3, 0, 0]
def k0_dev61 (d0 : Dev nD) : Nat :=
  let c0_i32_1022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1013 : BitVec 32 := 1#32
  let v1047 : BitVec 32 := Scalar.addi v2 c1_i32_1013
  let c16_i32_1014 : BitVec 32 := 16#32
  let v1048 : BitVec 32 := Scalar.remsi v1047 c16_i32_1014
  let c1_i32_1021 : BitVec 32 := 1#32
  let v1049 : BitVec 32 := Scalar.muli v1048 c1_i32_1021
  let v1050 : BitVec 32 := Scalar.addi c0_i32_1022 v1049
  v1050.toNat
def k0_dev62 (d0 : Dev nD) : Nat :=
  let c0_i32_1036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1027 : BitVec 32 := 2#32
  let v1059 : BitVec 32 := Scalar.addi v2 c2_i32_1027
  let c16_i32_1028 : BitVec 32 := 16#32
  let v1060 : BitVec 32 := Scalar.remsi v1059 c16_i32_1028
  let c1_i32_1035 : BitVec 32 := 1#32
  let v1061 : BitVec 32 := Scalar.muli v1060 c1_i32_1035
  let v1062 : BitVec 32 := Scalar.addi c0_i32_1036 v1061
  v1062.toNat
def k0_dev63 (d0 : Dev nD) : Nat :=
  let c0_i32_1050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1041 : BitVec 32 := 3#32
  let v1071 : BitVec 32 := Scalar.addi v2 c3_i32_1041
  let c16_i32_1042 : BitVec 32 := 16#32
  let v1072 : BitVec 32 := Scalar.remsi v1071 c16_i32_1042
  let c1_i32_1049 : BitVec 32 := 1#32
  let v1073 : BitVec 32 := Scalar.muli v1072 c1_i32_1049
  let v1074 : BitVec 32 := Scalar.addi c0_i32_1050 v1073
  v1074.toNat
def k0_dev64 (d0 : Dev nD) : Nat :=
  let c0_i32_1064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1055 : BitVec 32 := 4#32
  let v1083 : BitVec 32 := Scalar.addi v2 c4_i32_1055
  let c16_i32_1056 : BitVec 32 := 16#32
  let v1084 : BitVec 32 := Scalar.remsi v1083 c16_i32_1056
  let c1_i32_1063 : BitVec 32 := 1#32
  let v1085 : BitVec 32 := Scalar.muli v1084 c1_i32_1063
  let v1086 : BitVec 32 := Scalar.addi c0_i32_1064 v1085
  v1086.toNat
def k0_dev65 (d0 : Dev nD) : Nat :=
  let c0_i32_1078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1069 : BitVec 32 := 5#32
  let v1095 : BitVec 32 := Scalar.addi v2 c5_i32_1069
  let c16_i32_1070 : BitVec 32 := 16#32
  let v1096 : BitVec 32 := Scalar.remsi v1095 c16_i32_1070
  let c1_i32_1077 : BitVec 32 := 1#32
  let v1097 : BitVec 32 := Scalar.muli v1096 c1_i32_1077
  let v1098 : BitVec 32 := Scalar.addi c0_i32_1078 v1097
  v1098.toNat
def k0_dev66 (d0 : Dev nD) : Nat :=
  let c0_i32_1092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1083 : BitVec 32 := 6#32
  let v1107 : BitVec 32 := Scalar.addi v2 c6_i32_1083
  let c16_i32_1084 : BitVec 32 := 16#32
  let v1108 : BitVec 32 := Scalar.remsi v1107 c16_i32_1084
  let c1_i32_1091 : BitVec 32 := 1#32
  let v1109 : BitVec 32 := Scalar.muli v1108 c1_i32_1091
  let v1110 : BitVec 32 := Scalar.addi c0_i32_1092 v1109
  v1110.toNat
def k0_dev67 (d0 : Dev nD) : Nat :=
  let c0_i32_1106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1097 : BitVec 32 := 7#32
  let v1119 : BitVec 32 := Scalar.addi v2 c7_i32_1097
  let c16_i32_1098 : BitVec 32 := 16#32
  let v1120 : BitVec 32 := Scalar.remsi v1119 c16_i32_1098
  let c1_i32_1105 : BitVec 32 := 1#32
  let v1121 : BitVec 32 := Scalar.muli v1120 c1_i32_1105
  let v1122 : BitVec 32 := Scalar.addi c0_i32_1106 v1121
  v1122.toNat
def k0_dev68 (d0 : Dev nD) : Nat :=
  let c0_i32_1120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1111 : BitVec 32 := 8#32
  let v1131 : BitVec 32 := Scalar.addi v2 c8_i32_1111
  let c16_i32_1112 : BitVec 32 := 16#32
  let v1132 : BitVec 32 := Scalar.remsi v1131 c16_i32_1112
  let c1_i32_1119 : BitVec 32 := 1#32
  let v1133 : BitVec 32 := Scalar.muli v1132 c1_i32_1119
  let v1134 : BitVec 32 := Scalar.addi c0_i32_1120 v1133
  v1134.toNat
def k0_dev69 (d0 : Dev nD) : Nat :=
  let c0_i32_1134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1125 : BitVec 32 := 9#32
  let v1143 : BitVec 32 := Scalar.addi v2 c9_i32_1125
  let c16_i32_1126 : BitVec 32 := 16#32
  let v1144 : BitVec 32 := Scalar.remsi v1143 c16_i32_1126
  let c1_i32_1133 : BitVec 32 := 1#32
  let v1145 : BitVec 32 := Scalar.muli v1144 c1_i32_1133
  let v1146 : BitVec 32 := Scalar.addi c0_i32_1134 v1145
  v1146.toNat
def k0_dev70 (d0 : Dev nD) : Nat :=
  let c0_i32_1148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1139 : BitVec 32 := 10#32
  let v1155 : BitVec 32 := Scalar.addi v2 c10_i32_1139
  let c16_i32_1140 : BitVec 32 := 16#32
  let v1156 : BitVec 32 := Scalar.remsi v1155 c16_i32_1140
  let c1_i32_1147 : BitVec 32 := 1#32
  let v1157 : BitVec 32 := Scalar.muli v1156 c1_i32_1147
  let v1158 : BitVec 32 := Scalar.addi c0_i32_1148 v1157
  v1158.toNat
def k0_dev71 (d0 : Dev nD) : Nat :=
  let c0_i32_1162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1153 : BitVec 32 := 11#32
  let v1167 : BitVec 32 := Scalar.addi v2 c11_i32_1153
  let c16_i32_1154 : BitVec 32 := 16#32
  let v1168 : BitVec 32 := Scalar.remsi v1167 c16_i32_1154
  let c1_i32_1161 : BitVec 32 := 1#32
  let v1169 : BitVec 32 := Scalar.muli v1168 c1_i32_1161
  let v1170 : BitVec 32 := Scalar.addi c0_i32_1162 v1169
  v1170.toNat
def k0_dev72 (d0 : Dev nD) : Nat :=
  let c0_i32_1176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1167 : BitVec 32 := 12#32
  let v1179 : BitVec 32 := Scalar.addi v2 c12_i32_1167
  let c16_i32_1168 : BitVec 32 := 16#32
  let v1180 : BitVec 32 := Scalar.remsi v1179 c16_i32_1168
  let c1_i32_1175 : BitVec 32 := 1#32
  let v1181 : BitVec 32 := Scalar.muli v1180 c1_i32_1175
  let v1182 : BitVec 32 := Scalar.addi c0_i32_1176 v1181
  v1182.toNat
def k0_dev73 (d0 : Dev nD) : Nat :=
  let c0_i32_1190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1181 : BitVec 32 := 13#32
  let v1191 : BitVec 32 := Scalar.addi v2 c13_i32_1181
  let c16_i32_1182 : BitVec 32 := 16#32
  let v1192 : BitVec 32 := Scalar.remsi v1191 c16_i32_1182
  let c1_i32_1189 : BitVec 32 := 1#32
  let v1193 : BitVec 32 := Scalar.muli v1192 c1_i32_1189
  let v1194 : BitVec 32 := Scalar.addi c0_i32_1190 v1193
  v1194.toNat
def k0_dev74 (d0 : Dev nD) : Nat :=
  let c0_i32_1204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1195 : BitVec 32 := 14#32
  let v1203 : BitVec 32 := Scalar.addi v2 c14_i32_1195
  let c16_i32_1196 : BitVec 32 := 16#32
  let v1204 : BitVec 32 := Scalar.remsi v1203 c16_i32_1196
  let c1_i32_1203 : BitVec 32 := 1#32
  let v1205 : BitVec 32 := Scalar.muli v1204 c1_i32_1203
  let v1206 : BitVec 32 := Scalar.addi c0_i32_1204 v1205
  v1206.toNat
def k0_dev75 (d0 : Dev nD) : Nat :=
  let c0_i32_1218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1209 : BitVec 32 := 15#32
  let v1215 : BitVec 32 := Scalar.addi v2 c15_i32_1209
  let c16_i32_1210 : BitVec 32 := 16#32
  let v1216 : BitVec 32 := Scalar.remsi v1215 c16_i32_1210
  let c1_i32_1217 : BitVec 32 := 1#32
  let v1217 : BitVec 32 := Scalar.muli v1216 c1_i32_1217
  let v1218 : BitVec 32 := Scalar.addi c0_i32_1218 v1217
  v1218.toNat
abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x1x8x64 : Shape := ⟨4, ![8, 1, 8, 64]⟩
abbrev S8x8192x8x64 : Shape := ⟨4, ![8, 8192, 8, 64]⟩
abbrev S8x8x1x8192 : Shape := ⟨4, ![8, 8, 1, 8192]⟩
abbrev S_ : Shape := ⟨0, ![]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 20
  | .vmem => 0
  | .smem => 0
  | _ => 0

abbrev bufTy : (tb : Table) → Fin (tcTables nBuf tb) → BufTy
  | .hbm, ⟨0, _⟩ => ⟨S8x1x8x64, .f32⟩
  | .hbm, ⟨1, _⟩ => ⟨S8x8192x8x64, .f32⟩
  | .hbm, ⟨2, _⟩ => ⟨S8x8192x8x64, .f32⟩
  | .hbm, ⟨3, _⟩ => ⟨S8x8x1x8192, .f32⟩
  | .hbm, ⟨4, _⟩ => ⟨S_, .f32⟩
  | .hbm, ⟨5, _⟩ => ⟨S8x8x1x8192, .f32⟩
  | .hbm, ⟨6, _⟩ => ⟨S8x8x1x8192, .f32⟩
  | .hbm, ⟨7, _⟩ => ⟨S_, .f32⟩
  | .hbm, ⟨8, _⟩ => ⟨S8x8x1, .f32⟩
  | .hbm, ⟨9, _⟩ => ⟨S8x8x1x1, .f32⟩
  | .hbm, ⟨10, _⟩ => ⟨S8x8x1x8192, .f32⟩
  | .hbm, ⟨11, _⟩ => ⟨S8x8x1x8192, .f32⟩
  | .hbm, ⟨12, _⟩ => ⟨S8x8x1x8192, .f32⟩
  | .hbm, ⟨13, _⟩ => ⟨S_, .f32⟩
  | .hbm, ⟨14, _⟩ => ⟨S8x8x1, .f32⟩
  | .hbm, ⟨15, _⟩ => ⟨S8x8x1x1, .f32⟩
  | .hbm, ⟨16, _⟩ => ⟨S8x8x1x8192, .f32⟩
  | .hbm, ⟨17, _⟩ => ⟨S8x8x1x8192, .f32⟩
  | .hbm, ⟨18, _⟩ => ⟨S8x8x64x1, .f32⟩
  | .hbm, ⟨19, _⟩ => ⟨S8x1x8x64, .f32⟩
  | _, _ => ⟨S8x1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Protocol.lean ====
/-
The talk between the devices: the cells, what passes through them, and the schedule.

Each device computes, chunk by chunk, a partial result (the accumulated product, the row maximum, the row sum) and
keeps it in its own row of the gather buffer; each chunk's slot is copied to the same slot of every other device.

* barrier cell of device t: fifteen duties, duty o paid by device t + o + 1. It hands t the four slots of t's row on
  the payer, and that the payer has reached round 0 of the four receive cells t's copies credit.
* copy cells of the K and V streams: two each, two rounds each (chunk 2 r + j in round r of cell j).
* send cell n of device c (n = 15 ch + o): one duty, the share of the slot (c, ch) the copy to c + o + 1 reads.
* receive cell n of device t: one duty, paid by the copy of t - o - 1: t's own slot (t - o - 1, ch), filled.
-/
module

public import proofs.«01_k».proof.Proof.Gen.KernelIdeal
public import proofs.«01_k».proof.Proof.Gen.KernelIdeal.Skeleton
public import proofs.«01_k».proof.Proof.Gen.KernelIdeal.Frame
public import proofs.«01_k».proof.Proof.Gen.KernelIdeal.Launch
public import Idealize.ShloMosaic.Lib.Pipeline.Launch
public import Idealize.ShloMosaic.Lib.Pipeline.Kit
public import Idealize.ShloMosaic.Lib.Pipeline.RegionTalk
public import Idealize.ShloMosaic.Lib.Transfers
public import Idealize.ShloMosaic.Lib.Tactic
public import Mathlib.Algebra.BigOperators.Intervals

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

/-! ## Resources -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Values -/

abbrev qIx (b : Fin 8) (j : Fin 512) : S8x512.Idx
  | 0 => b
  | 1 => j
abbrev kIx (b : Fin 8) (r j : Fin 512) : S8x512x512.Idx
  | 0 => b
  | 1 => r
  | 2 => j
abbrev oIx (h : Fin 8) (j : Fin 64) : S1x1x8x64.Idx
  | 0 => (0 : Fin 1)
  | 1 => (0 : Fin 1)
  | 2 => h
  | 3 => j
abbrev lIx (h : Fin 8) : S1x1x8x1.Idx
  | 0 => (0 : Fin 1)
  | 1 => (0 : Fin 1)
  | 2 => h
  | 3 => (0 : Fin 1)

/-- Row `b` of the queries on device `s`. -/
def qrow (s : Dev nD) (b : Fin 8) : Vec F S1x512 .f32 := fun i => (V m s main_v1 : Vec F S8x512 .f32) (qIx b (i 1))
/-- Batch `b` of the keys on device `s`. -/
def kblk (s : Dev nD) (b : Fin 8) : Vec F S1x1x512x512 .f32 := fun i => (V m s main_v2 : Vec F S8x512x512 .f32) (kIx b (i 2) (i 3))
/-- Batch `b` of the values on device `s`. -/
def vblk (s : Dev nD) (b : Fin 8) : Vec F S1x1x512x512 .f32 := fun i => (V m s main_v3 : Vec F S8x512x512 .f32) (kIx b (i 2) (i 3))

/-- The accumulated product, the row maximum and the row sum of one batch's block. -/
def partO (q : Vec F S1x512 .f32) (k v : Vec F S1x1x512x512 .f32) : FVec F S1x1x8x64 .f32 := k0_pay16 (k0_pay12 k0_pay2 q) k v
def partM (q : Vec F S1x512 .f32) (k : Vec F S1x1x512x512 .f32) : FVec F S1x1x8x1 .f32 := k0_pay17 (k0_pay12 k0_pay2 q) k
def partL (q : Vec F S1x512 .f32) (k : Vec F S1x1x512x512 .f32) : FVec F S1x1x8x1 .f32 := k0_pay18 (k0_pay12 k0_pay2 q) k

/-- The batch and the head of an element of the gather buffer. -/
def bOf (i : S16x4x16x128.Idx) : Fin 8 :=
  ⟨2 * (i 1).val + (i 2).val / 8, by have h1 : (i 1).val < 4 := (i 1).isLt; have h2 : (i 2).val < 16 := (i 2).isLt; omega⟩
def hOf (i : S16x4x16x128.Idx) : Fin 8 := ⟨(i 2).val % 8, Nat.mod_lt _ (by decide)⟩

/-- What every device's gather buffer holds in its columns 0 to 65 once everything has arrived. -/
def G : Vec F S16x4x16x128 .f32 := fun i =>
  if h : (i 3).val < 64 then partO (qrow m (i 0) (bOf i)) (kblk m (i 0) (bOf i)) (vblk m (i 0) (bOf i)) (oIx (hOf i) ⟨(i 3).val, h⟩)
  else if (i 3).val = 64 then partM (qrow m (i 0) (bOf i)) (kblk m (i 0) (bOf i)) (lIx (hOf i))
  else partL (qrow m (i 0) (bOf i)) (kblk m (i 0) (bOf i)) (lIx (hOf i))

/-! ## Views, sets and points-tos -/

abbrev qM : Memref sig .tc .vmem S8x512 .f32 := Memref.whole cc0_stg0_0
abbrev kH : Memref sig .tc .hbm S8x512x512 .f32 := Memref.whole main_v2
abbrev vH : Memref sig .tc .hbm S8x512x512 .f32 := Memref.whole main_v3
abbrev oM : Memref sig .tc .vmem S8x1x8x64 .f32 := Memref.whole cc0_stg1_0
abbrev kB : Memref sig .tc .vmem S2x2x512x512 .f32 := Memref.whole cc0_scratch0
abbrev vB : Memref sig .tc .vmem S2x2x512x512 .f32 := Memref.whole cc0_scratch1
abbrev gB : Memref sig .tc .vmem S16x4x16x128 .f32 := Memref.whole cc0_scratch2

/-- The slot of device `s` and chunk `ch` in the gather buffer. -/
def slotSet (s ch : ℕ) : Finset S16x4x16x128.Idx := Finset.univ.filter fun i => (i 0).val = s ∧ (i 1).val = ch
/-- Half `j` of a K or V scratch buffer; chunk `ch` of K or V. -/
def halfSet (j : ℕ) : Finset S2x2x512x512.Idx := Finset.univ.filter fun i => (i 0).val = j
def chunkSet (ch : ℕ) : Finset S8x512x512.Idx := Finset.univ.filter fun i => (i 0).val / 2 = ch

abbrev gLoc (c : Dev nD) : Loc nD τ sig := (c : Thread nD τ).loc cc0_scratch2

/-- A slot of device `d`'s gather buffer at contents not chosen. -/
def slotAny (d : Dev nD) (s ch : ℕ) : sProp 𝕄 := iprop(∃ f : Buf (Elt F) (gLoc d), gLoc d ↦[slotSet s ch]{fullShare} f)
/-- A share of a slot of device `d`'s gather buffer holding what it is to hold. -/
def slotPts (d : Dev nD) (s ch : ℕ) (q : PosShare TreeShare) : sProp 𝕄 :=
  iprop(∃ f : Buf (Elt F) (gLoc d), ⌜∀ i ∈ slotSet s ch, (i 3).val < 66 → f i = G m i⌝ ∗ gLoc d ↦[slotSet s ch]{q} f)

/-- A half of the K scratch at contents not chosen; at chunk `ch`; and the chunk it is copied from. -/
def kAny (d : Dev nD) (j : ℕ) : sProp 𝕄 :=
  iprop(∃ f : Buf (Elt F) ((d : Thread nD τ).loc cc0_scratch0), (d : Thread nD τ).loc cc0_scratch0 ↦[halfSet j]{fullShare} f)
def kFull (d : Dev nD) (ch : ℕ) : sProp 𝕄 :=
  iprop(∃ f : Buf (Elt F) ((d : Thread nD τ).loc cc0_scratch0),
    ⌜∀ i ∈ halfSet (ch % 2), ∀ b : Fin 8, b.val = 2 * ch + (i 1).val → f i = (V m d main_v2 : Vec F S8x512x512 .f32) (kIx b (i 2) (i 3))⌝
    ∗ (d : Thread nD τ).loc cc0_scratch0 ↦[halfSet (ch % 2)]{fullShare} f)
def kSrc (d : Dev nD) (ch : ℕ) : sProp 𝕄 := (d : Thread nD τ).loc main_v2 ↦[chunkSet ch]{fullShare} V m d main_v2

def vAny (d : Dev nD) (j : ℕ) : sProp 𝕄 :=
  iprop(∃ f : Buf (Elt F) ((d : Thread nD τ).loc cc0_scratch1), (d : Thread nD τ).loc cc0_scratch1 ↦[halfSet j]{fullShare} f)
def vFull (d : Dev nD) (ch : ℕ) : sProp 𝕄 :=
  iprop(∃ f : Buf (Elt F) ((d : Thread nD τ).loc cc0_scratch1),
    ⌜∀ i ∈ halfSet (ch % 2), ∀ b : Fin 8, b.val = 2 * ch + (i 1).val → f i = (V m d main_v3 : Vec F S8x512x512 .f32) (kIx b (i 2) (i 3))⌝
    ∗ (d : Thread nD τ).loc cc0_scratch1 ↦[halfSet (ch % 2)]{fullShare} f)
def vSrc (d : Dev nD) (ch : ℕ) : sProp 𝕄 := (d : Thread nD τ).loc main_v3 ↦[chunkSet ch]{fullShare} V m d main_v3

/-! ## Cells -/

/-- The device copy `n` (or signal `n`) of device `c` goes to; the device copy `n` into device `c` comes from. -/
def dst (c : Dev nD) (n : ℕ) : Dev nD := ⟨(c.val + (n % 15 + 1)) % 16, Nat.mod_lt _ (by decide)⟩
def src (c : Dev nD) (n : ℕ) : Dev nD := ⟨(c.val + 15 - n % 15) % 16, Nat.mod_lt _ (by decide)⟩

/-- Copy cells: 0, 1 of K and 2, 3 of V. -/
def kvS (n : ℕ) : DmaSem sig := ⟨2 + n % 4, by have := Nat.mod_lt n (show 0 < 4 by decide); show 2 + n % 4 < 134; omega⟩
def sndS (n : ℕ) : DmaSem sig := ⟨6 + 4 * (n % 15 + 1) + n / 15 % 4, by
  have := Nat.mod_lt n (show 0 < 15 by decide); have := Nat.mod_lt (n / 15) (show 0 < 4 by decide)
  show 6 + 4 * (n % 15 + 1) + n / 15 % 4 < 134; omega⟩
def rcvS (n : ℕ) : DmaSem sig := ⟨70 + 4 * (n % 15 + 1) + n / 15 % 4, by
  have := Nat.mod_lt n (show 0 < 15 by decide); have := Nat.mod_lt (n / 15) (show 0 < 4 by decide)
  show 70 + 4 * (n % 15 + 1) + n / 15 % 4 < 134; omega⟩

abbrev bar (c : Dev nD) : GSem nD τ sig := ((c : Thread nD τ), .reg barrier0)
abbrev kv (c : Dev nD) (n : ℕ) : GSem nD τ sig := ((c : Thread nD τ), .dma (kvS n))
abbrev snd (c : Dev nD) (n : ℕ) : GSem nD τ sig := ((c : Thread nD τ), .dma (sndS n))
abbrev rcv (c : Dev nD) (n : ℕ) : GSem nD τ sig := ((c : Thread nD τ), .dma (rcvS n))

/-- What a semaphore is for. -/
inductive Kind where
  | bar
  | kv (n : ℕ)
  | snd (n : ℕ)
  | rcv (n : ℕ)
  | none
  deriving DecidableEq

def kindOf : SemLoc sig → Kind
  | .reg s => if s.val = 0 then .bar else .none
  | .dma i =>
    if i.val < 2 then .none
    else if i.val < 6 then .kv (i.val - 2)
    else if i.val < 10 then .none
    else if i.val < 70 then .snd (15 * ((i.val - 10) % 4) + (i.val - 10) / 4)
    else if i.val < 74 then .none
    else .rcv (15 * ((i.val - 74) % 4) + (i.val - 74) / 4)

theorem kindOf_bar : kindOf (.reg barrier0) = .bar := rfl
theorem kindOf_kv {n : ℕ} (h : n < 4) : kindOf (.dma (kvS n)) = .kv n := by
  revert n; decide
theorem kindOf_snd {n : ℕ} (h : n < 60) : kindOf (.dma (sndS n)) = .snd n := by
  revert n; decide
theorem kindOf_rcv {n : ℕ} (h : n < 60) : kindOf (.dma (rcvS n)) = .rcv n := by
  revert n; decide

/-! ## Credits -/

theorem slot_inb : ∀ a, (![0, 0, 0, 0] : Fin 4 → ℕ) a + S1x1x16x128.size a ≤ S16x4x16x128.size a := by decide
/-- A slot as the program cuts it. -/
abbrev slotM (off : Fin 4 → ℕ) (h : ∀ a, off a + S1x1x16x128.size a ≤ S16x4x16x128.size a) : Memref sig .tc .vmem S16x128 .f32 :=
  (gB.slice (Rect.unit (s := S16x4x16x128) off S1x1x16x128.size h) (fun _ => rfl)).squeeze S16x128 squeezes_S1x1x16x128_S16x128
/-- A half of the K or V scratch, a chunk of K or V, as the program cuts them. -/
abbrev kbM (off : Fin 4 → ℕ) (h : ∀ a, off a + S1x2x512x512.size a ≤ S2x2x512x512.size a) : Memref sig .tc .vmem S2x512x512 .f32 :=
  (kB.slice (Rect.unit (s := S2x2x512x512) off S1x2x512x512.size h) (fun _ => rfl)).squeeze S2x512x512 squeezes_S1x2x512x512_S2x512x512
abbrev vbM (off : Fin 4 → ℕ) (h : ∀ a, off a + S1x2x512x512.size a ≤ S2x2x512x512.size a) : Memref sig .tc .vmem S2x512x512 .f32 :=
  (vB.slice (Rect.unit (s := S2x2x512x512) off S1x2x512x512.size h) (fun _ => rfl)).squeeze S2x512x512 squeezes_S1x2x512x512_S2x512x512
abbrev khM (off : Fin 3 → ℕ) (h : ∀ a, off a + S2x512x512.size a ≤ S8x512x512.size a) : Memref sig .tc .hbm S2x512x512 .f32 :=
  kH.slice (Rect.unit (s := S8x512x512) off S2x512x512.size h) (fun _ => rfl)
abbrev vhM (off : Fin 3 → ℕ) (h : ∀ a, off a + S2x512x512.size a ≤ S8x512x512.size a) : Memref sig .tc .hbm S2x512x512 .f32 :=
  vH.slice (Rect.unit (s := S8x512x512) off S2x512x512.size h) (fun _ => rfl)

/-- The units one slot's copy credits, and one chunk's. -/
def N : ℕ := (slotM ![0, 0, 0, 0] slot_inb).view.dmaCredit
def NK : ℕ := (kbM ![0, 0, 0, 0] inb_S2x2x512x512_S1x2x512x512_0_0_0_0).view.dmaCredit

theorem N_pos : 0 < N := View.dmaCredit_pos _ (by decide)
theorem NK_pos : 0 < NK := View.dmaCredit_pos _ (by decide)

theorem N_eq (off : Fin 4 → ℕ) (h) : (slotM off h).view.dmaCredit = N := rfl
theorem NK_eq (off : Fin 4 → ℕ) (h) : (kbM off h).view.dmaCredit = NK := rfl
theorem NK_eqv (off : Fin 4 → ℕ) (h) : (vbM off h).view.dmaCredit = NK := rfl

/-! ## The schedule -/

/-- Paid to device `t`'s barrier cell by device `t + o + 1`. -/
def barPay (t : Dev nD) (o : ℕ) : sProp 𝕄 :=
  bigSep (Finset.range 4) fun ch => iprop(slotAny (dst t o) t.val ch ∗ reached ER (rcv (dst t o) (15 * ch + o)) 0)
/-- Paid to copy cell `n` in round `r`: the half filled and the chunk back. -/
def kvPay (c : Dev nD) (n r : ℕ) : sProp 𝕄 :=
  if n < 2 then iprop(kFull m c (2 * r + n) ∗ kSrc m c (2 * r + n))
  else iprop(vFull m c (2 * r + (n - 2)) ∗ vSrc m c (2 * r + (n - 2)))
def sndPay (c : Dev nD) (n : ℕ) : sProp 𝕄 := slotPts m c c.val (n / 15) (shareTokN fullShare (n % 15))
def rcvPay (c : Dev nD) (n : ℕ) : sProp 𝕄 := slotPts m c (src c n).val (n / 15) fullShare

def dutiesOf (k : Kind) (r : ℕ) : Finset (Fin 15) :=
  match k with
  | .bar => if r = 0 then Finset.univ else ∅
  | .kv _ => if r < 2 then {0} else ∅
  | .snd _ => if r = 0 then {0} else ∅
  | .rcv _ => if r = 0 then {0} else ∅
  | .none => ∅
def amountOf (k : Kind) : ℕ :=
  match k with
  | .bar => 1
  | .kv _ => NK
  | .snd _ => N
  | .rcv _ => N
  | .none => 1
def payOf (k : Kind) (c : Dev nD) (r : ℕ) (d : Fin 15) : sProp 𝕄 :=
  match k with
  | .bar => barPay c d.val
  | .kv n => kvPay m c n r
  | .snd n => sndPay m c n
  | .rcv n => rcvPay m c n
  | .none => iprop(emp)

def Rd : Rounds.Schedule (GSem nD τ sig) (Fin 15) 𝕄 where
  duties g r := if g.1.2 = .tc then dutiesOf (kindOf g.2) r else ∅
  unitless _ := False
  amount g _ _ := amountOf (kindOf g.2)
  payload g r d := payOf m (kindOf g.2) g.1.1 r d
  amount_pos g r d _ := by
    show 0 < amountOf (kindOf g.2)
    cases kindOf g.2 <;> first | exact N_pos | exact NK_pos | exact Nat.one_pos

instance slotAny_storable (d : Dev nD) (s ch : ℕ) : BI.Storable (upEmb : UEmb _ 𝕄) (slotAny (F := F) d s ch) := by
  unfold slotAny; infer_instance
instance slotPts_storable (d : Dev nD) (s ch : ℕ) (q) : BI.Storable (upEmb : UEmb _ 𝕄) (slotPts m d s ch q) := by
  unfold slotPts; infer_instance
instance barPay_storable (t : Dev nD) (o : ℕ) : BI.Storable (upEmb : UEmb _ 𝕄) (barPay (F := F) t o) := by
  unfold barPay; infer_instance
instance kvPay_storable (c : Dev nD) (n r : ℕ) : BI.Storable (upEmb : UEmb _ 𝕄) (kvPay m c n r) := by
  unfold kvPay kFull kSrc vFull vSrc; split <;> infer_instance

instance Rd_storable (g : GSem nD τ sig) (r : ℕ) (d : Fin 15) : BI.Storable (upEmb : UEmb _ 𝕄) ((Rd m).payload g r d) := by
  show BI.Storable upEmb (payOf m (kindOf g.2) g.1.1 r d)
  unfold payOf sndPay rcvPay
  split <;> infer_instance

section Tables

variable (c : Dev nD)

theorem duties_eq (sm : SemLoc sig) (r : ℕ) : (Rd m).duties ((c : Thread nD τ), sm) r = dutiesOf (kindOf sm) r := by
  dsimp only [Rd]; exact if_pos rfl
theorem duties_bar : (Rd m).duties (bar c) 0 = Finset.univ := rfl
theorem duties_kv {n r : ℕ} (h : n < 4) (hr : r < 2) : (Rd m).duties (kv c n) r = {0} := by
  rw [duties_eq, kindOf_kv h]; exact if_pos hr
theorem duties_snd {n : ℕ} (h : n < 60) : (Rd m).duties (snd c n) 0 = {0} := by
  rw [duties_eq, kindOf_snd h]; rfl
theorem duties_rcv {n : ℕ} (h : n < 60) : (Rd m).duties (rcv c n) 0 = {0} := by
  rw [duties_eq, kindOf_rcv h]; rfl
theorem duties_later1 (g : GSem nD τ sig) (hg : ∀ n, kindOf g.2 ≠ .kv n) : ∀ r, 1 ≤ r → (Rd m).duties g r = ∅ := fun r hr => by
  show (if _ then dutiesOf (kindOf _) r else ∅) = _
  split
  · cases h : kindOf g.2 <;> first | exact if_neg (by omega) | rfl | exact absurd h (hg _)
  · rfl
theorem duties_later2 (g : GSem nD τ sig) : ∀ r, 2 ≤ r → (Rd m).duties g r = ∅ := fun r hr => by
  show (if _ then dutiesOf (kindOf _) r else ∅) = _
  split
  · cases h : kindOf g.2 <;> first | exact if_neg (by omega) | rfl
  · rfl

theorem amount_bar (r d) : (Rd m).amount (bar c) r d = 1 := rfl
theorem amount_kv {n : ℕ} (h : n < 4) (r d) : (Rd m).amount (kv c n) r d = NK := by
  show amountOf (kindOf _) = _; rw [kindOf_kv h]; rfl
theorem amount_snd {n : ℕ} (h : n < 60) (r d) : (Rd m).amount (snd c n) r d = N := by
  show amountOf (kindOf _) = _; rw [kindOf_snd h]; rfl
theorem amount_rcv {n : ℕ} (h : n < 60) (r d) : (Rd m).amount (rcv c n) r d = N := by
  show amountOf (kindOf _) = _; rw [kindOf_rcv h]; rfl

theorem payload_bar (r) (d : Fin 15) : (Rd m).payload (bar c) r d = barPay c d.val := rfl
theorem payload_kv {n : ℕ} (h : n < 4) (r d) : (Rd m).payload (kv c n) r d = kvPay m c n r := by
  show payOf m (kindOf _) _ _ _ = _; rw [kindOf_kv h]; rfl
theorem payload_snd {n : ℕ} (h : n < 60) (r d) : (Rd m).payload (snd c n) r d = sndPay m c n := by
  show payOf m (kindOf _) _ _ _ = _; rw [kindOf_snd h]; rfl
theorem payload_rcv {n : ℕ} (h : n < 60) (r d) : (Rd m).payload (rcv c n) r d = rcvPay m c n := by
  show payOf m (kindOf _) _ _ _ = _; rw [kindOf_rcv h]; rfl

theorem expect_bar : (Rd m).expect (bar c) 0 = 15 := by
  unfold Schedule.expect Schedule.amountOf; rw [duties_bar]; simp [amount_bar]
theorem expect_kv {n r : ℕ} (h : n < 4) (hr : r < 2) : (Rd m).expect (kv c n) r = NK := by
  unfold Schedule.expect Schedule.amountOf; rw [duties_kv m c h hr, Finset.sum_singleton, amount_kv m c h]
theorem expect_snd {n : ℕ} (h : n < 60) : (Rd m).expect (snd c n) 0 = N := by
  unfold Schedule.expect Schedule.amountOf; rw [duties_snd m c h, Finset.sum_singleton, amount_snd m c h]
theorem expect_rcv {n : ℕ} (h : n < 60) : (Rd m).expect (rcv c n) 0 = N := by
  unfold Schedule.expect Schedule.amountOf; rw [duties_rcv m c h, Finset.sum_singleton, amount_rcv m c h]

end Tables

/-! ## Levels and debts -/

def L (g : GSem nD τ sig) : Finset Unit := if g.1.2 = .tc then {()} else ∅
/-- Barrier cells at 1, receive cells at 2, the rest at 0. -/
def lvK : Kind → ℕ
  | .bar => 1
  | .rcv _ => 2
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl

/-- What the copies from the `n`-th on still owe, and the signals from the `n`-th on. -/
def owedS (c : Dev nD) (n : ℕ) : CellTallies nD τ sig Unit := ∑ i ∈ Finset.Ico n 60, tallyAt (rcv (dst c i) i) () N
def owedB (c : Dev nD) (n : ℕ) : CellTallies nD τ sig Unit := ∑ i ∈ Finset.Ico n 15, tallyAt (bar (dst c i)) () 1
def O₀ (c : Dev nD) : CellTallies nD τ sig Unit := owedS c 0 + owedB c 0

theorem owedS_step (c : Dev nD) {n : ℕ} (h : n < 60) : owedS c n = owedS c (n + 1) + tallyAt (rcv (dst c n) n) () N := by
  unfold owedS; rw [Finset.sum_eq_sum_Ico_succ_bot h, add_comm]
theorem owedB_step (c : Dev nD) {n : ℕ} (h : n < 15) : owedB c n = owedB c (n + 1) + tallyAt (bar (dst c n)) () 1 := by
  unfold owedB; rw [Finset.sum_eq_sum_Ico_succ_bot h, add_comm]
theorem owedS_end (c : Dev nD) : owedS c 60 = 0 := by unfold owedS; simp
theorem owedB_end (c : Dev nD) : owedB c 15 = 0 := by unfold owedB; simp

end Cert.KernelIdeal.Talk
-- ==== Proof.Views.lean ====
/-
The views the program cuts, by their elements: a slot of the gather buffer, a half of a K or V scratch buffer, a chunk of
K or V; and what a copy between two of them leaves.
-/
module

public import proofs.«01_k».proof.Proof.Protocol
public import Idealize.ShloMosaic.Lib.ValueLayout

@[expose] public section

noncomputable section

namespace Cert.KernelIdeal.Talk

open Cert.KernelIdeal Cert.KernelIdeal.Gen

open Idealize.ShloMosaic
open Idealize.ShloMosaic.TcCoe
open Idealize.ShloMosaic.ValueIdx (ix3 reshapeEquiv_ix3_1abc)

variable {F : FTy → Type} [FloatOps F]
variable (m : (ℓ : Loc nD τ sig) → Buf (Elt F) ℓ)

/-! ## Sets -/

theorem mem_slotSet {s ch : ℕ} {i : S16x4x16x128.Idx} : i ∈ slotSet s ch ↔ (i 0).val = s ∧ (i 1).val = ch := by
  simp [slotSet]
theorem mem_halfSet {j : ℕ} {i : S2x2x512x512.Idx} : i ∈ halfSet j ↔ (i 0).val = j := by
  simp [halfSet]
theorem mem_chunkSet {ch : ℕ} {i : S8x512x512.Idx} : i ∈ chunkSet ch ↔ (i 0).val / 2 = ch := by
  simp [chunkSet]

theorem slot_rect (s ch : ℕ) (h : ∀ a, (![s, ch, 0, 0] : Fin 4 → ℕ) a + S1x1x16x128.size a ≤ S16x4x16x128.size a) :
    (Rect.unit (s := S16x4x16x128) ![s, ch, 0, 0] S1x1x16x128.size h).set = slotSet s ch := by
  ext i
  rw [Rect.mem_set_unit, mem_slotSet]
  have h2 : (i 2).val < 16 := (i 2).isLt
  have h3 : (i 3).val < 128 := (i 3).isLt
  constructor
  · intro H
    have e0 := H 0; have e1 := H 1
    simp [S1x1x16x128] at e0 e1
    omega
  · rintro ⟨rfl, rfl⟩ a
    match a with
    | 0 => simp [S1x1x16x128]
    | 1 => simp [S1x1x16x128]
    | 2 => simpa [S1x1x16x128] using h2
    | 3 => simpa [S1x1x16x128] using h3

theorem half_rect (j : ℕ) (h : ∀ a, (![j, 0, 0, 0] : Fin 4 → ℕ) a + S1x2x512x512.size a ≤ S2x2x512x512.size a) :
    (Rect.unit (s := S2x2x512x512) ![j, 0, 0, 0] S1x2x512x512.size h).set = halfSet j := by
  ext i
  rw [Rect.mem_set_unit, mem_halfSet]
  have h1 : (i 1).val < 2 := (i 1).isLt
  have h2 : (i 2).val < 512 := (i 2).isLt
  have h3 : (i 3).val < 512 := (i 3).isLt
  constructor
  · intro H
    have e0 := H 0
    simp [S1x2x512x512] at e0
    omega
  · rintro rfl a
    match a with
    | 0 => simp [S1x2x512x512]
    | 1 => simpa [S1x2x512x512] using h1
    | 2 => simpa [S1x2x512x512] using h2
    | 3 => simpa [S1x2x512x512] using h3

theorem chunk_rect (ch : ℕ) (h : ∀ a, (![2 * ch, 0, 0] : Fin 3 → ℕ) a + S2x512x512.size a ≤ S8x512x512.size a) :
    (Rect.unit (s := S8x512x512) ![2 * ch, 0, 0] S2x512x512.size h).set = chunkSet ch := by
  ext i
  rw [Rect.mem_set_unit, mem_chunkSet]
  have h2 : (i 1).val < 512 := (i 1).isLt
  have h3 : (i 2).val < 512 := (i 2).isLt
  constructor
  · intro H
    have e0 := H 0
    simp [S2x512x512] at e0
    omega
  · intro e a
    match a with
    | 0 => simp [S2x512x512]; omega
    | 1 => simpa [S2x512x512] using h2
    | 2 => simpa [S2x512x512] using h3

theorem slot_view_set (s ch : ℕ) (h) : (slotM ![s, ch, 0, 0] h).view.set = slotSet s ch := by
  rw [← slot_rect s ch h]
  exact (View.set_reshape _ _).trans (View.set_slice_whole _ _)
theorem kb_view_set (j : ℕ) (h) : (kbM ![j, 0, 0, 0] h).view.set = halfSet j := by
  rw [← half_rect j h]
  exact (View.set_reshape _ _).trans (View.set_slice_whole _ _)
theorem vb_view_set (j : ℕ) (h) : (vbM ![j, 0, 0, 0] h).view.set = halfSet j := by
  rw [← half_rect j h]
  exact (View.set_reshape _ _).trans (View.set_slice_whole _ _)
theorem kh_view_set (ch : ℕ) (h) : (khM ![2 * ch, 0, 0] h).view.set = chunkSet ch := by
  rw [← chunk_rect ch h]; exact View.set_slice_whole _ _
theorem vh_view_set (ch : ℕ) (h) : (vhM ![2 * ch, 0, 0] h).view.set = chunkSet ch := by
  rw [← chunk_rect ch h]; exact View.set_slice_whole _ _

/-! ## What a copy leaves -/

/-- A slot copied to itself: what was read is there. -/
theorem slot_landed (s ch : ℕ) (h) (fd fs : Vec F S16x4x16x128 .f32) (i : S16x4x16x128.Idx) (hi : i ∈ slotSet s ch) :
    (slotM ![s, ch, 0, 0] h).view.write (Elt F) fd ((slotM ![s, ch, 0, 0] h).view.read (Elt F) fs) Finset.univ i = fs i := by
  rw [← slot_view_set s ch h, View.set, Finset.mem_map] at hi
  obtain ⟨x, -, rfl⟩ := hi
  exact View.write_emb_of_mem (v := (slotM ![s, ch, 0, 0] h).view) fd _ (Finset.mem_univ x)

theorem kb_landed (j ch : ℕ) (h h') (fd : Vec F S2x2x512x512 .f32) (fs : Vec F S8x512x512 .f32) (i : S2x2x512x512.Idx) (hi : i ∈ halfSet j)
    (b : Fin 8) (hb : b.val = 2 * ch + (i 1).val) :
    (kbM ![j, 0, 0, 0] h).view.write (Elt F) fd ((khM ![2 * ch, 0, 0] h').view.read (Elt F) fs) Finset.univ i = fs (kIx b (i 2) (i 3)) := by
  have hx : (kbM ![j, 0, 0, 0] h).view.emb (ix3 (i 1) (i 2) (i 3)) = i := by
    refine (congrArg (Rect.unit (s := S2x2x512x512) ![j, 0, 0, 0] S1x2x512x512.size h).idx
      (reshapeEquiv_ix3_1abc (a := 2) (b := 512) (c := 512) _ (i 1) (i 2) (i 3))).trans ?_
    have e := mem_halfSet.1 hi
    funext a
    apply Fin.ext
    match a with
    | 0 => show j + 1 * 0 = _; omega
    | 1 => show 0 + 1 * (i 1).val = _; omega
    | 2 => show 0 + 1 * (i 2).val = _; omega
    | 3 => show 0 + 1 * (i 3).val = _; omega
  rw [← hx]
  refine (View.write_emb_of_mem (v := (kbM ![j, 0, 0, 0] h).view) fd _ (Finset.mem_univ _)).trans ?_
  rw [hx]
  show fs ((Rect.unit (s := S8x512x512) ![2 * ch, 0, 0] S2x512x512.size h').idx (ix3 (i 1) (i 2) (i 3))) = _
  congr 1
  funext a
  apply Fin.ext
  match a with
  | 0 => show 2 * ch + 1 * (i 1).val = b.val; omega
  | 1 => show 0 + 1 * (i 2).val = (i 2).val; omega
  | 2 => show 0 + 1 * (i 3).val = (i 3).val; omega

theorem vb_landed (j ch : ℕ) (h h') (fd : Vec F S2x2x512x512 .f32) (fs : Vec F S8x512x512 .f32) (i : S2x2x512x512.Idx) (hi : i ∈ halfSet j)
    (b : Fin 8) (hb : b.val = 2 * ch + (i 1).val) :
    (vbM ![j, 0, 0, 0] h).view.write (Elt F) fd ((vhM ![2 * ch, 0, 0] h').view.read (Elt F) fs) Finset.univ i = fs (kIx b (i 2) (i 3)) :=
  kb_landed j ch h h' fd fs i hi b hb

/-! ## What a load reads -/

theorem q_read (b : Fin 8) (h : ∀ a, (![b.val, 0] : Fin 2 → ℕ) a + S1x512.size a ≤ S8x512.size a) (c : Dev nD) :
    qM.view.readAt (Elt F) (Rect.unit (s := S8x512) ![b.val, 0] S1x512.size h).toLoadRect (V m c main_v1) = qrow m c b := by
  funext x
  show (V m c main_v1 : Vec F S8x512 .f32) ((Rect.unit (s := S8x512) ![b.val, 0] S1x512.size h).idx x) = (V m c main_v1 : Vec F S8x512 .f32) (qIx b (x 1))
  congr 1
  funext a
  apply Fin.ext
  have h0 : (x 0).val < 1 := (x 0).isLt
  match a with
  | 0 => show b.val + 1 * (x 0).val = b.val; omega
  | 1 => show 0 + 1 * (x 1).val = (x 1).val; omega

theorem kb_read (j cb : ℕ) (b : Fin 8) (h : ∀ a, (![j, cb, 0, 0] : Fin 4 → ℕ) a + S1x1x512x512.size a ≤ S2x2x512x512.size a)
    (f : Vec F S2x2x512x512 .f32) (fs : Vec F S8x512x512 .f32) (ch : ℕ)
    (hf : ∀ i ∈ halfSet j, ∀ b : Fin 8, b.val = 2 * ch + (i 1).val → f i = fs (kIx b (i 2) (i 3))) (hb : b.val = 2 * ch + cb) :
    (kB.view.readAt (Elt F) (Rect.unit (s := S2x2x512x512) ![j, cb, 0, 0] S1x1x512x512.size h).toLoadRect f : Vec F S1x1x512x512 .f32)
      = fun i => fs (kIx b (i 2) (i 3)) := by
  funext x
  have h0 : (x 0).val < 1 := (x 0).isLt
  have h1 : (x 1).val < 1 := (x 1).isLt
  show f ((Rect.unit (s := S2x2x512x512) ![j, cb, 0, 0] S1x1x512x512.size h).idx x) = _
  rw [hf _ (mem_halfSet.2 (show j + 1 * (x 0).val = j by omega)) b (show b.val = 2 * ch + (cb + 1 * (x 1).val) by omega)]
  congr 1
  funext a
  apply Fin.ext
  match a with
  | 0 => rfl
  | 1 => show 0 + 1 * (x 2).val = (x 2).val; omega
  | 2 => show 0 + 1 * (x 3).val = (x 3).val; omega

theorem half_read_sub (j cb : ℕ) (h : ∀ a, (![j, cb, 0, 0] : Fin 4 → ℕ) a + S1x1x512x512.size a ≤ S2x2x512x512.size a) :
    (Rect.unit (s := S2x2x512x512) ![j, cb, 0, 0] S1x1x512x512.size h).set ⊆ halfSet j := fun i hi => by
  have e0 := (Rect.mem_set_unit.1 hi) 0
  simp [S1x1x512x512] at e0
  exact mem_halfSet.2 (by omega)

/-! ## What a chunk's stores put, and where -/

/-- A piece of slot (s, ch): `w` columns from column `k`, eight rows from row `r`. -/
theorem piece_sub (s ch r k : ℕ) (sz : Fin 4 → ℕ) (h0 : sz 0 = 1) (h1 : sz 1 = 1)
    (h : ∀ a, (![s, ch, r, k] : Fin 4 → ℕ) a + sz a ≤ S16x4x16x128.size a) :
    (Rect.unit (s := S16x4x16x128) ![s, ch, r, k] sz h).set ⊆ slotSet s ch := fun i hi => by
  have e0 := (Rect.mem_set_unit.1 hi) 0; have e1 := (Rect.mem_set_unit.1 hi) 1
  simp [h0, h1] at e0 e1
  exact mem_slotSet.2 ⟨by omega, by omega⟩

theorem G_o (c : Dev nD) (ch cb : ℕ) (b : Fin 8) (hb : b.val = 2 * ch + cb) (hcb : cb < 2)
    (h : ∀ a, (![c.val, ch, 8 * cb, 0] : Fin 4 → ℕ) a + S1x1x8x64.size a ≤ S16x4x16x128.size a) (x : S1x1x8x64.Idx) :
    partO (qrow m c b) (kblk m c b) (vblk m c b) x = G m ((Rect.unit (s := S16x4x16x128) ![c.val, ch, 8 * cb, 0] S1x1x8x64.size h).idx x) := by
  have x0 : (x 0).val < 1 := (x 0).isLt
  have x1 : (x 1).val < 1 := (x 1).isLt
  have x2 : (x 2).val < 8 := (x 2).isLt
  have x3 : (x 3).val < 64 := (x 3).isLt
  generalize hi : (Rect.unit (s := S16x4x16x128) ![c.val, ch, 8 * cb, 0] S1x1x8x64.size h).idx x = i
  have i0 : (i 0).val = c.val + 1 * (x 0).val := by rw [← hi]; rfl
  have i1 : (i 1).val = ch + 1 * (x 1).val := by rw [← hi]; rfl
  have i2 : (i 2).val = 8 * cb + 1 * (x 2).val := by rw [← hi]; rfl
  have i3 : (i 3).val = 0 + 1 * (x 3).val := by rw [← hi]; rfl
  have e0 : i 0 = c := Fin.ext (by rw [i0]; omega)
  have eb : bOf i = b := Fin.ext (by show 2 * (i 1).val + (i 2).val / 8 = b.val; omega)
  unfold G
  rw [dif_pos (show (i 3).val < 64 by omega), e0, eb]
  congr 1
  funext a
  apply Fin.ext
  match a with
  | 0 => show (x 0).val = 0; omega
  | 1 => show (x 1).val = 0; omega
  | 2 => show (x 2).val = (i 2).val % 8; omega
  | 3 => show (x 3).val = (i 3).val; omega

theorem G_m (c : Dev nD) (ch cb : ℕ) (b : Fin 8) (hb : b.val = 2 * ch + cb) (hcb : cb < 2)
    (h : ∀ a, (![c.val, ch, 8 * cb, 64] : Fin 4 → ℕ) a + S1x1x8x1.size a ≤ S16x4x16x128.size a) (x : S1x1x8x1.Idx) :
    partM (qrow m c b) (kblk m c b) x = G m ((Rect.unit (s := S16x4x16x128) ![c.val, ch, 8 * cb, 64] S1x1x8x1.size h).idx x) := by
  have x0 : (x 0).val < 1 := (x 0).isLt
  have x1 : (x 1).val < 1 := (x 1).isLt
  have x2 : (x 2).val < 8 := (x 2).isLt
  have x3 : (x 3).val < 1 := (x 3).isLt
  generalize hi : (Rect.unit (s := S16x4x16x128) ![c.val, ch, 8 * cb, 64] S1x1x8x1.size h).idx x = i
  have i0 : (i 0).val = c.val + 1 * (x 0).val := by rw [← hi]; rfl
  have i1 : (i 1).val = ch + 1 * (x 1).val := by rw [← hi]; rfl
  have i2 : (i 2).val = 8 * cb + 1 * (x 2).val := by rw [← hi]; rfl
  have i3 : (i 3).val = 64 + 1 * (x 3).val := by rw [← hi]; rfl
  have e0 : i 0 = c := Fin.ext (by rw [i0]; omega)
  have eb : bOf i = b := Fin.ext (by show 2 * (i 1).val + (i 2).val / 8 = b.val; omega)
  unfold G
  rw [dif_neg (show ¬ (i 3).val < 64 by omega), if_pos (show (i 3).val = 64 by omega), e0, eb]
  congr 1
  funext a
  apply Fin.ext
  match a with
  | 0 => show (x 0).val = 0; omega
  | 1 => show (x 1).val = 0; omega
  | 2 => show (x 2).val = (i 2).val % 8; omega
  | 3 => show (x 3).val = 0; omega

theorem G_l (c : Dev nD) (ch cb : ℕ) (b : Fin 8) (hb : b.val = 2 * ch + cb) (hcb : cb < 2)
    (h : ∀ a, (![c.val, ch, 8 * cb, 65] : Fin 4 → ℕ) a + S1x1x8x1.size a ≤ S16x4x16x128.size a) (x : S1x1x8x1.Idx) :
    partL (qrow m c b) (kblk m c b) x = G m ((Rect.unit (s := S16x4x16x128) ![c.val, ch, 8 * cb, 65] S1x1x8x1.size h).idx x) := by
  have x0 : (x 0).val < 1 := (x 0).isLt
  have x1 : (x 1).val < 1 := (x 1).isLt
  have x2 : (x 2).val < 8 := (x 2).isLt
  have x3 : (x 3).val < 1 := (x 3).isLt
  generalize hi : (Rect.unit (s := S16x4x16x128) ![c.val, ch, 8 * cb, 65] S1x1x8x1.size h).idx x = i
  have i0 : (i 0).val = c.val + 1 * (x 0).val := by rw [← hi]; rfl
  have i1 : (i 1).val = ch + 1 * (x 1).val := by rw [← hi]; rfl
  have i2 : (i 2).val = 8 * cb + 1 * (x 2).val := by rw [← hi]; rfl
  have i3 : (i 3).val = 65 + 1 * (x 3).val := by rw [← hi]; rfl
  have e0 : i 0 = c := Fin.ext (by rw [i0]; omega)
  have eb : bOf i = b := Fin.ext (by show 2 * (i 1).val + (i 2).val / 8 = b.val; omega)
  unfold G
  rw [dif_neg (show ¬ (i 3).val < 64 by omega), if_neg (show ¬ (i 3).val = 64 by omega), e0, eb]
  congr 1
  funext a
  apply Fin.ext
  match a with
  | 0 => show (x 0).val = 0; omega
  | 1 => show (x 1).val = 0; omega
  | 2 => show (x 2).val = (i 2).val % 8; omega
  | 3 => show (x 3).val = 0; omega

/-- What the first `k` of a chunk's six stores have written. -/
def covered (k : ℕ) (i : S16x4x16x128.Idx) : Prop :=
  ((i 2).val < 8 ∧ (((i 3).val < 64 ∧ 0 < k) ∨ ((i 3).val = 64 ∧ 1 < k) ∨ ((i 3).val = 65 ∧ 2 < k)))
  ∨ (8 ≤ (i 2).val ∧ (((i 3).val < 64 ∧ 3 < k) ∨ ((i 3).val = 64 ∧ 4 < k) ∨ ((i 3).val = 65 ∧ 5 < k)))

theorem covered_all (i : S16x4x16x128.Idx) (h : (i 3).val < 66) : covered 6 i := by
  unfold covered; omega

theorem covered_o {s ch cb : ℕ} (hcb : cb < 2) (h : ∀ a, (![s, ch, 8 * cb, 0] : Fin 4 → ℕ) a + S1x1x8x64.size a ≤ S16x4x16x128.size a)
    (i : S16x4x16x128.Idx) (hi : i ∈ slotSet s ch) (hc : covered (3 * cb + 1) i) :
    covered (3 * cb) i ∨ i ∈ (Rect.unit (s := S16x4x16x128) ![s, ch, 8 * cb, 0] S1x1x8x64.size h).set := by
  obtain ⟨e0, e1⟩ := mem_slotSet.1 hi
  have i2 : (i 2).val < 16 := (i 2).isLt
  by_cases H : covered (3 * cb) i
  · exact .inl H
  · right
    unfold covered at hc H
    have e2 : 8 * cb ≤ (i 2).val ∧ (i 2).val < 8 * cb + 8 ∧ (i 3).val < 64 := by omega
    refine Rect.mem_set_unit.2 fun a => ?_
    match a with
    | 0 => simp [S1x1x8x64, e0]
    | 1 => simp [S1x1x8x64, e1]
    | 2 => simp [S1x1x8x64]; omega
    | 3 => simp [S1x1x8x64]; omega

theorem covered_ml {s ch cb t : ℕ} (hcb : cb < 2) (ht : t < 2)
    (h : ∀ a, (![s, ch, 8 * cb, 64 + t] : Fin 4 → ℕ) a + S1x1x8x1.size a ≤ S16x4x16x128.size a)
    (i : S16x4x16x128.Idx) (hi : i ∈ slotSet s ch) (hc : covered (3 * cb + 2 + t) i) :
    covered (3 * cb + 1 + t) i ∨ i ∈ (Rect.unit (s := S16x4x16x128) ![s, ch, 8 * cb, 64 + t] S1x1x8x1.size h).set := by
  obtain ⟨e0, e1⟩ := mem_slotSet.1 hi
  have i2 : (i 2).val < 16 := (i 2).isLt
  by_cases H : covered (3 * cb + 1 + t) i
  · exact .inl H
  · right
    unfold covered at hc H
    have e2 : 8 * cb ≤ (i 2).val ∧ (i 2).val < 8 * cb + 8 ∧ (i 3).val = 64 + t := by omega
    refine Rect.mem_set_unit.2 fun a => ?_
    match a with
    | 0 => simp [S1x1x8x1, e0]
    | 1 => simp [S1x1x8x1, e1]
    | 2 => simp [S1x1x8x1]; omega
    | 3 => simp [S1x1x8x1]; omega

end Cert.KernelIdeal.Talk
-- ==== Proof.Steps.lean ====
/-
One lemma per kind of effect: what each consumes and what it leaves, in the state the run carries.
-/
module

public import Idealize.SL.BI.BigOpNat
public import proofs.«01_k».proof.Proof.Views

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Arithmetic of the ring -/

theorem src_dst (c : Dev nD) (n : ℕ) : src (dst c n) n = c := Fin.ext (by
  show ((c.val + (n % 15 + 1)) % 16 + 15 - n % 15) % 16 = c.val
  have h : c.val < 16 := c.isLt
  have := Nat.mod_lt n (show 0 < 15 by decide)
  omega)
theorem dst_src (c : Dev nD) (n : ℕ) : dst (src c n) n = c := Fin.ext (by
  show ((c.val + 15 - n % 15) % 16 + (n % 15 + 1)) % 16 = c.val
  have h : c.val < 16 := c.isLt
  have := Nat.mod_lt n (show 0 < 15 by decide)
  omega)
/-- The duty signal `n` pays. -/
def bd (n : ℕ) : Fin 15 := ⟨14 - n % 15, by omega⟩
theorem dst_bd (c : Dev nD) (n : ℕ) : dst (dst c n) (bd n).val = c := Fin.ext (by
  show ((c.val + (n % 15 + 1)) % 16 + ((14 - n % 15) % 15 + 1)) % 16 = c.val
  have h : c.val < 16 := c.isLt
  have := Nat.mod_lt n (show 0 < 15 by decide)
  omega)
theorem dst_congr (c : Dev nD) {a b : ℕ} (h : a % 15 = b % 15) : dst c a = dst c b := by unfold dst; simp only [h]

/-! ## Cells and records -/

def scS (k : ℕ) : DmaSem sig := if k < 4 then kvS k else if k < 64 then sndS (k - 4) else rcvS (k - 64)

theorem bar_inj : Function.Injective (bar : Dev nD → GSem nD τ sig) := fun _ _ h => congrArg (fun g : GSem nD τ sig => g.1.1) h
theorem scS_inj : Function.Injective (fun k : Fin 124 => scS k.val) := by decide +kernel
def barEmb : Dev nD ↪ GSem nD τ sig := ⟨bar, bar_inj⟩
def scEmb : Dev nD × Fin 124 ↪ GSem nD τ sig :=
  ⟨fun p => ((p.1 : Thread nD τ), .dma (scS p.2.val)), fun a b h =>
    Prod.ext (congrArg (fun g : GSem nD τ sig => g.1.1) h)
      (scS_inj (SemLoc.dma.inj (congrArg Prod.snd h)))⟩

abbrev barCells : Finset (GSem nD τ sig) := Finset.univ.map barEmb
abbrev scCells : Finset (GSem nD τ sig) := Finset.univ.map scEmb

theorem bar_mem (c : Dev nD) : bar c ∈ (barCells ∪ scCells : Finset (GSem nD τ sig)) :=
  Finset.mem_union_left _ (Finset.mem_map_of_mem barEmb (Finset.mem_univ c))
theorem sc_mem (c : Dev nD) (k : ℕ) (h : k < 124) : ((c : Thread nD τ), SemLoc.dma (scS k)) ∈ (barCells ∪ scCells : Finset (GSem nD τ sig)) :=
  Finset.mem_union_right _ (Finset.mem_map_of_mem scEmb (Finset.mem_univ (c, (⟨k, h⟩ : Fin 124))))
theorem kv_mem (c : Dev nD) {n : ℕ} (h : n < 4) : kv c n ∈ (barCells ∪ scCells : Finset (GSem nD τ sig)) := by
  have := sc_mem c n (by omega); rwa [show scS n = kvS n from if_pos h] at this
theorem snd_mem (c : Dev nD) {n : ℕ} (h : n < 60) : snd c n ∈ (barCells ∪ scCells : Finset (GSem nD τ sig)) := by
  have := sc_mem c (n + 4) (by omega)
  rwa [show scS (n + 4) = sndS n from (if_neg (by omega)).trans (if_pos (by omega))] at this
theorem rcv_mem (c : Dev nD) {n : ℕ} (h : n < 60) : rcv c n ∈ (barCells ∪ scCells : Finset (GSem nD τ sig)) := by
  have := sc_mem c (n + 64) (by omega)
  rwa [show scS (n + 64) = rcvS n from (if_neg (by omega)).trans (if_neg (by omega))] at this

/-- What every device may consult. -/
def recs (K : GSem nD τ sig → ℕ) : sProp 𝕄 :=
  iprop((bigSep (barCells ∪ scCells) fun g => cellInv ER (Rd m) (K g) g) ∗ (bigSep barCells fun g => reached ER g 0) ∗ levAts L lv)

instance recs_persistent (K : GSem nD τ sig → ℕ) : BI.Persistent (recs m K) := by unfold recs; infer_instance

theorem elim_at {I : Type} [DecidableEq I] {s : Finset I} {i : I} (h : i ∈ s) {Φ : I → sProp 𝕄} : bigSep s Φ ⊢ Φ i := bigSep_elim h

theorem recs_inv (K : GSem nD τ sig → ℕ) {g : GSem nD τ sig} (hg : g ∈ (barCells ∪ scCells : Finset (GSem nD τ sig))) :
    recs m K ⊢ cellInv ER (Rd m) (K g) g := by
  unfold recs
  iintro ⟨#H, -, -⟩
  iapply (elim_at hg) $$ H
theorem recs_bar (K : GSem nD τ sig → ℕ) (c : Dev nD) : recs m K ⊢ reached ER (bar c) 0 := by
  unfold recs
  iintro ⟨-, #H, -⟩
  iapply (elim_at (Finset.mem_map_of_mem barEmb (Finset.mem_univ c)) (Φ := fun g => reached ER g 0)) $$ H
theorem recs_lev (K : GSem nD τ sig → ℕ) : recs m K ⊢ levAts L lv := by
  unfold recs
  iintro ⟨-, -, #H⟩
  iexact H

/-! ## What is owed, and waiting under it -/

def owesX (c : Dev nD) (O : CellTallies nD τ sig Unit) : sProp 𝕄 := iprop(∃ W, owes (c : Thread nD τ) O W)

theorem owedS_cell (c : Dev nD) (n : ℕ) (g : GSem nD τ sig) (u : Unit) (h : 0 < owedS c n g u) : ∃ d : Dev nD, ∃ i < 60, g = rcv d i := by
  unfold owedS at h
  rw [Finset.sum_apply, Finsupp.finset_sum_apply] at h
  obtain ⟨i, hi, hp⟩ := Finset.exists_ne_zero_of_sum_ne_zero (Nat.pos_iff_ne_zero.1 h)
  rw [tallyAt_apply] at hp
  by_cases e : g = rcv (dst c i) i ∧ u = ()
  · exact ⟨dst c i, i, (Finset.mem_Ico.1 hi).2, e.1⟩
  · rw [if_neg e] at hp; exact absurd rfl hp

theorem mayWait (c : Dev nD) (sm : SemLoc sig) (n : ℕ) (hl : lvK (kindOf sm) ≤ 1) :
    (levAts L lv : sProp 𝕄) ⊢ MayWait (c : Thread nD τ) sm () (owedS c n) :=
  MayOwe.of_cut (L := L) (lev := lv) 1 (fun p hp => by rw [Finset.mem_singleton.mp hp, L_tc]; exact Finset.mem_singleton_self _)
    (fun g u hg => by obtain ⟨d, i, hi, rfl⟩ := owedS_cell c n g u hg; rw [L_tc]; exact Finset.mem_singleton_self _)
    (fun p hp => by rw [Finset.mem_singleton.mp hp]; exact hl)
    (fun g u hg => by
      obtain ⟨d, i, hi, rfl⟩ := owedS_cell c n g u hg
      show 1 < lvK (kindOf (.dma (rcvS i)))
      rw [kindOf_rcv hi]; exact Nat.lt_succ_self 1)

set_option maxRecDepth 20000 in
theorem recs_mayWait (K : GSem nD τ sig → ℕ) (c : Dev nD) (sm : SemLoc sig) (n : ℕ) (hl : lvK (kindOf sm) ≤ 1) :
    recs m K ⊢ MayWait (c : Thread nD τ) sm () (owedS c n) := (recs_lev m K).trans (mayWait c sm n hl)

/-! ## The barrier -/

/-- Before signal `n`. -/
def bSt (c : Dev nD) (n : ℕ) : sProp 𝕄 :=
  iprop(owesX c (owedS c 0 + owedB c n)
    ∗ bigSep (Finset.Ico n 15) fun i => iprop(dutyTok ER (bar (dst c i)) 0 (bd i) ∗ barPay (dst c i) (bd i).val))

theorem step_signal (K : GSem nD τ sig → ℕ) (c : Dev nD) (n : ℕ) (hn : n < 15) {d : Dev nD} (hd : d = dst c n) {s : Sem sig} (hs : s = barrier0)
    {a : ℕ} (ha : a = 1) {α : Type} {k : PUnit → Prog (TpuEff nD τ sig (Elt F) Λ₀ .tc) α} {Q : α → sProp 𝕄} :
    iprop(recs m K ∗ bSt c n)
      ⊢ iprop((bSt c (n + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc d) s a) k) Q) := by
  subst hd hs ha
  unfold bSt owesX
  rw [bigSep_Ico_succ_bot hn]
  iintro ⟨#HR, ⟨%W, HO⟩, ⟨⟨Ht, Hp⟩, Hrest⟩⟩ Hk
  iapply (Rounds.wp_signal 𝒱₀ ER (Rd m) (c : Thread nD τ) none (dst := (dst c n : Thread nD τ)) (sem := barrier0) (r := 0) (d := bd n) (κ := K (bar (dst c n)))
      (by rw [duties_bar]; exact Finset.mem_univ _) (amount_bar m (dst c n) 0 (bd n)) () (owedS c 0 + owedB c (n + 1))
      (by rw [add_assoc, ← owedB_step c hn])) $$ [HO Ht Hp]
  · isplitr; · iapply (recs_inv m K (bar_mem (dst c n))); iexact HR
    isplitl [HO]; · iexact HO
    isplitl [Ht]; · iexact Ht
    isplitl [Hp]; · rw [payload_bar]; iexact Hp
    iapply (recs_bar m K (dst c n)); iexact HR
  iintro HO
  iapply Hk
  isplitl [HO]; · iexists W; iexact HO
  iexact Hrest

/-- Before copy `n`: what is owed, the tokens and slots of the copies to come, the credits of those gone. -/
def sendSt (c : Dev nD) (n : ℕ) : sProp 𝕄 :=
  iprop(owesX c (owedS c n)
    ∗ (bigSep (Finset.Ico n 60) fun i => iprop((dutyTok ER (snd c i) 0 0 ∗ dutyTok ER (rcv (dst c i) i) 0 0 ∗ reached ER (snd c i) 0)
        ∗ (slotAny (dst c i) c.val (i / 15) ∗ reached ER (rcv (dst c i) i) 0)))
    ∗ bigSep (Finset.range n) fun i => cred (tallyAt (snd c i) () N))

/-- What of it there is before the barrier. -/
def sendToks (c : Dev nD) : sProp 𝕄 :=
  bigSep (Finset.Ico 0 60) fun i => iprop(dutyTok ER (snd c i) 0 0 ∗ dutyTok ER (rcv (dst c i) i) 0 0 ∗ reached ER (snd c i) 0)

def flatEmb : Fin 15 × Fin 4 ↪ ℕ := ⟨fun p => 15 * p.2.val + p.1.val, fun a b h => by
  have h' : 15 * a.2.val + a.1.val = 15 * b.2.val + b.1.val := h
  have := a.1.isLt; have := b.1.isLt
  exact Prod.ext (Fin.ext (by omega)) (Fin.ext (by omega))⟩
theorem flat_map : (Finset.univ.map flatEmb : Finset ℕ) = Finset.Ico 0 60 := by
  ext x
  rw [Finset.mem_map, Finset.mem_Ico]
  constructor
  · rintro ⟨⟨o, ch⟩, -, rfl⟩
    have := o.isLt; have := ch.isLt
    show 0 ≤ 15 * ch.val + o.val ∧ 15 * ch.val + o.val < 60
    omega
  · rintro ⟨-, h⟩
    refine ⟨(⟨x % 15, by omega⟩, ⟨x / 15, by omega⟩), Finset.mem_univ _, ?_⟩
    show 15 * (x / 15) + x % 15 = x
    omega
theorem range4_map : (Finset.univ.map (Fin.valEmbedding (n := 4)) : Finset ℕ) = Finset.range 4 := by decide +kernel

theorem bigSep_flat (A : ℕ → sProp 𝕄) :
    bigSep (Finset.Ico 0 60) A = bigSep Finset.univ fun o : Fin 15 => bigSep (Finset.range 4) fun ch => A (15 * ch + o.val) := by
  rw [← flat_map, bigSep_map, bigSep_univ_prod]
  refine bigSep_congr fun o _ => ?_
  rw [← range4_map, bigSep_map]; rfl

theorem slots_flat (c : Dev nD) :
    (bigSep Finset.univ fun o : Fin 15 => (barPay c o.val : sProp 𝕄))
      = bigSep (Finset.Ico 0 60) fun i => iprop(slotAny (dst c i) c.val (i / 15) ∗ reached ER (rcv (dst c i) i) 0) := by
  rw [bigSep_flat]
  refine bigSep_congr fun o _ => ?_
  unfold barPay
  refine bigSep_congr fun ch hc => ?_
  have ho := o.isLt
  rw [dst_congr c (a := o.val) (b := 15 * ch + o.val) (by omega), show (15 * ch + o.val) / 15 = ch by omega]

theorem step_bwait (K : GSem nD τ sig → ℕ) (c : Dev nD) {s : Sem sig} (hs : s = barrier0)
    {a : ℕ} (ha : a = 15) {α : Type} {k : PUnit → Prog (TpuEff nD τ sig (Elt F) Λ₀ .tc) α} {Q : α → sProp 𝕄} :
    iprop(recs m K ∗ bSt c 15 ∗ sendToks c ∗ cred (tallyAt (bar c) () 15) ∗ atPos ER (bar c) 0 ∅ 0)
      ⊢ iprop(((sendSt c 0 ∗ atPos ER (bar c) 1 ∅ 0) -∗ wp frame (wpE (defs₀ (F := F)) 𝒱₀ (c : Thread nD τ) none) Set.univ (k ⟨⟩) Q)
        -∗ wp frame (wpE (defs₀ (F := F)) 𝒱₀ (c : Thread nD τ) none) Set.univ (.op (.semWait s a) k) Q) := by
  subst hs ha
  unfold bSt owesX
  rw [owedB_end, add_zero]
  iintro ⟨#HR, ⟨⟨%W, HO⟩, -⟩, Htk, Hc, Hat⟩ Hk
  iapply (Rounds.wp_wait_rest_token 𝒱₀ ER (Rd m) (c : Thread nD τ) none (κ := K (bar c))
      (wpE_semWait_eq 𝒱₀ (c : Thread nD τ) none Set.univ) (Set.mem_univ _) () (O := owedS c 0) (W := W) (R := 0) (m := 0) (T := ∅)
      ((Nat.zero_add 15).trans (expect_bar m c).symm)) $$ [Hc HO Hat]
  · isplitr; · iapply (recs_inv m K (bar_mem c)); iexact HR
    isplitl [Hc]; · iexact Hc
    isplitl [HO]; · iexact HO
    isplitr; · iapply (recs_mayWait m K c (.reg barrier0) 0 (le_refl 1)); iexact HR
    iexact Hat
  iintro ⟨HO, Hat, -, Hpay⟩
  ihave Hp := (Entails.of_eq ((show bigSep ((Rd m).duties (bar c) 0 \ ∅) (fun d => (Rd m).payload (bar c) 0 d)
      = bigSep Finset.univ fun o : Fin 15 => (barPay c o.val : sProp 𝕄) by rw [Finset.sdiff_empty, duties_bar]; rfl).trans (slots_flat c))) $$ Hpay
  iapply Hk
  isplitr [Hat]
  · unfold sendSt sendToks owesX
    isplitl [HO]; · iexists _; iexact HO
    isplitl [Htk Hp]
    · rw [bigSep_sep' _ (fun i => iprop(dutyTok ER (snd c i) 0 0 ∗ dutyTok ER (rcv (dst c i) i) 0 0 ∗ reached ER (snd c i) 0))]
      isplitl [Htk] <;> iassumption
    · rw [Finset.range_zero, bigSep_empty]; iempintro
  iexact Hat

/-! ## A copy to another device -/

theorem slotPts_split (c : Dev nD) (s ch i : ℕ) :
    slotPts m c s ch (shareDrop fullShare i) ⊢ iprop(slotPts m c s ch (shareTokN fullShare i) ∗ slotPts m c s ch (shareDrop fullShare (i + 1))) := by
  unfold slotPts
  iintro ⟨%f, %hf, H⟩
  ihave H := (pointsTo_share (PosShare.mem_left_op_right (shareDrop fullShare i))).1 $$ H
  icases H with ⟨Hd, Ht⟩
  isplitl [Ht]
  · iexists f; isplitr; · ipureintro; exact hf
    iexact Ht
  · iexists f; isplitr; · ipureintro; exact hf
    iexact Hd

theorem step_send (K : GSem nD τ sig → ℕ) (c : Dev nD) (n : ℕ) (hn : n < 60) {off : Fin 4 → ℕ} {h h'} (ho : off = ![c.val, n / 15, 0, 0])
    {sS sR : DmaSem sig} (hs : sS = sndS n) (hr : sR = rcvS n) {d : Dev nD} (hd : d = dst c n) {hsc hsrc hdst hsem}
    {α : Type} {k : PUnit → Prog (TpuEff nD τ sig (Elt F) Λ₀ .tc) α} {Q : α → sProp 𝕄} :
    iprop(recs m K ∗ sendSt c n ∗ slotPts m c c.val (n / 15) (shareDrop fullShare (n % 15)))
      ⊢ iprop(((sendSt c (n + 1) ∗ slotPts m c c.val (n / 15) (shareDrop fullShare (n % 15 + 1)))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (slotM off h) (.remote (Dev.tc d) (slotM off h') (.dma sS) hsc) (.dma sR) hsrc hdst hsem) k) Q) := by
  subst hs hr hd ho
  unfold sendSt owesX
  rw [bigSep_Ico_succ_bot hn]
  iintro ⟨#HR, ⟨⟨%W, HO⟩, ⟨⟨⟨Ht1, Ht2, #Hr1⟩, Hd, #Hr2⟩, Hrest⟩, Hcs⟩, Hs⟩ Hk
  ihave Hs := (slotPts_split m c c.val (n / 15) (n % 15)) $$ Hs
  icases Hs with ⟨Hs, Hs'⟩
  unfold slotAny
  icases Hd with ⟨%fd, Hd⟩
  ihave Hs := (Entails.of_eq (show slotPts m c c.val (n / 15) (shareTokN fullShare (n % 15)) = iprop(∃ f : Buf (Elt F) (gLoc c),
    ⌜∀ i ∈ slotSet c.val (n / 15), (i 3).val < 66 → f i = G m i⌝ ∗ gLoc c ↦[slotSet c.val (n / 15)]{shareTokN fullShare (n % 15)} f) from rfl)) $$ Hs
  icases Hs with ⟨%fs, %hfs, Hs⟩
  iapply (Rounds.wp_send_pointsTo 𝒱₀ ER (Rd m) (c : Thread nD τ) none (c' := (dst c n : Thread nD τ)) (src := slotM ![c.val, n / 15, 0, 0] h)
      (dst := slotM ![c.val, n / 15, 0, 0] h')
      (sS := .dma (sndS n)) (sem := .dma (rcvS n)) (q := shareTokN fullShare (n % 15)) (fs := fs) (κ₁ := K (snd c n)) (κ₂ := K (rcv (dst c n) n))
      (r₁ := 0) (r₂ := 0) (d₁ := 0) (d₂ := 0) (fd := fd)
      (by rw [duties_snd m c hn]; exact Finset.mem_singleton_self _) (by rw [duties_rcv m (dst c n) hn]; exact Finset.mem_singleton_self _)
      () () N rfl (amount_snd m c hn 0 0) (amount_rcv m (dst c n) hn 0 0) (owedS c (n + 1)) (owedS_step c hn) (W := W)
      (by
        rw [payload_snd m c hn, slot_view_set]; unfold sndPay slotPts
        iintro H; iexists fs; isplitr; · ipureintro; exact hfs
        iexact H)
      (by
        rw [payload_rcv m (dst c n) hn, slot_view_set]; unfold rcvPay slotPts
        rw [src_dst]
        iintro H
        iexists _
        isplitr
        rotate_left
        · iexact H
        · ipureintro; intro i hi h3
          exact (slot_landed c.val (n / 15) h fd fs i hi).trans (hfs i hi h3))) $$ [Hs Hd HO Ht1 Ht2]
  · isplitr; · iapply (recs_inv m K (snd_mem c hn)); iexact HR
    isplitr; · iapply (recs_inv m K (rcv_mem (dst c n) hn)); iexact HR
    isplitl [Hs]; · rw [slot_view_set]; iexact Hs
    isplitl [Hd]; · rw [slot_view_set]; iexact Hd
    isplitl [HO]; · iexact HO
    isplitl [Ht1]; · iexact Ht1
    isplitr; · iexact Hr1
    isplitl [Ht2]; · iexact Ht2
    iexact Hr2
  iintro ⟨Hc, HO⟩
  iapply Hk
  isplitr [Hs']
  · isplitl [HO]; · iexists W; iexact HO
    isplitl [Hrest]; · iexact Hrest
    rw [bigSep_range_succ]
    isplitl [Hc] <;> iassumption
  iexact Hs'

/-! ## The waits at the end -/

/-- Before the `n`-th wait on a send cell. -/
def wsSt (c : Dev nD) (n : ℕ) : sProp 𝕄 :=
  iprop(owesX c 0
    ∗ (bigSep (Finset.Ico n 60) fun i => iprop(cred (tallyAt (snd c i) () N) ∗ atPos ER (snd c i) 0 ∅ 0))
    ∗ bigSep (Finset.range n) fun i => iprop(sndPay m c i ∗ atPos ER (snd c i) 1 ∅ 0))
/-- Before the `n`-th wait on a receive cell. -/
def wrSt (c : Dev nD) (n : ℕ) : sProp 𝕄 :=
  iprop(owesX c 0
    ∗ (bigSep (Finset.Ico n 60) fun i => iprop(cred (tallyAt (rcv c i) () N) ∗ atPos ER (rcv c i) 0 ∅ 0))
    ∗ bigSep (Finset.range n) fun i => iprop(rcvPay m c i ∗ atPos ER (rcv c i) 1 ∅ 0))

theorem step_waitS (K : GSem nD τ sig → ℕ) (c : Dev nD) (n : ℕ) (hn : n < 60) {off off' : Fin 4 → ℕ} {h h'}
    {s : DmaSem sig} (hs : s = sndS n) {hsrc hdst}
    {α : Type} {k : PUnit → Prog (TpuEff nD τ sig (Elt F) Λ₀ .tc) α} {Q : α → sProp 𝕄} :
    iprop(recs m K ∗ wsSt m c n)
      ⊢ iprop((wsSt m c (n + 1) -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 s (slotM off h) (slotM off' h') hsrc hdst) k) Q) := by
  subst hs
  unfold wsSt owesX
  rw [bigSep_Ico_succ_bot hn]
  iintro ⟨#HR, ⟨%W, HO⟩, ⟨⟨Hc, Hat⟩, Hrest⟩, Hcs⟩ Hk
  iapply (Rounds.wp_wait_rest_token 𝒱₀ ER (Rd m) (c : Thread nD τ) none (κ := K (snd c n))
      (wpE_waitDma2_eq (src := slotM off h) (dst := slotM off' h') (hsrc := hsrc) (hdst := hdst) 𝒱₀ (c : Thread nD τ) none Set.univ) (Set.mem_univ _) () (O := 0) (W := W) (R := 0) (m := 0) (T := ∅)
      ((Nat.zero_add _).trans (expect_snd m c hn).symm)) $$ [Hc HO Hat]
  · isplitr; · iapply (recs_inv m K (snd_mem c hn)); iexact HR
    isplitl [Hc]; · iexact Hc
    isplitl [HO]; · iexact HO
    isplitr; · rw [MayWait_zero]; iempintro
    iexact Hat
  iintro ⟨HO, Hat, -, Hpay⟩
  ihave Hp := (Entails.of_eq (show bigSep ((Rd m).duties (snd c n) 0 \ ∅) (fun d => (Rd m).payload (snd c n) 0 d) = sndPay m c n by
    rw [Finset.sdiff_empty, duties_snd m c hn, bigSep_singleton, payload_snd m c hn])) $$ Hpay
  iapply Hk
  isplitl [HO]; · iexists _; iexact HO
  isplitl [Hrest]; · iexact Hrest
  rw [bigSep_range_succ]
  isplitr [Hcs]
  · isplitl [Hp] <;> iassumption
  iexact Hcs

theorem step_waitR (K : GSem nD τ sig → ℕ) (c : Dev nD) (n : ℕ) (hn : n < 60) {off off' : Fin 4 → ℕ} {h h'}
    {s : DmaSem sig} (hs : s = rcvS n) {hsrc hdst}
    {α : Type} {k : PUnit → Prog (TpuEff nD τ sig (Elt F) Λ₀ .tc) α} {Q : α → sProp 𝕄} :
    iprop(recs m K ∗ wrSt m c n)
      ⊢ iprop((wrSt m c (n + 1) -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 s (slotM off h) (slotM off' h') hsrc hdst) k) Q) := by
  subst hs
  unfold wrSt owesX
  rw [bigSep_Ico_succ_bot hn]
  iintro ⟨#HR, ⟨%W, HO⟩, ⟨⟨Hc, Hat⟩, Hrest⟩, Hcs⟩ Hk
  iapply (Rounds.wp_wait_rest_token 𝒱₀ ER (Rd m) (c : Thread nD τ) none (κ := K (rcv c n))
      (wpE_waitDma2_eq (src := slotM off h) (dst := slotM off' h') (hsrc := hsrc) (hdst := hdst) 𝒱₀ (c : Thread nD τ) none Set.univ) (Set.mem_univ _) () (O := 0) (W := W) (R := 0) (m := 0) (T := ∅)
      ((Nat.zero_add _).trans (expect_rcv m c hn).symm)) $$ [Hc HO Hat]
  · isplitr; · iapply (recs_inv m K (rcv_mem c hn)); iexact HR
    isplitl [Hc]; · iexact Hc
    isplitl [HO]; · iexact HO
    isplitr; · rw [MayWait_zero]; iempintro
    iexact Hat
  iintro ⟨HO, Hat, -, Hpay⟩
  ihave Hp := (Entails.of_eq (show bigSep ((Rd m).duties (rcv c n) 0 \ ∅) (fun d => (Rd m).payload (rcv c n) 0 d) = rcvPay m c n by
    rw [Finset.sdiff_empty, duties_rcv m c hn, bigSep_singleton, payload_rcv m c hn])) $$ Hpay
  iapply Hk
  isplitl [HO]; · iexists _; iexact HO
  isplitl [Hrest]; · iexact Hrest
  rw [bigSep_range_succ]
  isplitr [Hcs]
  · isplitl [Hp] <;> iassumption
  iexact Hcs

/-! ## The K and V streams -/

/-- Before a copy of chunk `ch` into its half. -/
def kIdle (c : Dev nD) (ch : ℕ) : sProp 𝕄 :=
  iprop(kAny c (ch % 2) ∗ kSrc m c ch ∗ dutyTok ER (kv c (ch % 2)) (ch / 2) 0 ∗ reached ER (kv c (ch % 2)) (ch / 2))
def vIdle (c : Dev nD) (ch : ℕ) : sProp 𝕄 :=
  iprop(vAny c (ch % 2) ∗ vSrc m c ch ∗ dutyTok ER (kv c (2 + ch % 2)) (ch / 2) 0 ∗ reached ER (kv c (2 + ch % 2)) (ch / 2))
/-- While a copy is under way, or landed and not waited for. -/
def kvFly (c : Dev nD) (j : ℕ) : sProp 𝕄 := cred (tallyAt (kv c j) () NK)

theorem kvPay_k (c : Dev nD) (ch : ℕ) : kvPay m c (ch % 2) (ch / 2) = iprop(kFull m c ch ∗ kSrc m c ch) := by
  unfold kvPay; rw [if_pos (Nat.mod_lt _ (by decide)), Nat.div_add_mod]
theorem kvPay_v (c : Dev nD) (ch : ℕ) : kvPay m c (2 + ch % 2) (ch / 2) = iprop(vFull m c ch ∗ vSrc m c ch) := by
  unfold kvPay; rw [if_neg (by omega), Nat.add_sub_cancel_left, Nat.div_add_mod]

theorem step_copyK (K : GSem nD τ sig → ℕ) (c : Dev nD) (ch : ℕ) (hc : ch < 4) {off : Fin 4 → ℕ} {off' : Fin 3 → ℕ} {h h'}
    (ho : off = ![ch % 2, 0, 0, 0]) (ho' : off' = ![2 * ch, 0, 0]) {s : DmaSem sig} (hs : s = kvS (ch % 2)) {hsrc hdst hsem}
    {α : Type} {k : PUnit → Prog (TpuEff nD τ sig (Elt F) Λ₀ .tc) α} {Q : α → sProp 𝕄} :
    iprop(recs m K ∗ kIdle m c ch)
      ⊢ iprop((kvFly c (ch % 2) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (khM off' h') (.here (kbM off h)) (.dma s) hsrc hdst hsem) k) Q) := by
  subst hs ho ho'
  have hj : ch % 2 < 4 := by omega
  have hr : ch / 2 < 2 := by omega
  unfold kIdle kAny kSrc kvFly
  iintro ⟨#HR, ⟨%fd, Hd⟩, Hs, Ht, #Hr⟩ Hk
  iapply (Rounds.wp_copy_pointsTo 𝒱₀ ER (Rd m) (c : Thread nD τ) none (src := khM ![2 * ch, 0, 0] h') (dst := kbM ![ch % 2, 0, 0, 0] h)
      (sem := .dma (kvS (ch % 2))) (q := fullShare) (fs := V m c main_v2) (fd := fd) (r := ch / 2) (d := 0) (κ := K (kv c (ch % 2)))
      (by rw [duties_kv m c hj hr]; exact Finset.mem_singleton_self _) () NK rfl (amount_kv m c hj _ 0)
      (by
        rw [payload_kv m c hj, kvPay_k, kb_view_set, kh_view_set]; unfold kFull kSrc
        iintro ⟨Hd, Hs⟩
        isplitl [Hd]
        · iexists _
          isplitr
          rotate_left
          · iexact Hd
          · ipureintro; intro i hi b hb
            exact kb_landed (ch % 2) ch h h' fd (V m c main_v2) i hi b hb
        · iexact Hs)) $$ [Hs Hd Ht]
  · isplitr; · iapply (recs_inv m K (kv_mem c hj)); iexact HR
    isplitl [Hs]; · rw [kh_view_set]; iexact Hs
    isplitl [Hd]; · rw [kb_view_set]; iexact Hd
    isplitl [Ht]; · iexact Ht
    iexact Hr
  iexact Hk

theorem step_copyV (K : GSem nD τ sig → ℕ) (c : Dev nD) (ch : ℕ) (hc : ch < 4) {off : Fin 4 → ℕ} {off' : Fin 3 → ℕ} {h h'}
    (ho : off = ![ch % 2, 0, 0, 0]) (ho' : off' = ![2 * ch, 0, 0]) {s : DmaSem sig} (hs : s = kvS (2 + ch % 2)) {hsrc hdst hsem}
    {α : Type} {k : PUnit → Prog (TpuEff nD τ sig (Elt F) Λ₀ .tc) α} {Q : α → sProp 𝕄} :
    iprop(recs m K ∗ vIdle m c ch)
      ⊢ iprop((kvFly c (2 + ch % 2) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (vhM off' h') (.here (vbM off h)) (.dma s) hsrc hdst hsem) k) Q) := by
  subst hs ho ho'
  have hj : 2 + ch % 2 < 4 := by omega
  have hr : ch / 2 < 2 := by omega
  unfold vIdle vAny vSrc kvFly
  iintro ⟨#HR, ⟨%fd, Hd⟩, Hs, Ht, #Hr⟩ Hk
  iapply (Rounds.wp_copy_pointsTo 𝒱₀ ER (Rd m) (c : Thread nD τ) none (src := vhM ![2 * ch, 0, 0] h') (dst := vbM ![ch % 2, 0, 0, 0] h)
      (sem := .dma (kvS (2 + ch % 2))) (q := fullShare) (fs := V m c main_v3) (fd := fd) (r := ch / 2) (d := 0) (κ := K (kv c (2 + ch % 2)))
      (by rw [duties_kv m c hj hr]; exact Finset.mem_singleton_self _) () NK rfl (amount_kv m c hj _ 0)
      (by
        rw [payload_kv m c hj, kvPay_v, vb_view_set, vh_view_set]; unfold vFull vSrc
        iintro ⟨Hd, Hs⟩
        isplitl [Hd]
        · iexists _
          isplitr
          rotate_left
          · iexact Hd
          · ipureintro; intro i hi b hb
            exact vb_landed (ch % 2) ch h h' fd (V m c main_v3) i hi b hb
        · iexact Hs)) $$ [Hs Hd Ht]
  · isplitr; · iapply (recs_inv m K (kv_mem c hj)); iexact HR
    isplitl [Hs]; · rw [vh_view_set]; iexact Hs
    isplitl [Hd]; · rw [vb_view_set]; iexact Hd
    isplitl [Ht]; · iexact Ht
    iexact Hr
  iexact Hk

/-- A wait on copy cell `j` in round `r`, with the copies from the `n`-th on still owed. -/
theorem step_waitKV (K : GSem nD τ sig → ℕ) (c : Dev nD) (j r n : ℕ) (hj : j < 4) (hr : r < 2) {s : DmaSem sig} (hs : s = kvS j)
    {sp sp' : Space} {t t' : Shape} {src : Memref sig .tc sp t .f32} {dst : Memref sig .tc sp' t' .f32} (hN : dst.view.dmaCredit = NK) {hsrc hdst}
    {α : Type} {k : PUnit → Prog (TpuEff nD τ sig (Elt F) Λ₀ .tc) α} {Q : α → sProp 𝕄} :
    iprop(recs m K ∗ sendSt c n ∗ kvFly c j ∗ atPos ER (kv c j) r ∅ 0)
      ⊢ iprop(((sendSt c n ∗ kvPay m c j r ∗ atPos ER (kv c j) (r + 1) ∅ 0 ∗ reached ER (kv c j) (r + 1))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s src dst hsrc hdst) k) Q) := by
  subst hs
  unfold sendSt owesX kvFly
  iintro ⟨#HR, ⟨⟨%W, HO⟩, Hrest⟩, Hc, Hat⟩ Hk
  iapply (Rounds.wp_wait_rest_token 𝒱₀ ER (Rd m) (c : Thread nD τ) none (κ := K (kv c j))
      (wpE_waitDma2_eq (src := src) (dst := dst) (hsrc := hsrc) (hdst := hdst) 𝒱₀ (c : Thread nD τ) none Set.univ) (Set.mem_univ _) () (O := owedS c n) (W := W) (R := r) (m := 0) (T := ∅)
      ((Nat.zero_add _).trans (hN.trans (expect_kv m c hj hr).symm))) $$ [Hc HO Hat]
  · isplitr; · iapply (recs_inv m K (kv_mem c hj)); iexact HR
    isplitl [Hc]; · rw [hN]; iexact Hc
    isplitl [HO]; · iexact HO
    isplitr
    · iapply (recs_mayWait m K c (.dma (kvS j)) n (Eq.le (congrArg lvK (kindOf_kv hj)) |>.trans (Nat.zero_le 1))); iexact HR
    iexact Hat
  iintro ⟨HO, Hat, #Hr, Hpay⟩
  ihave Hp := (Entails.of_eq (show bigSep ((Rd m).duties (kv c j) r \ ∅) (fun d => (Rd m).payload (kv c j) r d) = kvPay m c j r by
    rw [Finset.sdiff_empty, duties_kv m c hj hr, bigSep_singleton, payload_kv m c hj])) $$ Hpay
  iapply Hk
  isplitl [HO Hrest]
  · isplitl [HO]; · iexists _; iexact HO
    iexact Hrest
  isplitl [Hp]; · iexact Hp
  isplitl [Hat]; · iexact Hat
  iexact Hr

/-! ## Loads -/

def qPts (c : Dev nD) : sProp 𝕄 := iprop(((c : Thread nD τ).loc cc0_stg0_0) ↦[Finset.univ]{fullShare} (V m c main_v1))

theorem step_ldQ (c : Dev nD) (b : Fin 8) {off : Fin 2 → ℕ} {h} (ho : off = ![b.val, 0]) {hl}
    {α : Type} {k : Vec F S1x512 .f32 → Prog (TpuEff nD τ sig (Elt F) Λ₀ .tc) α} {Q : α → sProp 𝕄} :
    qPts m c
      ⊢ iprop((qPts m c -∗ wp frame (wpE (defs₀ (F := F)) 𝒱₀ (c : Thread nD τ) none) Set.univ (k (qrow m c b)) Q)
        -∗ wp frame (wpE (defs₀ (F := F)) 𝒱₀ (c : Thread nD τ) none) Set.univ
            (.op (.load qM (Rect.unit (s := S8x512) off S1x512.size h).toLoadRect hl) k) Q) := by
  subst ho
  unfold qPts
  rw [← q_read m b h c]
  exact wp_load 𝒱₀ (c : Thread nD τ) none Set.univ (m := qM) (Finset.subset_univ _)

theorem step_ldK (c : Dev nD) (ch cb : ℕ) (b : Fin 8) (hb : b.val = 2 * ch + cb) {off : Fin 4 → ℕ} {h} (ho : off = ![ch % 2, cb, 0, 0]) {hl}
    {α : Type} {k : Vec F S1x1x512x512 .f32 → Prog (TpuEff nD τ sig (Elt F) Λ₀ .tc) α} {Q : α → sProp 𝕄} :
    kFull m c ch
      ⊢ iprop((kFull m c ch -∗ wp frame (wpE (defs₀ (F := F)) 𝒱₀ (c : Thread nD τ) none) Set.univ (k (kblk m c b)) Q)
        -∗ wp frame (wpE (defs₀ (F := F)) 𝒱₀ (c : Thread nD τ) none) Set.univ
            (.op (.load kB (Rect.unit (s := S2x2x512x512) off S1x1x512x512.size h).toLoadRect hl) k) Q) := by
  subst ho
  unfold kFull
  iintro ⟨%f, %hf, H⟩ Hk
  iapply (wp_load 𝒱₀ (c : Thread nD τ) none Set.univ (m := kB) (S := halfSet (ch % 2)) (f := f)
    (r := (Rect.unit (s := S2x2x512x512) ![ch % 2, cb, 0, 0] S1x1x512x512.size h).toLoadRect)
    (by
      have := half_read_sub (ch % 2) cb h
      rwa [← View.set_slice_whole (cc0_scratch0 : Ref sig .tc), View.set_slice] at this)) $$ H
  iintro H
  rw [show kB.view.readAt (Elt F) (Rect.unit (s := S2x2x512x512) ![ch % 2, cb, 0, 0] S1x1x512x512.size h).toLoadRect f = kblk m c b from
    kb_read (ch % 2) cb b h f (V m c main_v2) ch hf hb]
  iapply Hk
  iexists f
  isplitr; · ipureintro; exact hf
  iexact H

theorem step_ldV (c : Dev nD) (ch cb : ℕ) (b : Fin 8) (hb : b.val = 2 * ch + cb) {off : Fin 4 → ℕ} {h} (ho : off = ![ch % 2, cb, 0, 0]) {hl}
    {α : Type} {k : Vec F S1x1x512x512 .f32 → Prog (TpuEff nD τ sig (Elt F) Λ₀ .tc) α} {Q : α → sProp 𝕄} :
    vFull m c ch
      ⊢ iprop((vFull m c ch -∗ wp frame (wpE (defs₀ (F := F)) 𝒱₀ (c : Thread nD τ) none) Set.univ (k (vblk m c b)) Q)
        -∗ wp frame (wpE (defs₀ (F := F)) 𝒱₀ (c : Thread nD τ) none) Set.univ
            (.op (.load vB (Rect.unit (s := S2x2x512x512) off S1x1x512x512.size h).toLoadRect hl) k) Q) := by
  subst ho
  unfold vFull
  iintro ⟨%f, %hf, H⟩ Hk
  iapply (wp_load 𝒱₀ (c : Thread nD τ) none Set.univ (m := vB) (S := halfSet (ch % 2)) (f := f)
    (r := (Rect.unit (s := S2x2x512x512) ![ch % 2, cb, 0, 0] S1x1x512x512.size h).toLoadRect)
    (by
      have := half_read_sub (ch % 2) cb h
      rwa [← View.set_slice_whole (cc0_scratch1 : Ref sig .tc), View.set_slice] at this)) $$ H
  iintro H
  rw [show vB.view.readAt (Elt F) (Rect.unit (s := S2x2x512x512) ![ch % 2, cb, 0, 0] S1x1x512x512.size h).toLoadRect f = vblk m c b from
    kb_read (ch % 2) cb b h f (V m c main_v3) ch hf hb]
  iapply Hk
  iexists f
  isplitr; · ipureintro; exact hf
  iexact H

/-! ## A chunk's stores -/

/-- The slot of chunk `ch`, with the first `k` of its six stores done. -/
def compSt (c : Dev nD) (ch k : ℕ) : sProp 𝕄 :=
  iprop(∃ f : Buf (Elt F) (gLoc c), ⌜∀ i ∈ slotSet c.val ch, covered k i → f i = G m i⌝ ∗ gLoc c ↦[slotSet c.val ch]{fullShare} f)

theorem compSt_start (c : Dev nD) (ch : ℕ) : slotAny c c.val ch ⊢ compSt m c ch 0 := by
  unfold slotAny compSt
  iintro ⟨%f, H⟩
  iexists f
  isplitr; · ipureintro; intro i _ h; unfold covered at h; omega
  iexact H
theorem compSt_end (c : Dev nD) (ch : ℕ) : compSt m c ch 6 ⊢ slotPts m c c.val ch fullShare := by
  unfold slotPts compSt
  iintro ⟨%f, %hf, H⟩
  iexists f
  isplitr; · ipureintro; exact fun i hi h => hf i hi (covered_all i h)
  iexact H

theorem step_put (c : Dev nD) (ch p q : ℕ) {off sz : Fin 4 → ℕ} {h : ∀ a, off a + sz a ≤ S16x4x16x128.size a} {w : (Rect.unit (s := S16x4x16x128) off sz h).shape.Idx → Elt F .f32}
    (hsub : (Rect.unit (s := S16x4x16x128) off sz h).set ⊆ slotSet c.val ch)
    (hcov : ∀ i ∈ slotSet c.val ch, covered q i → covered p i ∨ i ∈ (Rect.unit (s := S16x4x16x128) off sz h).set)
    (hw : ∀ x, w x = G m ((Rect.unit (s := S16x4x16x128) off sz h).idx x)) {hl hx hm}
    {α : Type} {k : PUnit → Prog (TpuEff nD τ sig (Elt F) Λ₀ .tc) α} {Q : α → sProp 𝕄} :
    compSt m c ch p
      ⊢ iprop((compSt m c ch q -∗ wp frame (wpE (defs₀ (F := F)) 𝒱₀ (c : Thread nD τ) none) Set.univ (k ⟨⟩) Q)
        -∗ wp frame (wpE (defs₀ (F := F)) 𝒱₀ (c : Thread nD τ) none) Set.univ
            (.op (.load gB (Rect.unit (s := S16x4x16x128) off sz h).toLoadRect hl)
              fun _ => .op (.store gB (Rect.unit (s := S16x4x16x128) off sz h) w Finset.univ hx hm) k) Q) := by
  have hset : (gB.access (Rect.unit (s := S16x4x16x128) off sz h)).set ⊆ slotSet c.val ch :=
    (Eq.subset (View.set_slice_whole (cc0_scratch2 : Ref sig .tc) (Rect.unit (s := S16x4x16x128) off sz h))).trans hsub
  unfold compSt
  iintro ⟨%f, %hf, H⟩ Hk
  iapply (wp_load 𝒱₀ (c : Thread nD τ) none Set.univ (m := gB) (S := slotSet c.val ch) (f := f)
    (r := (Rect.unit (s := S16x4x16x128) off sz h).toLoadRect) (by rw [View.set_slice] at hset; exact hset)) $$ H
  iintro H
  iapply (wp_store 𝒱₀ (c : Thread nD τ) none Set.univ (m := gB) (S := slotSet c.val ch) (f := f)
    (r := Rect.unit (s := S16x4x16x128) off sz h) (w := w) (Mk := Finset.univ) ((View.setOn_subset_set _ _).trans hset)) $$ H
  iintro H
  iapply Hk
  iexists _
  isplitr
  rotate_left
  · iexact H
  · ipureintro
    intro i hi hc
    by_cases hr : i ∈ (Rect.unit (s := S16x4x16x128) off sz h).set
    · rw [← View.set_slice_whole (cc0_scratch2 : Ref sig .tc) (Rect.unit (s := S16x4x16x128) off sz h), View.set, Finset.mem_map] at hr
      obtain ⟨x, -, rfl⟩ := hr
      exact (View.write_emb_of_mem (v := gB.access (Rect.unit (s := S16x4x16x128) off sz h)) f w (Finset.mem_univ x)).trans (hw x)
    · refine (View.write_of_not_mem (v := gB.access (Rect.unit (s := S16x4x16x128) off sz h)) f w Finset.univ (fun hi' => hr ?_)).trans
        (hf i hi ((hcov i hi hc).resolve_right hr))
      have := View.setOn_subset_set _ _ hi'
      exact (View.set_slice_whole (cc0_scratch2 : Ref sig .tc) (Rect.unit (s := S16x4x16x128) off sz h)) ▸ this

theorem step_putO (c : Dev nD) (ch cb : ℕ) (b : Fin 8) (hb : b.val = 2 * ch + cb) (hcb : cb < 2) {off : Fin 4 → ℕ} {h}
    (ho : off = ![c.val, ch, 8 * cb, 0]) {w : Vec F S1x1x8x64 .f32} (hw : w = partO (qrow m c b) (kblk m c b) (vblk m c b)) {hl hx hm}
    {α : Type} {k : PUnit → Prog (TpuEff nD τ sig (Elt F) Λ₀ .tc) α} {Q : α → sProp 𝕄} :
    compSt m c ch (3 * cb)
      ⊢ iprop((compSt m c ch (3 * cb + 1) -∗ wp frame (wpE (defs₀ (F := F)) 𝒱₀ (c : Thread nD τ) none) Set.univ (k ⟨⟩) Q)
        -∗ wp frame (wpE (defs₀ (F := F)) 𝒱₀ (c : Thread nD τ) none) Set.univ
            (.op (.load gB (Rect.unit (s := S16x4x16x128) off S1x1x8x64.size h).toLoadRect hl)
              fun _ => .op (.store gB (Rect.unit (s := S16x4x16x128) off S1x1x8x64.size h) w Finset.univ hx hm) k) Q) := by
  subst ho hw
  exact step_put m c ch (3 * cb) (3 * cb + 1) (piece_sub c.val ch (8 * cb) 0 _ rfl rfl h) (covered_o hcb h)
    (G_o m c ch cb b hb hcb h)

theorem step_putM (c : Dev nD) (ch cb : ℕ) (b : Fin 8) (hb : b.val = 2 * ch + cb) (hcb : cb < 2) {off : Fin 4 → ℕ} {h}
    (ho : off = ![c.val, ch, 8 * cb, 64]) {w : Vec F S1x1x8x1 .f32} (hw : w = partM (qrow m c b) (kblk m c b)) {hl hx hm}
    {α : Type} {k : PUnit → Prog (TpuEff nD τ sig (Elt F) Λ₀ .tc) α} {Q : α → sProp 𝕄} :
    compSt m c ch (3 * cb + 1)
      ⊢ iprop((compSt m c ch (3 * cb + 2) -∗ wp frame (wpE (defs₀ (F := F)) 𝒱₀ (c : Thread nD τ) none) Set.univ (k ⟨⟩) Q)
        -∗ wp frame (wpE (defs₀ (F := F)) 𝒱₀ (c : Thread nD τ) none) Set.univ
            (.op (.load gB (Rect.unit (s := S16x4x16x128) off S1x1x8x1.size h).toLoadRect hl)
              fun _ => .op (.store gB (Rect.unit (s := S16x4x16x128) off S1x1x8x1.size h) w Finset.univ hx hm) k) Q) := by
  subst ho hw
  exact step_put m c ch (3 * cb + 1) (3 * cb + 2) (piece_sub c.val ch (8 * cb) 64 _ rfl rfl h) (covered_ml (t := 0) hcb (by decide) h)
    (G_m m c ch cb b hb hcb h)

theorem step_putL (c : Dev nD) (ch cb : ℕ) (b : Fin 8) (hb : b.val = 2 * ch + cb) (hcb : cb < 2) {off : Fin 4 → ℕ} {h}
    (ho : off = ![c.val, ch, 8 * cb, 65]) {w : Vec F S1x1x8x1 .f32} (hw : w = partL (qrow m c b) (kblk m c b)) {hl hx hm}
    {α : Type} {k : PUnit → Prog (TpuEff nD τ sig (Elt F) Λ₀ .tc) α} {Q : α → sProp 𝕄} :
    compSt m c ch (3 * cb + 2)
      ⊢ iprop((compSt m c ch (3 * cb + 3) -∗ wp frame (wpE (defs₀ (F := F)) 𝒱₀ (c : Thread nD τ) none) Set.univ (k ⟨⟩) Q)
        -∗ wp frame (wpE (defs₀ (F := F)) 𝒱₀ (c : Thread nD τ) none) Set.univ
            (.op (.load gB (Rect.unit (s := S16x4x16x128) off S1x1x8x1.size h).toLoadRect hl)
              fun _ => .op (.store gB (Rect.unit (s := S16x4x16x128) off S1x1x8x1.size h) w Finset.univ hx hm) k) Q) := by
  subst ho hw
  exact step_put m c ch (3 * cb + 2) (3 * cb + 3) (piece_sub c.val ch (8 * cb) 65 _ rfl rfl h) (covered_ml (t := 1) hcb (by decide) h)
    (G_l m c ch cb b hb hcb h)

end Cert.KernelIdeal.Talk
-- ==== Proof.Phase.lean ====
/-
The states between the parts of the body, and the log-sum-exp combine as one function of the gathered buffer.
-/
module

public import proofs.«01_k».proof.Proof.Steps

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ)

/-! ## The streams, chunk by chunk -/

/-- Chunk `ch` of K under way; landed and waited for; about to be copied. -/
def kA (c : Dev nD) (ch : ℕ) : sProp 𝕄 := iprop(kvFly c (ch % 2) ∗ atPos ER (kv c (ch % 2)) (ch / 2) ∅ 0)
def kB' (c : Dev nD) (ch : ℕ) : sProp 𝕄 :=
  iprop((kFull m c ch ∗ kSrc m c ch) ∗ atPos ER (kv c (ch % 2)) (ch / 2 + 1) ∅ 0 ∗ reached ER (kv c (ch % 2)) (ch / 2 + 1))
def kC (c : Dev nD) (ch : ℕ) : sProp 𝕄 := iprop(kIdle m c ch ∗ atPos ER (kv c (ch % 2)) (ch / 2) ∅ 0)
/-- What a chunk to come needs besides the half it goes to. -/
def kRest (c : Dev nD) (ch : ℕ) : sProp 𝕄 := iprop(kSrc m c ch ∗ dutyTok ER (kv c (ch % 2)) (ch / 2) 0)
/-- The same for V. -/
def vA (c : Dev nD) (ch : ℕ) : sProp 𝕄 := iprop(kvFly c (2 + ch % 2) ∗ atPos ER (kv c (2 + ch % 2)) (ch / 2) ∅ 0)
def vB' (c : Dev nD) (ch : ℕ) : sProp 𝕄 :=
  iprop((vFull m c ch ∗ vSrc m c ch) ∗ atPos ER (kv c (2 + ch % 2)) (ch / 2 + 1) ∅ 0 ∗ reached ER (kv c (2 + ch % 2)) (ch / 2 + 1))
def vC (c : Dev nD) (ch : ℕ) : sProp 𝕄 := iprop(vIdle m c ch ∗ atPos ER (kv c (2 + ch % 2)) (ch / 2) ∅ 0)
def vRest (c : Dev nD) (ch : ℕ) : sProp 𝕄 := iprop(vSrc m c ch ∗ dutyTok ER (kv c (2 + ch % 2)) (ch / 2) 0)

theorem kFull_any (c : Dev nD) (ch : ℕ) : kFull m c ch ⊢ kAny c (ch % 2) := by
  unfold kFull kAny; iintro ⟨%f, -, H⟩; iexists f; iexact H
theorem vFull_any (c : Dev nD) (ch : ℕ) : vFull m c ch ⊢ vAny c (ch % 2) := by
  unfold vFull vAny; iintro ⟨%f, -, H⟩; iexists f; iexact H

theorem k_next (c : Dev nD) (ch : ℕ) : iprop(kB' m c ch ∗ kRest m c (ch + 2)) ⊢ iprop(kC m c (ch + 2) ∗ kSrc m c ch) := by
  unfold kB' kRest kC kIdle
  rw [Nat.add_mod_right, show (ch + 2) / 2 = ch / 2 + 1 from Nat.add_div_right ch (by decide)]
  iintro ⟨⟨⟨Hf, Hs⟩, Hat, Hr⟩, Hs2, Ht⟩
  ihave Hf := (kFull_any m c ch) $$ Hf
  isplitr [Hs]
  · isplitr [Hat]
    · isplitl [Hf]; · iexact Hf
      isplitl [Hs2]; · iexact Hs2
      isplitl [Ht] <;> iassumption
    · iexact Hat
  · iexact Hs
theorem v_next (c : Dev nD) (ch : ℕ) : iprop(vB' m c ch ∗ vRest m c (ch + 2)) ⊢ iprop(vC m c (ch + 2) ∗ vSrc m c ch) := by
  unfold vB' vRest vC vIdle
  rw [Nat.add_mod_right, show (ch + 2) / 2 = ch / 2 + 1 from Nat.add_div_right ch (by decide)]
  iintro ⟨⟨⟨Hf, Hs⟩, Hat, Hr⟩, Hs2, Ht⟩
  ihave Hf := (vFull_any m c ch) $$ Hf
  isplitr [Hs]
  · isplitr [Hat]
    · isplitl [Hf]; · iexact Hf
      isplitl [Hs2]; · iexact Hs2
      isplitl [Ht] <;> iassumption
    · iexact Hat
  · iexact Hs

theorem copyK (K : GSem nD τ sig → ℕ) (c : Dev nD) (ch : ℕ) (hc : ch < 4) {off : Fin 4 → ℕ} {off' : Fin 3 → ℕ} {h h'}
    (ho : off = ![ch % 2, 0, 0, 0]) (ho' : off' = ![2 * ch, 0, 0]) {s : DmaSem sig} (hs : s = kvS (ch % 2)) {hsrc hdst hsem}
    {α : Type} {k : PUnit → Prog (TpuEff nD τ sig (Elt F) Λ₀ .tc) α} {Q : α → sProp 𝕄} :
    iprop(recs m K ∗ kC m c ch)
      ⊢ iprop((kA c ch -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (khM off' h') (.here (kbM off h)) (.dma s) hsrc hdst hsem) k) Q) := by
  unfold kC kA
  iintro ⟨#HR, Hi, Hat⟩ Hk
  iapply (step_copyK m K c ch hc ho ho' hs) $$ [Hi]
  · isplitr; · iexact HR
    iexact Hi
  iintro Hf
  iapply Hk
  isplitl [Hf] <;> iassumption
theorem copyV (K : GSem nD τ sig → ℕ) (c : Dev nD) (ch : ℕ) (hc : ch < 4) {off : Fin 4 → ℕ} {off' : Fin 3 → ℕ} {h h'}
    (ho : off = ![ch % 2, 0, 0, 0]) (ho' : off' = ![2 * ch, 0, 0]) {s : DmaSem sig} (hs : s = kvS (2 + ch % 2)) {hsrc hdst hsem}
    {α : Type} {k : PUnit → Prog (TpuEff nD τ sig (Elt F) Λ₀ .tc) α} {Q : α → sProp 𝕄} :
    iprop(recs m K ∗ vC m c ch)
      ⊢ iprop((vA c ch -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (vhM off' h') (.here (vbM off h)) (.dma s) hsrc hdst hsem) k) Q) := by
  unfold vC vA
  iintro ⟨#HR, Hi, Hat⟩ Hk
  iapply (step_copyV m K c ch hc ho ho' hs) $$ [Hi]
  · isplitr; · iexact HR
    iexact Hi
  iintro Hf
  iapply Hk
  isplitl [Hf] <;> iassumption

theorem waitK (K : GSem nD τ sig → ℕ) (c : Dev nD) (ch n : ℕ) (hc : ch < 4) {s : DmaSem sig} (hs : s = kvS (ch % 2))
    {off : Fin 4 → ℕ} {h} {sp : Space} {t : Shape} {src : Memref sig .tc sp t .f32} {hsrc hdst}
    {α : Type} {k : PUnit → Prog (TpuEff nD τ sig (Elt F) Λ₀ .tc) α} {Q : α → sProp 𝕄} :
    iprop(recs m K ∗ sendSt c n ∗ kA c ch)
      ⊢ iprop(((sendSt c n ∗ kB' m c ch) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s src (kbM off h) hsrc hdst) k) Q) := by
  have hN : (kbM off h).view.dmaCredit = NK := rfl
  unfold kA kB'
  rw [← kvPay_k]
  iintro ⟨#HR, HS, Hf, Hat⟩ Hk
  iapply (step_waitKV m K c (ch % 2) (ch / 2) n (by omega) (by omega) hs hN) $$ [HS Hf Hat]
  · isplitr; · iexact HR
    isplitl [HS]; · iexact HS
    isplitl [Hf] <;> iassumption
  iexact Hk
theorem waitV (K : GSem nD τ sig → ℕ) (c : Dev nD) (ch n : ℕ) (hc : ch < 4) {s : DmaSem sig} (hs : s = kvS (2 + ch % 2))
    {off : Fin 4 → ℕ} {h} {sp : Space} {t : Shape} {src : Memref sig .tc sp t .f32} {hsrc hdst}
    {α : Type} {k : PUnit → Prog (TpuEff nD τ sig (Elt F) Λ₀ .tc) α} {Q : α → sProp 𝕄} :
    iprop(recs m K ∗ sendSt c n ∗ vA c ch)
      ⊢ iprop(((sendSt c n ∗ vB' m c ch) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s src (vbM off h) hsrc hdst) k) Q) := by
  have hN : (vbM off h).view.dmaCredit = NK := rfl
  unfold vA vB'
  rw [← kvPay_v]
  iintro ⟨#HR, HS, Hf, Hat⟩ Hk
  iapply (step_waitKV m K c (2 + ch % 2) (ch / 2) n (by omega) (by omega) hs hN) $$ [HS Hf Hat]
  · isplitr; · iexact HR
    isplitl [HS]; · iexact HS
    isplitl [Hf] <;> iassumption
  iexact Hk

theorem ldK (c : Dev nD) (ch cb : ℕ) (b : Fin 8) (hb : b.val = 2 * ch + cb) {off : Fin 4 → ℕ} {h} (ho : off = ![ch % 2, cb, 0, 0]) {hl}
    {α : Type} {k : Vec F S1x1x512x512 .f32 → Prog (TpuEff nD τ sig (Elt F) Λ₀ .tc) α} {Q : α → sProp 𝕄} :
    kB' m c ch
      ⊢ iprop((kB' m c ch -∗ wp frame (wpE (defs₀ (F := F)) 𝒱₀ (c : Thread nD τ) none) Set.univ (k (kblk m c b)) Q)
        -∗ wp frame (wpE (defs₀ (F := F)) 𝒱₀ (c : Thread nD τ) none) Set.univ
            (.op (.load kB (Rect.unit (s := S2x2x512x512) off S1x1x512x512.size h).toLoadRect hl) k) Q) := by
  unfold kB'
  iintro ⟨⟨Hf, Hs⟩, Hrest⟩ Hk
  iapply (step_ldK m c ch cb b hb ho) $$ Hf
  iintro Hf
  iapply Hk
  isplitr [Hrest]
  · isplitl [Hf] <;> iassumption
  iexact Hrest
theorem ldV (c : Dev nD) (ch cb : ℕ) (b : Fin 8) (hb : b.val = 2 * ch + cb) {off : Fin 4 → ℕ} {h} (ho : off = ![ch % 2, cb, 0, 0]) {hl}
    {α : Type} {k : Vec F S1x1x512x512 .f32 → Prog (TpuEff nD τ sig (Elt F) Λ₀ .tc) α} {Q : α → sProp 𝕄} :
    vB' m c ch
      ⊢ iprop((vB' m c ch -∗ wp frame (wpE (defs₀ (F := F)) 𝒱₀ (c : Thread nD τ) none) Set.univ (k (vblk m c b)) Q)
        -∗ wp frame (wpE (defs₀ (F := F)) 𝒱₀ (c : Thread nD τ) none) Set.univ
            (.op (.load vB (Rect.unit (s := S2x2x512x512) off S1x1x512x512.size h).toLoadRect hl) k) Q) := by
  unfold vB'
  iintro ⟨⟨Hf, Hs⟩, Hrest⟩ Hk
  iapply (step_ldV m c ch cb b hb ho) $$ Hf
  iintro Hf
  iapply Hk
  isplitr [Hrest]
  · isplitl [Hf] <;> iassumption
  iexact Hrest

/-! ## From the copies to the waits -/

def wsAt (c : Dev nD) : sProp 𝕄 := bigSep (Finset.range 60) fun i => atPos ER (snd c i) 0 ∅ 0
def wrAt (c : Dev nD) : sProp 𝕄 := bigSep (Finset.range 60) fun i => iprop(cred (tallyAt (rcv c i) () N) ∗ atPos ER (rcv c i) 0 ∅ 0)
def wsDone (c : Dev nD) : sProp 𝕄 := bigSep (Finset.range 60) fun i => iprop(sndPay m c i ∗ atPos ER (snd c i) 1 ∅ 0)

theorem ico0 : (Finset.Ico 0 60 : Finset ℕ) = Finset.range 60 := by ext x; simp

theorem ws_start (c : Dev nD) : iprop(sendSt c 60 ∗ wsAt c) ⊢ wsSt m c 0 := by
  unfold sendSt wsAt wsSt
  rw [owedS_end, Finset.range_zero, bigSep_empty, ico0, bigSep_sep' _ (fun i => (cred (tallyAt (snd c i) () N) : sProp 𝕄))]
  iintro ⟨⟨HO, -, Hc⟩, Hat⟩
  isplitl [HO]; · iexact HO
  isplitl [Hc Hat]
  · isplitl [Hc] <;> iassumption
  · iempintro
theorem ws_end (c : Dev nD) : iprop(wsSt m c 60 ∗ wrAt c) ⊢ iprop(wrSt m c 0 ∗ wsDone m c) := by
  unfold wsSt wrAt wrSt wsDone
  rw [Finset.range_zero, bigSep_empty, ico0]
  iintro ⟨⟨HO, -, Hd⟩, Hr⟩
  isplitr [Hd]
  · isplitl [HO]; · iexact HO
    isplitl [Hr]; · iexact Hr
    iempintro
  iexact Hd

/-! ## The gathered buffer -/

/-- The gather buffer with what every device wrote, in the columns that are read. -/
def gPts (c : Dev nD) (f : Vec F S16x4x16x128 .f32) : sProp 𝕄 := iprop(gLoc c ↦[Finset.univ]{fullShare} f)

theorem slot_agree {c : Dev nD} {S : Finset (Idx (gLoc c))} {q : PosShare TreeShare} {f g : Buf (Elt F) (gLoc c)} :
    iprop((gLoc c ↦[S]{q.left} f) ∗ gLoc c ↦[S]{q.right} g) ⊢ (gLoc c ↦[S]{q} f : sProp 𝕄) :=
  pure_elim _ pointsTo_agree fun hfg => by
    rw [← pointsTo_congr (f := f) (g := g) (fun i hi => (hfg i (Finset.mem_inter.2 ⟨hi, hi⟩)).1)]
    exact (pointsTo_share (PosShare.mem_left_op_right q)).2

theorem slotPts_join (c : Dev nD) (s ch k : ℕ) :
    iprop(slotPts m c s ch (shareDrop fullShare (k + 1)) ∗ slotPts m c s ch (shareTokN fullShare k)) ⊢ slotPts m c s ch (shareDrop fullShare k) := by
  unfold slotPts
  iintro ⟨⟨%f, %hf, Hd⟩, %g, %hg, Ht⟩
  ihave H := (slot_agree (c := c) (S := slotSet s ch) (q := shareDrop fullShare k) (f := f) (g := g)) $$ [Hd Ht]
  · isplitl [Hd]; · iexact Hd
    iexact Ht
  iexists f
  isplitr; · ipureintro; exact hf
  iexact H

theorem slotPts_joins (c : Dev nD) (s ch k : ℕ) :
    iprop(slotPts m c s ch (shareDrop fullShare k) ∗ bigSep (Finset.range k) fun o => slotPts m c s ch (shareTokN fullShare o))
      ⊢ slotPts m c s ch fullShare := by
  induction k with
  | zero => rw [Finset.range_zero, bigSep_empty]; iintro ⟨H, -⟩; iexact H
  | succ k ih =>
    rw [bigSep_range_succ]
    iintro ⟨Hd, Ht, Hrest⟩
    iapply ih
    isplitr [Hrest]
    · iapply (slotPts_join m c s ch k); isplitl [Hd] <;> iassumption
    · iexact Hrest

def flatEmb2 : Fin 4 × Fin 15 ↪ ℕ := ⟨fun p => 15 * p.1.val + p.2.val, fun a b h => by
  have h' : 15 * a.1.val + a.2.val = 15 * b.1.val + b.2.val := h
  have := a.2.isLt; have := b.2.isLt
  exact Prod.ext (Fin.ext (by omega)) (Fin.ext (by omega))⟩
theorem flat_map2 : (Finset.univ.map flatEmb2 : Finset ℕ) = Finset.range 60 := by
  ext x
  rw [Finset.mem_map, Finset.mem_range]
  constructor
  · rintro ⟨⟨ch, o⟩, -, rfl⟩
    have := o.isLt; have := ch.isLt
    show 15 * ch.val + o.val < 60
    omega
  · intro h
    refine ⟨(⟨x / 15, by omega⟩, ⟨x % 15, by omega⟩), Finset.mem_univ _, ?_⟩
    show 15 * (x / 15) + x % 15 = x
    omega
theorem bigSep_flat2 (A : ℕ → sProp 𝕄) :
    bigSep (Finset.range 60) A = bigSep Finset.univ fun ch : Fin 4 => bigSep (Finset.range 15) fun o => A (15 * ch.val + o) := by
  rw [← flat_map2, bigSep_map, bigSep_univ_prod]
  refine bigSep_congr fun ch _ => ?_
  rw [show (Finset.range 15 : Finset ℕ) = Finset.univ.map (Fin.valEmbedding (n := 15)) from by decide +kernel, bigSep_map]; rfl

theorem src_congr (c : Dev nD) {a b : ℕ} (h : a % 15 = b % 15) : src c a = src c b := by unfold src; simp only [h]

theorem src_image (c : Dev nD) : (Finset.range 15).image (src c) = Finset.univ.erase c := by
  ext d
  rw [Finset.mem_image, Finset.mem_erase]
  have hc : c.val < 16 := c.isLt
  have hd : d.val < 16 := d.isLt
  constructor
  · rintro ⟨o, ho, rfl⟩
    have ho := Finset.mem_range.1 ho
    refine ⟨fun h => ?_, Finset.mem_univ _⟩
    have h : (c.val + 15 - o % 15) % 16 = c.val := congrArg Fin.val h
    omega
  · rintro ⟨h, -⟩
    have h : d.val ≠ c.val := fun e => h (Fin.ext e)
    refine ⟨(c.val + 15 - d.val) % 16, Finset.mem_range.2 (by omega), Fin.ext ?_⟩
    show (c.val + 15 - (c.val + 15 - d.val) % 16 % 15) % 16 = d.val
    omega
theorem src_injOn (c : Dev nD) : Set.InjOn (src c) (Finset.range 15 : Finset ℕ) := by
  intro a ha b hb h
  have ha := Finset.mem_range.1 (Finset.mem_coe.1 ha)
  have hb := Finset.mem_range.1 (Finset.mem_coe.1 hb)
  have h : (c.val + 15 - a % 15) % 16 = (c.val + 15 - b % 15) % 16 := congrArg Fin.val h
  have hc : c.val < 16 := c.isLt
  omega

/-- One chunk's slots: the device's own with its shares back, and the fifteen that arrived. -/
theorem chunk_slots (c : Dev nD) (ch : Fin 4) :
    iprop(slotPts m c c.val ch.val (shareDrop fullShare 15) ∗ (bigSep (Finset.range 15) fun o => sndPay m c (15 * ch.val + o))
        ∗ bigSep (Finset.range 15) fun o => rcvPay m c (15 * ch.val + o))
      ⊢ bigSep Finset.univ fun s : Dev nD => slotPts m c s.val ch.val fullShare := by
  have e1 : (bigSep (Finset.range 15) fun o => sndPay m c (15 * ch.val + o))
      = bigSep (Finset.range 15) fun o => slotPts m c c.val ch.val (shareTokN fullShare o) := bigSep_congr fun o ho => by
    have ho := Finset.mem_range.1 ho
    unfold sndPay
    rw [show (15 * ch.val + o) / 15 = ch.val by omega, show (15 * ch.val + o) % 15 = o by omega]
  have e2 : (bigSep (Finset.range 15) fun o => rcvPay m c (15 * ch.val + o))
      = bigSep (Finset.univ.erase c) fun s : Dev nD => slotPts m c s.val ch.val fullShare := by
    rw [← src_image, bigSep_image_of_injOn (src_injOn c)]
    refine bigSep_congr fun o ho => ?_
    have ho := Finset.mem_range.1 ho
    unfold rcvPay
    rw [show (15 * ch.val + o) / 15 = ch.val by omega, src_congr c (a := 15 * ch.val + o) (b := o) (by omega)]
  rw [e1, e2, bigSep_erase (Finset.mem_univ c)]
  show _ ⊢ iprop(slotPts m c c.val ch.val fullShare ∗ bigSep (Finset.univ.erase c) fun s : Dev nD => slotPts m c s.val ch.val fullShare)
  iintro ⟨Hd, Hs, Hr⟩
  isplitr [Hr]
  · iapply (slotPts_joins m c c.val ch.val 15); isplitl [Hd] <;> iassumption
  · iexact Hr

theorem slots_join (c : Dev nD) (T : Finset (Fin 4 × Dev nD)) :
    (bigSep T fun p => slotPts m c p.2.val p.1.val fullShare)
      ⊢ iprop(∃ f : Buf (Elt F) (gLoc c), ⌜∀ i ∈ T.biUnion (fun p => slotSet p.2.val p.1.val), (i 3).val < 66 → f i = G m i⌝
          ∗ gLoc c ↦[T.biUnion (fun p => slotSet p.2.val p.1.val)]{fullShare} f) := by
  classical
  induction T using Finset.induction_on with
  | empty =>
    rw [Finset.biUnion_empty, bigSep_empty]
    iintro -
    iexists (fun i => G m i)
    isplitr
    · ipureintro; intro i _ _; rfl
    · rw [pointsTo_empty]; iempintro
  | insert p T hp ih =>
    rw [bigSep_insert hp, Finset.biUnion_insert]
    have hdisj : Disjoint (slotSet p.2.val p.1.val) (T.biUnion fun p => slotSet p.2.val p.1.val) := by
      rw [Finset.disjoint_left]
      intro i hi hj
      obtain ⟨p', hp', hj⟩ := Finset.mem_biUnion.1 hj
      have h1 := mem_slotSet.1 hi
      have h2 := mem_slotSet.1 hj
      exact hp ((Prod.ext (Fin.ext (h1.2.symm.trans h2.2)) (Fin.ext (h1.1.symm.trans h2.1)) : p = p') ▸ hp')
    refine (sep_mono_right ih).trans ?_
    iintro ⟨H1, %g, %hg, Hg⟩
    ihave H1 := (Entails.of_eq (show slotPts m c p.2.val p.1.val fullShare = iprop(∃ f : Buf (Elt F) (gLoc c),
      ⌜∀ i ∈ slotSet p.2.val p.1.val, (i 3).val < 66 → f i = G m i⌝ ∗ gLoc c ↦[slotSet p.2.val p.1.val]{fullShare} f) from rfl)) $$ H1
    icases H1 with ⟨%f, %hf, Hf⟩
    ihave H := (pointsTo_join (ℓ := gLoc c) hdisj) $$ [Hf Hg]
    · isplitl [Hf] <;> iassumption
    iexists _
    isplitr
    rotate_left
    · iexact H
    · ipureintro
      intro i hi h3
      by_cases hT : i ∈ T.biUnion fun p => slotSet p.2.val p.1.val
      · rw [Finset.piecewise_eq_of_mem _ _ _ hT]; exact hg i hT h3
      · rw [Finset.piecewise_eq_of_notMem _ _ _ hT]; exact hf i ((Finset.mem_union.1 hi).resolve_right hT) h3

theorem slots_all : (Finset.univ : Finset (Fin 4 × Dev nD)).biUnion (fun p => slotSet p.2.val p.1.val) = Finset.univ := by
  ext i
  simp only [Finset.mem_univ, iff_true]
  exact Finset.mem_biUnion.2 ⟨((i 1 : Fin 4), (i 0 : Fin 16)), Finset.mem_univ _, mem_slotSet.2 ⟨rfl, rfl⟩⟩

/-- The whole gather buffer on device `c`. -/
def gDone (c : Dev nD) : sProp 𝕄 :=
  iprop(∃ f : Vec F S16x4x16x128 .f32, ⌜∀ i, (i 3).val < 66 → f i = G m i⌝ ∗ gPts c f)

def wrDone (c : Dev nD) : sProp 𝕄 := bigSep (Finset.range 60) fun i => atPos ER (rcv c i) 1 ∅ 0
def wsLeft (c : Dev nD) : sProp 𝕄 := bigSep (Finset.range 60) fun i => atPos ER (snd c i) 1 ∅ 0

theorem gather_all (c : Dev nD) :
    iprop(wrSt m c 60 ∗ wsDone m c ∗ slotPts m c c.val 0 (shareDrop fullShare 15) ∗ slotPts m c c.val 1 (shareDrop fullShare 15)
        ∗ slotPts m c c.val 2 (shareDrop fullShare 15) ∗ slotPts m c c.val 3 (shareDrop fullShare 15))
      ⊢ iprop((owesX c 0 ∗ wrDone c ∗ wsLeft c) ∗ gDone m c) := by
  unfold wrSt wsDone wrDone wsLeft gDone gPts
  rw [bigSep_sep' _ (fun i => rcvPay m c i), bigSep_sep' _ (fun i => sndPay m c i)]
  iintro ⟨⟨HO, -, Hr, Hra⟩, ⟨Hs, Hsa⟩, H0, H1, H2, H3⟩
  isplitr [Hr Hs H0 H1 H2 H3]
  · isplitl [HO]; · iexact HO
    isplitl [Hra] <;> iassumption
  · ihave H := ((BIClass.sep_mono (Entails.of_eq (bigSep_flat2 (fun i => sndPay m c i))) (Entails.of_eq (bigSep_flat2 (fun i => rcvPay m c i))))) $$ [Hs Hr]
    · isplitl [Hs] <;> iassumption
    icases H with ⟨Hs, Hr⟩
    ihave H := (show (iprop(slotPts m c c.val 0 (shareDrop fullShare 15) ∗ slotPts m c c.val 1 (shareDrop fullShare 15)
          ∗ slotPts m c c.val 2 (shareDrop fullShare 15) ∗ slotPts m c c.val 3 (shareDrop fullShare 15)) : sProp 𝕄)
        ⊢ bigSep Finset.univ fun ch : Fin 4 => slotPts m c c.val ch.val (shareDrop fullShare 15) from by
      rw [show (Finset.univ : Finset (Fin 4)) = {0, 1, 2, 3} from by decide, bigSep_insert (by decide), bigSep_insert (by decide), bigSep_insert (by decide),
        bigSep_singleton]
      exact .rfl) $$ [H0 H1 H2 H3]
    · isplitl [H0]; · iexact H0
      isplitl [H1]; · iexact H1
      isplitl [H2] <;> iassumption
    ihave H := (show (iprop((bigSep Finset.univ fun ch : Fin 4 => slotPts m c c.val ch.val (shareDrop fullShare 15))
          ∗ (bigSep Finset.univ fun ch : Fin 4 => bigSep (Finset.range 15) fun o => sndPay m c (15 * ch.val + o))
          ∗ bigSep Finset.univ fun ch : Fin 4 => bigSep (Finset.range 15) fun o => rcvPay m c (15 * ch.val + o)) : sProp 𝕄)
        ⊢ bigSep Finset.univ fun p : Fin 4 × Dev nD => slotPts m c p.2.val p.1.val fullShare from by
      rw [← bigSep_sep', ← bigSep_sep', bigSep_univ_prod]
      exact bigSep_mono fun ch _ => chunk_slots m c ch) $$ [H Hs Hr]
    · isplitl [H]; · iexact H
      isplitl [Hs] <;> iassumption
    ihave H := (slots_join m c Finset.univ) $$ H
    rw [slots_all]
    icases H with ⟨%f, %hf, H⟩
    iexists f
    isplitr
    · ipureintro; exact fun i h => hf i (Finset.mem_univ i) h
    · iexact H

/-! ## The combine -/

abbrev gIx (s : Fin 16) (a : Fin 4) (b : Fin 16) (d : Fin 128) : S16x4x16x128.Idx :=
  fun x => match x with | ⟨0, _⟩ => s | ⟨1, _⟩ => a | ⟨2, _⟩ => b | ⟨3, _⟩ => d
/-- What device `s` wrote, out of the gather buffer. -/
def gRow (f : Vec F S16x4x16x128 .f32) (s : Fin 16) : Vec F S1x4x16x128 .f32 := fun x => f (gIx s (x 1) (x 2) (x 3))
def row (f : Vec F S16x4x16x128 .f32) (s : Fin 16) : FVec F S64x128 .f32 := k0_pay66 (gRow f s)

def cM (f : Vec F S16x4x16x128 .f32) : FVec F S64x1 .f32 := k0_pay82 (row f 0) (row f 1) (row f 2) (row f 3) (row f 4) (row f 5) (row f 6) (row f 7) (row f 8) (row f 9) (row f 10) (row f 11) (row f 12) (row f 13) (gRow f 14) (gRow f 15)
def cL1 (f : Vec F S16x4x16x128 .f32) : FVec F S64x1 .f32 := k0_pay84 (row f 0) (row f 1) (row f 2) (row f 3) (row f 4) (row f 5) (row f 6) (row f 7) (row f 8) (row f 9) (row f 10) (row f 11) (row f 12) (row f 13) (gRow f 14) (gRow f 15)
def cO1 (f : Vec F S16x4x16x128 .f32) : FVec F S64x64 .f32 := k0_pay85 (row f 0) (row f 1) (row f 2) (row f 3) (row f 4) (row f 5) (row f 6) (row f 7) (row f 8) (row f 9) (row f 10) (row f 11) (row f 12) (row f 13) (gRow f 14) (gRow f 15)
def cW1 (f : Vec F S16x4x16x128 .f32) : FVec F S64x1 .f32 := k0_pay86 (row f 0) (row f 1) (row f 2) (row f 3) (row f 4) (row f 5) (row f 6) (row f 7) (row f 8) (row f 9) (row f 10) (row f 11) (row f 12) (row f 13) (gRow f 14) (gRow f 15)
def cP1 (f : Vec F S16x4x16x128 .f32) : FVec F S64x1 .f32 := k0_pay87 (row f 0) (row f 1) (row f 2) (row f 3) (row f 4) (row f 5) (row f 6) (row f 7) (row f 8) (row f 9) (row f 10) (row f 11) (row f 12) (row f 13) (gRow f 14) (gRow f 15)
def cL7 (f : Vec F S16x4x16x128 .f32) : FVec F S64x1 .f32 := k0_pay93 (row f 2) (row f 3) (row f 4) (row f 5) (row f 6) (cM f) (cL1 f) (cP1 f)
def cO7 (f : Vec F S16x4x16x128 .f32) : FVec F S64x64 .f32 := k0_pay94 (row f 1) (row f 2) (row f 3) (row f 4) (row f 5) (row f 6) (cM f) (cO1 f) (cW1 f)
def cW7 (f : Vec F S16x4x16x128 .f32) : FVec F S64x1 .f32 := k0_pay95 (row f 7) (cM f)
def cP7 (f : Vec F S16x4x16x128 .f32) : FVec F S64x1 .f32 := k0_pay96 (row f 7) (cM f)
def cL13 (f : Vec F S16x4x16x128 .f32) : FVec F S64x1 .f32 := k0_pay102 (row f 8) (row f 9) (row f 10) (row f 11) (row f 12) (cM f) (cL7 f) (cP7 f)
def cO13 (f : Vec F S16x4x16x128 .f32) : FVec F S64x64 .f32 := k0_pay103 (row f 7) (row f 8) (row f 9) (row f 10) (row f 11) (row f 12) (cM f) (cO7 f) (cW7 f)
def cW13 (f : Vec F S16x4x16x128 .f32) : FVec F S64x1 .f32 := k0_pay104 (row f 13) (cM f)
def cP13 (f : Vec F S16x4x16x128 .f32) : FVec F S64x1 .f32 := k0_pay105 (row f 13) (cM f)
def cOut (f : Vec F S16x4x16x128 .f32) : FVec F S8x8x64 .f32 := k0_pay106 (row f 13) (row f 14) (row f 15) (cM f) (cL13 f) (cO13 f) (cW13 f) (cP13 f)

theorem g_read (f : Vec F S16x4x16x128 .f32) (s : Fin 16) (h : ∀ a, (![s.val, 0, 0, 0] : Fin 4 → ℕ) a + S1x4x16x128.size a ≤ S16x4x16x128.size a) :
    (gB.view.readAt (Elt F) (Rect.unit (s := S16x4x16x128) ![s.val, 0, 0, 0] S1x4x16x128.size h).toLoadRect f : Vec F S1x4x16x128 .f32) = gRow f s := by
  funext x
  have h0 : (x 0).val < 1 := (x 0).isLt
  show f ((Rect.unit (s := S16x4x16x128) ![s.val, 0, 0, 0] S1x4x16x128.size h).idx x) = f _
  congr 1
  funext a
  apply Fin.ext
  match a with
  | 0 => show s.val + 1 * (x 0).val = s.val; omega
  | 1 => show 0 + 1 * (x 1).val = (x 1).val; omega
  | 2 => show 0 + 1 * (x 2).val = (x 2).val; omega
  | 3 => show 0 + 1 * (x 3).val = (x 3).val; omega

theorem step_ldG (c : Dev nD) (f : Vec F S16x4x16x128 .f32) (s : Fin 16) {off : Fin 4 → ℕ} {h} (ho : off = ![s.val, 0, 0, 0]) {hl}
    {α : Type} {k : Vec F S1x4x16x128 .f32 → Prog (TpuEff nD τ sig (Elt F) Λ₀ .tc) α} {Q : α → sProp 𝕄} :
    gPts c f
      ⊢ iprop((gPts c f -∗ wp frame (wpE (defs₀ (F := F)) 𝒱₀ (c : Thread nD τ) none) Set.univ (k (gRow f s)) Q)
        -∗ wp frame (wpE (defs₀ (F := F)) 𝒱₀ (c : Thread nD τ) none) Set.univ
            (.op (.load gB (Rect.unit (s := S16x4x16x128) off S1x4x16x128.size h).toLoadRect hl) k) Q) := by
  subst ho
  unfold gPts
  rw [← g_read f s h]
  exact wp_load 𝒱₀ (c : Thread nD τ) none Set.univ (m := gB) (Finset.subset_univ _)

/-! ## The output block -/

def outPts (c : Dev nD) (f : Vec F S8x1x8x64 .f32) : sProp 𝕄 := iprop(((c : Thread nD τ).loc cc0_stg1_0) ↦[Finset.univ]{fullShare} f)

theorem step_out (c : Dev nD) {h h'} {w : Vec F S8x1x8x64 .f32} {hl hx hm}
    {α : Type} {k : PUnit → Prog (TpuEff nD τ sig (Elt F) Λ₀ .tc) α} {Q : α → sProp 𝕄} :
    (iprop(∃ f, outPts c f) : sProp 𝕄)
      ⊢ iprop((outPts c w -∗ wp frame (wpE (defs₀ (F := F)) 𝒱₀ (c : Thread nD τ) none) Set.univ (k ⟨⟩) Q)
        -∗ wp frame (wpE (defs₀ (F := F)) 𝒱₀ (c : Thread nD τ) none) Set.univ
            (.op (.load oM (Rect.unit (s := S8x1x8x64) ![0, 0, 0, 0] S8x1x8x64.size h).toLoadRect hl)
              fun _ => .op (.store oM (Rect.unit (s := S8x1x8x64) ![0, 0, 0, 0] S8x1x8x64.size h') w Finset.univ hx hm) k) Q) := by
  unfold outPts
  iintro ⟨%f, H⟩ Hk
  iapply (wp_load 𝒱₀ (c : Thread nD τ) none Set.univ (m := oM) (S := Finset.univ) (f := f)
    (r := (Rect.unit (s := S8x1x8x64) ![0, 0, 0, 0] S8x1x8x64.size h).toLoadRect) (Finset.subset_univ _)) $$ H
  iintro H
  iapply (wp_store 𝒱₀ (c : Thread nD τ) none Set.univ (m := oM) (S := Finset.univ) (f := f)
    (r := Rect.unit (s := S8x1x8x64) ![0, 0, 0, 0] S8x1x8x64.size h') (w := w) (Mk := Finset.univ) (Finset.subset_univ _)) $$ H
  have hz : (![0, 0, 0, 0] : Fin 4 → Nat) = fun _ => 0 := funext fun a => by fin_cases a <;> rfl
  have e : ((oM : Memref sig .tc .vmem S8x1x8x64 .f32).access (Rect.unit (s := S8x1x8x64) ![0, 0, 0, 0] S8x1x8x64.size h') : View sig .tc _ _ _).write (Elt F) f w Finset.univ = w :=
    Memref.write_access_unit_zero_univ (Elt F) cc0_stg1_0 hz _ f w
  rw [e]
  iexact Hk

end Cert.KernelIdeal.Talk
-- ==== Proof.PartsA.lean ====
/-
The body, part by part: the first two chunks.
-/
module

public import proofs.«01_k».proof.Proof.Phase

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ)

set_option maxHeartbeats 4000000 in
theorem part1 (K : GSem nD τ sig → ℕ) (c : Dev nD) {Q : _ → sProp 𝕄} :
    iprop(recs m K ∗ kC m c 0)
      ⊢ iprop((∀ r1, iprop(kA c 0) -∗ Q ⟨c, r1, k0_pay2⟩)
        -∗ wp frame (wpE (defs₀ (F := F)) 𝒱₀ (c : Thread nD τ) none) Set.univ (k0_part1 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6) Q) := by
  simp only [k0_part1_eq_skeleton]; unfold k0_part1_skel
  simp only [Prog.lift, Prog.bind_op, Prog.bind_ret, Prog.pure_eq_ret, wp_deviceId]
  iintro ⟨#HR, HK0⟩ Hk
  iapply (copyK m K c 0 (by decide) rfl rfl rfl) $$ [HK0]
  · isplitr; · iexact HR
    iexact HK0
  iintro HK0
  rw [wp_ret]; imodintro
  iapply Hk
  iexact HK0

set_option maxHeartbeats 4000000 in
theorem part2 (K : GSem nD τ sig → ℕ) (c : Dev nD) (v2 : BitVec 32) {Q : _ → sProp 𝕄} :
    iprop(recs m K ∗ vC m c 0 ∗ bSt c 0)
      ⊢ iprop((∀ r1, iprop(vA c 0 ∗ bSt c 5) -∗ Q ⟨(SemArray.scalar (sig.barrier 0 rfl)), r1⟩)
        -∗ wp frame (wpE (defs₀ (F := F)) 𝒱₀ (c : Thread nD τ) none) Set.univ (k0_part2 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2) Q) := by
  simp only [k0_part2_eq_skeleton]; unfold k0_part2_skel
  simp only [Prog.lift, Prog.bind_op, Prog.bind_ret, Prog.pure_eq_ret, semSignalWord, semWaitWord]
  iintro ⟨#HR, HV0, HB⟩ Hk
  iapply (copyV m K c 0 (by decide) rfl rfl rfl) $$ [HV0]
  · isplitr; · iexact HR
    iexact HV0
  iintro HV0
  iapply (step_signal m K c 0 (by decide) (Fin.ext (k0_dev1_eq c)) rfl rfl) $$ [HB]
  · isplitr; · iexact HR
    iexact HB
  iintro HB
  iapply (step_signal m K c 1 (by decide) (Fin.ext (k0_dev2_eq c)) rfl rfl) $$ [HB]
  · isplitr; · iexact HR
    iexact HB
  iintro HB
  iapply (step_signal m K c 2 (by decide) (Fin.ext (k0_dev3_eq c)) rfl rfl) $$ [HB]
  · isplitr; · iexact HR
    iexact HB
  iintro HB
  iapply (step_signal m K c 3 (by decide) (Fin.ext (k0_dev4_eq c)) rfl rfl) $$ [HB]
  · isplitr; · iexact HR
    iexact HB
  iintro HB
  iapply (step_signal m K c 4 (by decide) (Fin.ext (k0_dev5_eq c)) rfl rfl) $$ [HB]
  · isplitr; · iexact HR
    iexact HB
  iintro HB
  rw [wp_ret]; imodintro
  iapply Hk
  isplitl [HV0]; · iexact HV0
  iexact HB

set_option maxHeartbeats 4000000 in
theorem part3 (K : GSem nD τ sig → ℕ) (c : Dev nD) (v2 c6_i32 : BitVec 32) {Q : _ → sProp 𝕄} :
    iprop(recs m K ∗ bSt c 5)
      ⊢ iprop((∀ r, iprop(bSt c 11) -∗ Q r)
        -∗ wp frame (wpE (defs₀ (F := F)) 𝒱₀ (c : Thread nD τ) none) Set.univ (k0_part3 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 (SemArray.scalar (sig.barrier 0 rfl)) c6_i32) Q) := by
  simp only [k0_part3_eq_skeleton]; unfold k0_part3_skel
  simp only [Prog.lift, Prog.bind_op, Prog.bind_ret, Prog.pure_eq_ret, semSignalWord, semWaitWord]
  iintro ⟨#HR, HB⟩ Hk
  iapply (step_signal m K c 5 (by decide) (Fin.ext (k0_dev6_eq c)) rfl rfl) $$ [HB]
  · isplitr; · iexact HR
    iexact HB
  iintro HB
  iapply (step_signal m K c 6 (by decide) (Fin.ext (k0_dev7_eq c)) rfl rfl) $$ [HB]
  · isplitr; · iexact HR
    iexact HB
  iintro HB
  iapply (step_signal m K c 7 (by decide) (Fin.ext (k0_dev8_eq c)) rfl rfl) $$ [HB]
  · isplitr; · iexact HR
    iexact HB
  iintro HB
  iapply (step_signal m K c 8 (by decide) (Fin.ext (k0_dev9_eq c)) rfl rfl) $$ [HB]
  · isplitr; · iexact HR
    iexact HB
  iintro HB
  iapply (step_signal m K c 9 (by decide) (Fin.ext (k0_dev10_eq c)) rfl rfl) $$ [HB]
  · isplitr; · iexact HR
    iexact HB
  iintro HB
  iapply (step_signal m K c 10 (by decide) (Fin.ext (k0_dev11_eq c)) rfl rfl) $$ [HB]
  · isplitr; · iexact HR
    iexact HB
  iintro HB
  rw [wp_ret]; imodintro
  iapply Hk
  iexact HB

set_option maxHeartbeats 4000000 in
theorem part4 (K : GSem nD τ sig → ℕ) (c : Dev nD) (v2 c12_i32 : BitVec 32) {Q : _ → sProp 𝕄} :
    iprop(recs m K ∗ bSt c 11 ∗ sendToks c ∗ (cred (tallyAt (bar c) () 15) : sProp 𝕄) ∗ atPos ER (bar c) 0 ∅ 0 ∗ kC m c 1)
      ⊢ iprop((∀ r, iprop(atPos ER (bar c) 1 ∅ 0 ∗ sendSt c 0 ∗ kA c 1) -∗ Q r)
        -∗ wp frame (wpE (defs₀ (F := F)) 𝒱₀ (c : Thread nD τ) none) Set.univ (k0_part4 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 (SemArray.scalar (sig.barrier 0 rfl)) c12_i32) Q) := by
  simp only [k0_part4_eq_skeleton]; unfold k0_part4_skel
  simp only [Prog.lift, Prog.bind_op, Prog.bind_ret, Prog.pure_eq_ret, semSignalWord, semWaitWord]
  iintro ⟨#HR, HB, HT, HBC, HBA, HK1⟩ Hk
  iapply (step_signal m K c 11 (by decide) (Fin.ext (k0_dev12_eq c)) rfl rfl) $$ [HB]
  · isplitr; · iexact HR
    iexact HB
  iintro HB
  iapply (step_signal m K c 12 (by decide) (Fin.ext (k0_dev13_eq c)) rfl rfl) $$ [HB]
  · isplitr; · iexact HR
    iexact HB
  iintro HB
  iapply (step_signal m K c 13 (by decide) (Fin.ext (k0_dev14_eq c)) rfl rfl) $$ [HB]
  · isplitr; · iexact HR
    iexact HB
  iintro HB
  iapply (step_signal m K c 14 (by decide) (Fin.ext (k0_dev15_eq c)) rfl rfl) $$ [HB]
  · isplitr; · iexact HR
    iexact HB
  iintro HB
  iapply (step_bwait m K c rfl rfl) $$ [HB HT HBC HBA]
  · isplitr; · iexact HR
    isplitl [HB]; · iexact HB
    isplitl [HT]; · iexact HT
    isplitl [HBC]; · iexact HBC
    iexact HBA
  iintro ⟨HS, HBA⟩
  iapply (copyK m K c 1 (by decide) rfl rfl rfl) $$ [HK1]
  · isplitr; · iexact HR
    iexact HK1
  iintro HK1
  rw [wp_ret]; imodintro
  iapply Hk
  isplitl [HBA]; · iexact HBA
  isplitl [HS]; · iexact HS
  iexact HK1

set_option maxHeartbeats 4000000 in
theorem part5 (K : GSem nD τ sig → ℕ) (c : Dev nD) {Q : _ → sProp 𝕄} :
    iprop(recs m K ∗ vC m c 1 ∗ sendSt c 0 ∗ kA c 0 ∗ vA c 0 ∗ qPts m c)
      ⊢ iprop((iprop(vA c 1 ∗ sendSt c 0 ∗ kB' m c 0 ∗ vB' m c 0 ∗ qPts m c) -∗ Q ⟨(k0_pay3 k0_pay2 (qrow m c 0)), (k0_pay4 (kblk m c 0)), (k0_pay5 (vblk m c 0)), (constant S8x512 .f32 0x00000000#32)⟩)
        -∗ wp frame (wpE (defs₀ (F := F)) 𝒱₀ (c : Thread nD τ) none) Set.univ (k0_part5 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 k0_pay2) Q) := by
  simp only [k0_part5_eq_skeleton]; unfold k0_part5_skel
  simp only [Prog.lift, Prog.bind_op, Prog.bind_ret, Prog.pure_eq_ret]
  iintro ⟨#HR, HV1, HS, HK0, HV0, HQ⟩ Hk
  iapply (copyV m K c 1 (by decide) rfl rfl rfl) $$ [HV1]
  · isplitr; · iexact HR
    iexact HV1
  iintro HV1
  iapply (waitK m K c 0 0 (by decide) rfl) $$ [HS HK0]
  · isplitr; · iexact HR
    isplitl [HS]; · iexact HS
    iexact HK0
  iintro ⟨HS, HK0⟩
  iapply (waitV m K c 0 0 (by decide) rfl) $$ [HS HV0]
  · isplitr; · iexact HR
    isplitl [HS]; · iexact HS
    iexact HV0
  iintro ⟨HS, HV0⟩
  iapply (step_ldQ m c 0 rfl) $$ HQ
  iintro HQ
  iapply (ldK m c 0 0 0 rfl rfl) $$ HK0
  iintro HK0
  iapply (ldV m c 0 0 0 rfl rfl) $$ HV0
  iintro HV0
  rw [wp_ret]; imodintro
  iapply Hk
  isplitl [HV1]; · iexact HV1
  isplitl [HS]; · iexact HS
  isplitl [HK0]; · iexact HK0
  isplitl [HV0]; · iexact HV0
  iexact HQ

set_option maxHeartbeats 4000000 in
theorem part6 (K : GSem nD τ sig → ℕ) (c : Dev nD) (v2 : BitVec 32) {Q : _ → sProp 𝕄} :
    iprop(recs m K ∗ compSt m c 0 0 ∗ qPts m c)
      ⊢ iprop((iprop(compSt m c 0 3 ∗ qPts m c) -∗ Q (k0_pay12 k0_pay2 (qrow m c 1)))
        -∗ wp frame (wpE (defs₀ (F := F)) 𝒱₀ (c : Thread nD τ) none) Set.univ (k0_part6 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 k0_pay2 (k0_pay3 k0_pay2 (qrow m c 0)) (k0_pay4 (kblk m c 0)) (k0_pay5 (vblk m c 0)) (constant S8x512 .f32 0x00000000#32)) Q) := by
  simp only [k0_part6_eq_skeleton]; unfold k0_part6_skel
  simp only [Prog.lift, Prog.bind_op, Prog.bind_ret, Prog.pure_eq_ret]
  iintro ⟨#HR, HC0, HQ⟩ Hk
  iapply (step_putO m c 0 0 0 rfl (by decide) (k0_off1_eq c) rfl) $$ HC0
  iintro HC0
  iapply (step_putM m c 0 0 0 rfl (by decide) (k0_off2_eq c) rfl) $$ HC0
  iintro HC0
  iapply (step_putL m c 0 0 0 rfl (by decide) (k0_off3_eq c) rfl) $$ HC0
  iintro HC0
  iapply (step_ldQ m c 1 rfl) $$ HQ
  iintro HQ
  rw [wp_ret]; imodintro
  iapply Hk
  isplitl [HC0]; · iexact HC0
  iexact HQ

set_option maxHeartbeats 4000000 in
theorem part7 (K : GSem nD τ sig → ℕ) (c : Dev nD) (v2 : BitVec 32) {Q : _ → sProp 𝕄} :
    iprop(recs m K ∗ kB' m c 0 ∗ vB' m c 0 ∗ compSt m c 0 3)
      ⊢ iprop((∀ r, iprop(kB' m c 0 ∗ vB' m c 0 ∗ slotPts m c c.val 0 (shareDrop fullShare 0)) -∗ Q r)
        -∗ wp frame (wpE (defs₀ (F := F)) 𝒱₀ (c : Thread nD τ) none) Set.univ (k0_part7 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 (k0_pay12 k0_pay2 (qrow m c 1))) Q) := by
  simp only [k0_part7_eq_skeleton]; unfold k0_part7_skel
  simp only [Prog.lift, Prog.bind_op, Prog.bind_ret, Prog.pure_eq_ret]
  iintro ⟨#HR, HK0, HV0, HC0⟩ Hk
  iapply (ldK m c 0 1 1 rfl rfl) $$ HK0
  iintro HK0
  iapply (ldV m c 0 1 1 rfl rfl) $$ HV0
  iintro HV0
  iapply (step_putO m c 0 1 1 rfl (by decide) (k0_off4_eq c) rfl) $$ HC0
  iintro HC0
  iapply (step_putM m c 0 1 1 rfl (by decide) (k0_off5_eq c) rfl) $$ HC0
  iintro HC0
  iapply (step_putL m c 0 1 1 rfl (by decide) (k0_off6_eq c) rfl) $$ HC0
  iintro HC0
  ihave Hx := (compSt_end m c 0) $$ HC0
  icases Hx with HC0
  rw [wp_ret]; imodintro
  iapply Hk
  isplitl [HK0]; · iexact HK0
  isplitl [HV0]; · iexact HV0
  iexact HC0

set_option maxHeartbeats 4000000 in
theorem part8 (K : GSem nD τ sig → ℕ) (c : Dev nD) (v2 v205 : BitVec 32) {Q : _ → sProp 𝕄} :
    iprop(recs m K ∗ sendSt c 0 ∗ slotPts m c c.val 0 (shareDrop fullShare 0))
      ⊢ iprop((∀ r, iprop(sendSt c 2 ∗ slotPts m c c.val 0 (shareDrop fullShare 2)) -∗ Q r)
        -∗ wp frame (wpE (defs₀ (F := F)) 𝒱₀ (c : Thread nD τ) none) Set.univ (k0_part8 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v205) Q) := by
  simp only [k0_part8_eq_skeleton]; unfold k0_part8_skel
  simp only [Prog.lift, Prog.bind_op, Prog.bind_ret, Prog.pure_eq_ret]
  iintro ⟨#HR, HS, HC0⟩ Hk
  iapply (step_send m K c 0 (by decide) (k0_off7_eq c) rfl rfl (Fin.ext (k0_dev16_eq c))) $$ [HS HC0]
  · isplitr; · iexact HR
    isplitl [HS]; · iexact HS
    iexact HC0
  iintro ⟨HS, HC0⟩
  iapply (step_send m K c 1 (by decide) (k0_off7_eq c) rfl rfl (Fin.ext (k0_dev17_eq c))) $$ [HS HC0]
  · isplitr; · iexact HR
    isplitl [HS]; · iexact HS
    iexact HC0
  iintro ⟨HS, HC0⟩
  rw [wp_ret]; imodintro
  iapply Hk
  isplitl [HS]; · iexact HS
  iexact HC0

set_option maxHeartbeats 4000000 in
theorem part9 (K : GSem nD τ sig → ℕ) (c : Dev nD) (v2 v230 : BitVec 32) {Q : _ → sProp 𝕄} :
    iprop(recs m K ∗ sendSt c 2 ∗ slotPts m c c.val 0 (shareDrop fullShare 2))
      ⊢ iprop((∀ r, iprop(sendSt c 4 ∗ slotPts m c c.val 0 (shareDrop fullShare 4)) -∗ Q r)
        -∗ wp frame (wpE (defs₀ (F := F)) 𝒱₀ (c : Thread nD τ) none) Set.univ (k0_part9 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v230) Q) := by
  simp only [k0_part9_eq_skeleton]; unfold k0_part9_skel
  simp only [Prog.lift, Prog.bind_op, Prog.bind_ret, Prog.pure_eq_ret]
  iintro ⟨#HR, HS, HC0⟩ Hk
  iapply (step_send m K c 2 (by decide) (k0_off7_eq c) rfl rfl (Fin.ext (k0_dev18_eq c))) $$ [HS HC0]
  · isplitr; · iexact HR
    isplitl [HS]; · iexact HS
    iexact HC0
  iintro ⟨HS, HC0⟩
  iapply (step_send m K c 3 (by decide) (k0_off7_eq c) rfl rfl (Fin.ext (k0_dev19_eq c))) $$ [HS HC0]
  · isplitr; · iexact HR
    isplitl [HS]; · iexact HS
    iexact HC0
  iintro ⟨HS, HC0⟩
  rw [wp_ret]; imodintro
  iapply Hk
  isplitl [HS]; · iexact HS
  iexact HC0

set_option maxHeartbeats 4000000 in
theorem part10 (K : GSem nD τ sig → ℕ) (c : Dev nD) (v2 : BitVec 32) {Q : _ → sProp 𝕄} :
    iprop(recs m K ∗ sendSt c 4 ∗ slotPts m c c.val 0 (shareDrop fullShare 4))
      ⊢ iprop((∀ r, iprop(sendSt c 6 ∗ slotPts m c c.val 0 (shareDrop fullShare 6)) -∗ Q r)
        -∗ wp frame (wpE (defs₀ (F := F)) 𝒱₀ (c : Thread nD τ) none) Set.univ (k0_part10 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2) Q) := by
  simp only [k0_part10_eq_skeleton]; unfold k0_part10_skel
  simp only [Prog.lift, Prog.bind_op, Prog.bind_ret, Prog.pure_eq_ret]
  iintro ⟨#HR, HS, HC0⟩ Hk
  iapply (step_send m K c 4 (by decide) (k0_off7_eq c) rfl rfl (Fin.ext (k0_dev20_eq c))) $$ [HS HC0]
  · isplitr; · iexact HR
    isplitl [HS]; · iexact HS
    iexact HC0
  iintro ⟨HS, HC0⟩
  iapply (step_send m K c 5 (by decide) (k0_off7_eq c) rfl rfl (Fin.ext (k0_dev21_eq c))) $$ [HS HC0]
  · isplitr; · iexact HR
    isplitl [HS]; · iexact HS
    iexact HC0
  iintro ⟨HS, HC0⟩
  rw [wp_ret]; imodintro
  iapply Hk
  isplitl [HS]; · iexact HS
  iexact HC0

set_option maxHeartbeats 4000000 in
theorem part11 (K : GSem nD τ sig → ℕ) (c : Dev nD) (v2 : BitVec 32) {Q : _ → sProp 𝕄} :
    iprop(recs m K ∗ sendSt c 6 ∗ slotPts m c c.val 0 (shareDrop fullShare 6))
      ⊢ iprop((∀ r, iprop(sendSt c 8 ∗ slotPts m c c.val 0 (shareDrop fullShare 8)) -∗ Q r)
        -∗ wp frame (wpE (defs₀ (F := F)) 𝒱₀ (c : Thread nD τ) none) Set.univ (k0_part11 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2) Q) := by
  simp only [k0_part11_eq_skeleton]; unfold k0_part11_skel
  simp only [Prog.lift, Prog.bind_op, Prog.bind_ret, Prog.pure_eq_ret]
  iintro ⟨#HR, HS, HC0⟩ Hk
  iapply (step_send m K c 6 (by decide) (k0_off7_eq c) rfl rfl (Fin.ext (k0_dev22_eq c))) $$ [HS HC0]
  · isplitr; · iexact HR
    isplitl [HS]; · iexact HS
    iexact HC0
  iintro ⟨HS, HC0⟩
  iapply (step_send m K c 7 (by decide) (k0_off7_eq c) rfl rfl (Fin.ext (k0_dev23_eq c))) $$ [HS HC0]
  · isplitr; · iexact HR
    isplitl [HS]; · iexact HS
    iexact HC0
  iintro ⟨HS, HC0⟩
  rw [wp_ret]; imodintro
  iapply Hk
  isplitl [HS]; · iexact HS
  iexact HC0

set_option maxHeartbeats 4000000 in
theorem part12 (K : GSem nD τ sig → ℕ) (c : Dev nD) (v2 : BitVec 32) {Q : _ → sProp 𝕄} :
    iprop(recs m K ∗ sendSt c 8 ∗ slotPts m c c.val 0 (shareDrop fullShare 8))
      ⊢ iprop((∀ r, iprop(sendSt c 11 ∗ slotPts m c c.val 0 (shareDrop fullShare 11)) -∗ Q r)
        -∗ wp frame (wpE (defs₀ (F := F)) 𝒱₀ (c : Thread nD τ) none) Set.univ (k0_part12 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2) Q) := by
  simp only [k0_part12_eq_skeleton]; unfold k0_part12_skel
  simp only [Prog.lift, Prog.bind_op, Prog.bind_ret, Prog.pure_eq_ret]
  iintro ⟨#HR, HS, HC0⟩ Hk
  iapply (step_send m K c 8 (by decide) (k0_off7_eq c) rfl rfl (Fin.ext (k0_dev24_eq c))) $$ [HS HC0]
  · isplitr; · iexact HR
    isplitl [HS]; · iexact HS
    iexact HC0
  iintro ⟨HS, HC0⟩
  iapply (step_send m K c 9 (by decide) (k0_off7_eq c) rfl rfl (Fin.ext (k0_dev25_eq c))) $$ [HS HC0]
  · isplitr; · iexact HR
    isplitl [HS]; · iexact HS
    iexact HC0
  iintro ⟨HS, HC0⟩
  iapply (step_send m K c 10 (by decide) (k0_off7_eq c) rfl rfl (Fin.ext (k0_dev26_eq c))) $$ [HS HC0]
  · isplitr; · iexact HR
    isplitl [HS]; · iexact HS
    iexact HC0
  iintro ⟨HS, HC0⟩
  rw [wp_ret]; imodintro
  iapply Hk
  isplitl [HS]; · iexact HS
  iexact HC0

set_option maxHeartbeats 4000000 in
theorem part13 (K : GSem nD τ sig → ℕ) (c : Dev nD) (v2 v338 : BitVec 32) {Q : _ → sProp 𝕄} :
    iprop(recs m K ∗ sendSt c 11 ∗ slotPts m c c.val 0 (shareDrop fullShare 11))
      ⊢ iprop((∀ r, iprop(sendSt c 13 ∗ slotPts m c c.val 0 (shareDrop fullShare 13)) -∗ Q r)
        -∗ wp frame (wpE (defs₀ (F := F)) 𝒱₀ (c : Thread nD τ) none) Set.univ (k0_part13 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v338) Q) := by
  simp only [k0_part13_eq_skeleton]; unfold k0_part13_skel
  simp only [Prog.lift, Prog.bind_op, Prog.bind_ret, Prog.pure_eq_ret]
  iintro ⟨#HR, HS, HC0⟩ Hk
  iapply (step_send m K c 11 (by decide) (k0_off7_eq c) rfl rfl (Fin.ext (k0_dev27_eq c))) $$ [HS HC0]
  · isplitr; · iexact HR
    isplitl [HS]; · iexact HS
    iexact HC0
  iintro ⟨HS, HC0⟩
  iapply (step_send m K c 12 (by decide) (k0_off7_eq c) rfl rfl (Fin.ext (k0_dev28_eq c))) $$ [HS HC0]
  · isplitr; · iexact HR
    isplitl [HS]; · iexact HS
    iexact HC0
  iintro ⟨HS, HC0⟩
  rw [wp_ret]; imodintro
  iapply Hk
  isplitl [HS]; · iexact HS
  iexact HC0

set_option maxHeartbeats 4000000 in
theorem part14 (K : GSem nD τ sig → ℕ) (c : Dev nD) (v2 v362 c1_i32_349 : BitVec 32) {Q : _ → sProp 𝕄} :
    iprop(recs m K ∗ sendSt c 13 ∗ slotPts m c c.val 0 (shareDrop fullShare 13) ∗ kB' m c 0 ∗ kRest m c 2)
      ⊢ iprop((∀ r, iprop(sendSt c 15 ∗ slotPts m c c.val 0 (shareDrop fullShare 15) ∗ kA c 2 ∗ kSrc m c 0) -∗ Q r)
        -∗ wp frame (wpE (defs₀ (F := F)) 𝒱₀ (c : Thread nD τ) none) Set.univ (k0_part14 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v362 c1_i32_349) Q) := by
  simp only [k0_part14_eq_skeleton]; unfold k0_part14_skel
  simp only [Prog.lift, Prog.bind_op, Prog.bind_ret, Prog.pure_eq_ret]
  iintro ⟨#HR, HS, HC0, HK0, HKR2⟩ Hk
  iapply (step_send m K c 13 (by decide) (k0_off7_eq c) rfl rfl (Fin.ext (k0_dev29_eq c))) $$ [HS HC0]
  · isplitr; · iexact HR
    isplitl [HS]; · iexact HS
    iexact HC0
  iintro ⟨HS, HC0⟩
  iapply (step_send m K c 14 (by decide) (k0_off7_eq c) rfl rfl (Fin.ext (k0_dev30_eq c))) $$ [HS HC0]
  · isplitr; · iexact HR
    isplitl [HS]; · iexact HS
    iexact HC0
  iintro ⟨HS, HC0⟩
  ihave Hx := (k_next m c 0) $$ [HK0 HKR2]
  · isplitl [HK0]; · iexact HK0
    iexact HKR2
  icases Hx with ⟨HK0, HKS0⟩
  iapply (copyK m K c 2 (by decide) rfl rfl rfl) $$ [HK0]
  · isplitr; · iexact HR
    iexact HK0
  iintro HK0
  rw [wp_ret]; imodintro
  iapply Hk
  isplitl [HS]; · iexact HS
  isplitl [HC0]; · iexact HC0
  isplitl [HK0]; · iexact HK0
  iexact HKS0

set_option maxHeartbeats 4000000 in
theorem part15 (K : GSem nD τ sig → ℕ) (c : Dev nD) {Q : _ → sProp 𝕄} :
    iprop(recs m K ∗ vB' m c 0 ∗ vRest m c 2 ∗ sendSt c 15 ∗ kA c 1 ∗ vA c 1 ∗ qPts m c)
      ⊢ iprop((iprop(vA c 2 ∗ vSrc m c 0 ∗ sendSt c 15 ∗ kB' m c 1 ∗ vB' m c 1 ∗ qPts m c) -∗ Q ⟨(k0_pay19 k0_pay2 (qrow m c 2)), (k0_pay20 (kblk m c 2)), (k0_pay21 (vblk m c 2))⟩)
        -∗ wp frame (wpE (defs₀ (F := F)) 𝒱₀ (c : Thread nD τ) none) Set.univ (k0_part15 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 k0_pay2) Q) := by
  simp only [k0_part15_eq_skeleton]; unfold k0_part15_skel
  simp only [Prog.lift, Prog.bind_op, Prog.bind_ret, Prog.pure_eq_ret]
  iintro ⟨#HR, HV0, HVR2, HS, HK1, HV1, HQ⟩ Hk
  ihave Hx := (v_next m c 0) $$ [HV0 HVR2]
  · isplitl [HV0]; · iexact HV0
    iexact HVR2
  icases Hx with ⟨HV0, HVS0⟩
  iapply (copyV m K c 2 (by decide) rfl rfl rfl) $$ [HV0]
  · isplitr; · iexact HR
    iexact HV0
  iintro HV0
  iapply (waitK m K c 1 15 (by decide) rfl) $$ [HS HK1]
  · isplitr; · iexact HR
    isplitl [HS]; · iexact HS
    iexact HK1
  iintro ⟨HS, HK1⟩
  iapply (waitV m K c 1 15 (by decide) rfl) $$ [HS HV1]
  · isplitr; · iexact HR
    isplitl [HS]; · iexact HS
    iexact HV1
  iintro ⟨HS, HV1⟩
  iapply (step_ldQ m c 2 rfl) $$ HQ
  iintro HQ
  iapply (ldK m c 1 0 2 rfl rfl) $$ HK1
  iintro HK1
  iapply (ldV m c 1 0 2 rfl rfl) $$ HV1
  iintro HV1
  rw [wp_ret]; imodintro
  iapply Hk
  isplitl [HV0]; · iexact HV0
  isplitl [HVS0]; · iexact HVS0
  isplitl [HS]; · iexact HS
  isplitl [HK1]; · iexact HK1
  isplitl [HV1]; · iexact HV1
  iexact HQ

set_option maxHeartbeats 4000000 in
theorem part16 (K : GSem nD τ sig → ℕ) (c : Dev nD) (v2 : BitVec 32) {Q : _ → sProp 𝕄} :
    iprop(recs m K ∗ compSt m c 1 0 ∗ qPts m c)
      ⊢ iprop((iprop(compSt m c 1 3 ∗ qPts m c) -∗ Q (k0_pay28 k0_pay2 (qrow m c 3)))
        -∗ wp frame (wpE (defs₀ (F := F)) 𝒱₀ (c : Thread nD τ) none) Set.univ (k0_part16 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 k0_pay2 (k0_pay19 k0_pay2 (qrow m c 2)) (k0_pay20 (kblk m c 2)) (k0_pay21 (vblk m c 2))) Q) := by
  simp only [k0_part16_eq_skeleton]; unfold k0_part16_skel
  simp only [Prog.lift, Prog.bind_op, Prog.bind_ret, Prog.pure_eq_ret]
  iintro ⟨#HR, HC1, HQ⟩ Hk
  iapply (step_putO m c 1 0 2 rfl (by decide) (k0_off8_eq c) rfl) $$ HC1
  iintro HC1
  iapply (step_putM m c 1 0 2 rfl (by decide) (k0_off9_eq c) rfl) $$ HC1
  iintro HC1
  iapply (step_putL m c 1 0 2 rfl (by decide) (k0_off10_eq c) rfl) $$ HC1
  iintro HC1
  iapply (step_ldQ m c 3 rfl) $$ HQ
  iintro HQ
  rw [wp_ret]; imodintro
  iapply Hk
  isplitl [HC1]; · iexact HC1
  iexact HQ

set_option maxHeartbeats 4000000 in
theorem part17 (K : GSem nD τ sig → ℕ) (c : Dev nD) (v2 : BitVec 32) {Q : _ → sProp 𝕄} :
    iprop(recs m K ∗ kB' m c 1 ∗ vB' m c 1 ∗ compSt m c 1 3)
      ⊢ iprop((∀ r, iprop(kB' m c 1 ∗ vB' m c 1 ∗ slotPts m c c.val 1 (shareDrop fullShare 0)) -∗ Q r)
        -∗ wp frame (wpE (defs₀ (F := F)) 𝒱₀ (c : Thread nD τ) none) Set.univ (k0_part17 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 (k0_pay28 k0_pay2 (qrow m c 3))) Q) := by
  simp only [k0_part17_eq_skeleton]; unfold k0_part17_skel
  simp only [Prog.lift, Prog.bind_op, Prog.bind_ret, Prog.pure_eq_ret]
  iintro ⟨#HR, HK1, HV1, HC1⟩ Hk
  iapply (ldK m c 1 1 3 rfl rfl) $$ HK1
  iintro HK1
  iapply (ldV m c 1 1 3 rfl rfl) $$ HV1
  iintro HV1
  iapply (step_putO m c 1 1 3 rfl (by decide) (k0_off11_eq c) rfl) $$ HC1
  iintro HC1
  iapply (step_putM m c 1 1 3 rfl (by decide) (k0_off12_eq c) rfl) $$ HC1
  iintro HC1
  iapply (step_putL m c 1 1 3 rfl (by decide) (k0_off13_eq c) rfl) $$ HC1
  iintro HC1
  ihave Hx := (compSt_end m c 1) $$ HC1
  icases Hx with HC1
  rw [wp_ret]; imodintro
  iapply Hk
  isplitl [HK1]; · iexact HK1
  isplitl [HV1]; · iexact HV1
  iexact HC1

end Cert.KernelIdeal.Talk
-- ==== Proof.PartsB.lean ====
/-
The body, part by part: the other two chunks and their sends.
-/
module

public import proofs.«01_k».proof.Proof.Phase

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ)

set_option maxHeartbeats 4000000 in
theorem part18 (K : GSem nD τ sig → ℕ) (c : Dev nD) (v2 c1_i32_449 : BitVec 32) {Q : _ → sProp 𝕄} :
    iprop(recs m K ∗ sendSt c 15 ∗ slotPts m c c.val 1 (shareDrop fullShare 0))
      ⊢ iprop((∀ r, iprop(sendSt c 17 ∗ slotPts m c c.val 1 (shareDrop fullShare 2)) -∗ Q r)
        -∗ wp frame (wpE (defs₀ (F := F)) 𝒱₀ (c : Thread nD τ) none) Set.univ (k0_part18 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 c1_i32_449) Q) := by
  simp only [k0_part18_eq_skeleton]; unfold k0_part18_skel
  simp only [Prog.lift, Prog.bind_op, Prog.bind_ret, Prog.pure_eq_ret]
  iintro ⟨#HR, HS, HC1⟩ Hk
  iapply (step_send m K c 15 (by decide) (k0_off14_eq c) rfl rfl (Fin.ext (k0_dev31_eq c))) $$ [HS HC1]
  · isplitr; · iexact HR
    isplitl [HS]; · iexact HS
    iexact HC1
  iintro ⟨HS, HC1⟩
  iapply (step_send m K c 16 (by decide) (k0_off14_eq c) rfl rfl (Fin.ext (k0_dev32_eq c))) $$ [HS HC1]
  · isplitr; · iexact HR
    isplitl [HS]; · iexact HS
    iexact HC1
  iintro ⟨HS, HC1⟩
  rw [wp_ret]; imodintro
  iapply Hk
  isplitl [HS]; · iexact HS
  iexact HC1

set_option maxHeartbeats 4000000 in
theorem part19 (K : GSem nD τ sig → ℕ) (c : Dev nD) (v2 v514 : BitVec 32) {Q : _ → sProp 𝕄} :
    iprop(recs m K ∗ sendSt c 17 ∗ slotPts m c c.val 1 (shareDrop fullShare 2))
      ⊢ iprop((∀ r, iprop(sendSt c 19 ∗ slotPts m c c.val 1 (shareDrop fullShare 4)) -∗ Q r)
        -∗ wp frame (wpE (defs₀ (F := F)) 𝒱₀ (c : Thread nD τ) none) Set.univ (k0_part19 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v514) Q) := by
  simp only [k0_part19_eq_skeleton]; unfold k0_part19_skel
  simp only [Prog.lift, Prog.bind_op, Prog.bind_ret, Prog.pure_eq_ret]
  iintro ⟨#HR, HS, HC1⟩ Hk
  iapply (step_send m K c 17 (by decide) (k0_off14_eq c) rfl rfl (Fin.ext (k0_dev33_eq c))) $$ [HS HC1]
  · isplitr; · iexact HR
    isplitl [HS]; · iexact HS
    iexact HC1
  iintro ⟨HS, HC1⟩
  iapply (step_send m K c 18 (by decide) (k0_off14_eq c) rfl rfl (Fin.ext (k0_dev34_eq c))) $$ [HS HC1]
  · isplitr; · iexact HR
    isplitl [HS]; · iexact HS
    iexact HC1
  iintro ⟨HS, HC1⟩
  rw [wp_ret]; imodintro
  iapply Hk
  isplitl [HS]; · iexact HS
  iexact HC1

set_option maxHeartbeats 4000000 in
theorem part20 (K : GSem nD τ sig → ℕ) (c : Dev nD) (v2 v539 c0_i32_514 : BitVec 32) {Q : _ → sProp 𝕄} :
    iprop(recs m K ∗ sendSt c 19 ∗ slotPts m c c.val 1 (shareDrop fullShare 4))
      ⊢ iprop((∀ r, iprop(sendSt c 21 ∗ slotPts m c c.val 1 (shareDrop fullShare 6)) -∗ Q r)
        -∗ wp frame (wpE (defs₀ (F := F)) 𝒱₀ (c : Thread nD τ) none) Set.univ (k0_part20 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v539 c0_i32_514) Q) := by
  simp only [k0_part20_eq_skeleton]; unfold k0_part20_skel
  simp only [Prog.lift, Prog.bind_op, Prog.bind_ret, Prog.pure_eq_ret]
  iintro ⟨#HR, HS, HC1⟩ Hk
  iapply (step_send m K c 19 (by decide) (k0_off14_eq c) rfl rfl (Fin.ext (k0_dev35_eq c))) $$ [HS HC1]
  · isplitr; · iexact HR
    isplitl [HS]; · iexact HS
    iexact HC1
  iintro ⟨HS, HC1⟩
  iapply (step_send m K c 20 (by decide) (k0_off14_eq c) rfl rfl (Fin.ext (k0_dev36_eq c))) $$ [HS HC1]
  · isplitr; · iexact HR
    isplitl [HS]; · iexact HS
    iexact HC1
  iintro ⟨HS, HC1⟩
  rw [wp_ret]; imodintro
  iapply Hk
  isplitl [HS]; · iexact HS
  iexact HC1

set_option maxHeartbeats 4000000 in
theorem part21 (K : GSem nD τ sig → ℕ) (c : Dev nD) (v2 : BitVec 32) {Q : _ → sProp 𝕄} :
    iprop(recs m K ∗ sendSt c 21 ∗ slotPts m c c.val 1 (shareDrop fullShare 6))
      ⊢ iprop((∀ r, iprop(sendSt c 23 ∗ slotPts m c c.val 1 (shareDrop fullShare 8)) -∗ Q r)
        -∗ wp frame (wpE (defs₀ (F := F)) 𝒱₀ (c : Thread nD τ) none) Set.univ (k0_part21 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2) Q) := by
  simp only [k0_part21_eq_skeleton]; unfold k0_part21_skel
  simp only [Prog.lift, Prog.bind_op, Prog.bind_ret, Prog.pure_eq_ret]
  iintro ⟨#HR, HS, HC1⟩ Hk
  iapply (step_send m K c 21 (by decide) (k0_off14_eq c) rfl rfl (Fin.ext (k0_dev37_eq c))) $$ [HS HC1]
  · isplitr; · iexact HR
    isplitl [HS]; · iexact HS
    iexact HC1
  iintro ⟨HS, HC1⟩
  iapply (step_send m K c 22 (by decide) (k0_off14_eq c) rfl rfl (Fin.ext (k0_dev38_eq c))) $$ [HS HC1]
  · isplitr; · iexact HR
    isplitl [HS]; · iexact HS
    iexact HC1
  iintro ⟨HS, HC1⟩
  rw [wp_ret]; imodintro
  iapply Hk
  isplitl [HS]; · iexact HS
  iexact HC1

set_option maxHeartbeats 4000000 in
theorem part22 (K : GSem nD τ sig → ℕ) (c : Dev nD) (v2 : BitVec 32) {Q : _ → sProp 𝕄} :
    iprop(recs m K ∗ sendSt c 23 ∗ slotPts m c c.val 1 (shareDrop fullShare 8))
      ⊢ iprop((∀ r, iprop(sendSt c 26 ∗ slotPts m c c.val 1 (shareDrop fullShare 11)) -∗ Q r)
        -∗ wp frame (wpE (defs₀ (F := F)) 𝒱₀ (c : Thread nD τ) none) Set.univ (k0_part22 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2) Q) := by
  simp only [k0_part22_eq_skeleton]; unfold k0_part22_skel
  simp only [Prog.lift, Prog.bind_op, Prog.bind_ret, Prog.pure_eq_ret]
  iintro ⟨#HR, HS, HC1⟩ Hk
  iapply (step_send m K c 23 (by decide) (k0_off14_eq c) rfl rfl (Fin.ext (k0_dev39_eq c))) $$ [HS HC1]
  · isplitr; · iexact HR
    isplitl [HS]; · iexact HS
    iexact HC1
  iintro ⟨HS, HC1⟩
  iapply (step_send m K c 24 (by decide) (k0_off14_eq c) rfl rfl (Fin.ext (k0_dev40_eq c))) $$ [HS HC1]
  · isplitr; · iexact HR
    isplitl [HS]; · iexact HS
    iexact HC1
  iintro ⟨HS, HC1⟩
  iapply (step_send m K c 25 (by decide) (k0_off14_eq c) rfl rfl (Fin.ext (k0_dev41_eq c))) $$ [HS HC1]
  · isplitr; · iexact HR
    isplitl [HS]; · iexact HS
    iexact HC1
  iintro ⟨HS, HC1⟩
  rw [wp_ret]; imodintro
  iapply Hk
  isplitl [HS]; · iexact HS
  iexact HC1

set_option maxHeartbeats 4000000 in
theorem part23 (K : GSem nD τ sig → ℕ) (c : Dev nD) (v2 v622 : BitVec 32) {Q : _ → sProp 𝕄} :
    iprop(recs m K ∗ sendSt c 26 ∗ slotPts m c c.val 1 (shareDrop fullShare 11))
      ⊢ iprop((∀ r, iprop(sendSt c 28 ∗ slotPts m c c.val 1 (shareDrop fullShare 13)) -∗ Q r)
        -∗ wp frame (wpE (defs₀ (F := F)) 𝒱₀ (c : Thread nD τ) none) Set.univ (k0_part23 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v622) Q) := by
  simp only [k0_part23_eq_skeleton]; unfold k0_part23_skel
  simp only [Prog.lift, Prog.bind_op, Prog.bind_ret, Prog.pure_eq_ret]
  iintro ⟨#HR, HS, HC1⟩ Hk
  iapply (step_send m K c 26 (by decide) (k0_off14_eq c) rfl rfl (Fin.ext (k0_dev42_eq c))) $$ [HS HC1]
  · isplitr; · iexact HR
    isplitl [HS]; · iexact HS
    iexact HC1
  iintro ⟨HS, HC1⟩
  iapply (step_send m K c 27 (by decide) (k0_off14_eq c) rfl rfl (Fin.ext (k0_dev43_eq c))) $$ [HS HC1]
  · isplitr; · iexact HR
    isplitl [HS]; · iexact HS
    iexact HC1
  iintro ⟨HS, HC1⟩
  rw [wp_ret]; imodintro
  iapply Hk
  isplitl [HS]; · iexact HS
  iexact HC1

set_option maxHeartbeats 4000000 in
theorem part24 (K : GSem nD τ sig → ℕ) (c : Dev nD) (v2 v646 : BitVec 32) {Q : _ → sProp 𝕄} :
    iprop(recs m K ∗ sendSt c 28 ∗ slotPts m c c.val 1 (shareDrop fullShare 13) ∗ kB' m c 1 ∗ kRest m c 3)
      ⊢ iprop((∀ r, iprop(sendSt c 30 ∗ slotPts m c c.val 1 (shareDrop fullShare 15) ∗ kA c 3 ∗ kSrc m c 1) -∗ Q r)
        -∗ wp frame (wpE (defs₀ (F := F)) 𝒱₀ (c : Thread nD τ) none) Set.univ (k0_part24 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v646) Q) := by
  simp only [k0_part24_eq_skeleton]; unfold k0_part24_skel
  simp only [Prog.lift, Prog.bind_op, Prog.bind_ret, Prog.pure_eq_ret]
  iintro ⟨#HR, HS, HC1, HK1, HKR3⟩ Hk
  iapply (step_send m K c 28 (by decide) (k0_off14_eq c) rfl rfl (Fin.ext (k0_dev44_eq c))) $$ [HS HC1]
  · isplitr; · iexact HR
    isplitl [HS]; · iexact HS
    iexact HC1
  iintro ⟨HS, HC1⟩
  iapply (step_send m K c 29 (by decide) (k0_off14_eq c) rfl rfl (Fin.ext (k0_dev45_eq c))) $$ [HS HC1]
  · isplitr; · iexact HR
    isplitl [HS]; · iexact HS
    iexact HC1
  iintro ⟨HS, HC1⟩
  ihave Hx := (k_next m c 1) $$ [HK1 HKR3]
  · isplitl [HK1]; · iexact HK1
    iexact HKR3
  icases Hx with ⟨HK1, HKS1⟩
  iapply (copyK m K c 3 (by decide) rfl rfl rfl) $$ [HK1]
  · isplitr; · iexact HR
    iexact HK1
  iintro HK1
  rw [wp_ret]; imodintro
  iapply Hk
  isplitl [HS]; · iexact HS
  isplitl [HC1]; · iexact HC1
  isplitl [HK1]; · iexact HK1
  iexact HKS1

set_option maxHeartbeats 4000000 in
theorem part25 (K : GSem nD τ sig → ℕ) (c : Dev nD) {Q : _ → sProp 𝕄} :
    iprop(recs m K ∗ vB' m c 1 ∗ vRest m c 3 ∗ sendSt c 30 ∗ kA c 2 ∗ vA c 2 ∗ qPts m c)
      ⊢ iprop((iprop(vA c 3 ∗ vSrc m c 1 ∗ sendSt c 30 ∗ kB' m c 2 ∗ vB' m c 2 ∗ qPts m c) -∗ Q ⟨(k0_pay35 k0_pay2 (qrow m c 4)), (k0_pay36 (kblk m c 4)), (vblk m c 4)⟩)
        -∗ wp frame (wpE (defs₀ (F := F)) 𝒱₀ (c : Thread nD τ) none) Set.univ (k0_part25 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 k0_pay2) Q) := by
  simp only [k0_part25_eq_skeleton]; unfold k0_part25_skel
  simp only [Prog.lift, Prog.bind_op, Prog.bind_ret, Prog.pure_eq_ret]
  iintro ⟨#HR, HV1, HVR3, HS, HK0, HV0, HQ⟩ Hk
  ihave Hx := (v_next m c 1) $$ [HV1 HVR3]
  · isplitl [HV1]; · iexact HV1
    iexact HVR3
  icases Hx with ⟨HV1, HVS1⟩
  iapply (copyV m K c 3 (by decide) rfl rfl rfl) $$ [HV1]
  · isplitr; · iexact HR
    iexact HV1
  iintro HV1
  iapply (waitK m K c 2 30 (by decide) rfl) $$ [HS HK0]
  · isplitr; · iexact HR
    isplitl [HS]; · iexact HS
    iexact HK0
  iintro ⟨HS, HK0⟩
  iapply (waitV m K c 2 30 (by decide) rfl) $$ [HS HV0]
  · isplitr; · iexact HR
    isplitl [HS]; · iexact HS
    iexact HV0
  iintro ⟨HS, HV0⟩
  iapply (step_ldQ m c 4 rfl) $$ HQ
  iintro HQ
  iapply (ldK m c 2 0 4 rfl rfl) $$ HK0
  iintro HK0
  iapply (ldV m c 2 0 4 rfl rfl) $$ HV0
  iintro HV0
  rw [wp_ret]; imodintro
  iapply Hk
  isplitl [HV1]; · iexact HV1
  isplitl [HVS1]; · iexact HVS1
  isplitl [HS]; · iexact HS
  isplitl [HK0]; · iexact HK0
  isplitl [HV0]; · iexact HV0
  iexact HQ

set_option maxHeartbeats 4000000 in
theorem part26 (K : GSem nD τ sig → ℕ) (c : Dev nD) (v2 : BitVec 32) {Q : _ → sProp 𝕄} :
    iprop(recs m K ∗ compSt m c 2 0 ∗ qPts m c)
      ⊢ iprop((iprop(compSt m c 2 3 ∗ qPts m c) -∗ Q (k0_pay43 k0_pay2 (qrow m c 5)))
        -∗ wp frame (wpE (defs₀ (F := F)) 𝒱₀ (c : Thread nD τ) none) Set.univ (k0_part26 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 k0_pay2 (k0_pay35 k0_pay2 (qrow m c 4)) (k0_pay36 (kblk m c 4)) (vblk m c 4)) Q) := by
  simp only [k0_part26_eq_skeleton]; unfold k0_part26_skel
  simp only [Prog.lift, Prog.bind_op, Prog.bind_ret, Prog.pure_eq_ret]
  iintro ⟨#HR, HC2, HQ⟩ Hk
  iapply (step_putO m c 2 0 4 rfl (by decide) (k0_off15_eq c) rfl) $$ HC2
  iintro HC2
  iapply (step_putM m c 2 0 4 rfl (by decide) (k0_off16_eq c) rfl) $$ HC2
  iintro HC2
  iapply (step_putL m c 2 0 4 rfl (by decide) (k0_off17_eq c) rfl) $$ HC2
  iintro HC2
  iapply (step_ldQ m c 5 rfl) $$ HQ
  iintro HQ
  rw [wp_ret]; imodintro
  iapply Hk
  isplitl [HC2]; · iexact HC2
  iexact HQ

set_option maxHeartbeats 4000000 in
theorem part27 (K : GSem nD τ sig → ℕ) (c : Dev nD) (v2 : BitVec 32) {Q : _ → sProp 𝕄} :
    iprop(recs m K ∗ kB' m c 2 ∗ vB' m c 2 ∗ compSt m c 2 3)
      ⊢ iprop((∀ r, iprop(kB' m c 2 ∗ vB' m c 2 ∗ slotPts m c c.val 2 (shareDrop fullShare 0)) -∗ Q r)
        -∗ wp frame (wpE (defs₀ (F := F)) 𝒱₀ (c : Thread nD τ) none) Set.univ (k0_part27 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 (k0_pay43 k0_pay2 (qrow m c 5))) Q) := by
  simp only [k0_part27_eq_skeleton]; unfold k0_part27_skel
  simp only [Prog.lift, Prog.bind_op, Prog.bind_ret, Prog.pure_eq_ret]
  iintro ⟨#HR, HK0, HV0, HC2⟩ Hk
  iapply (ldK m c 2 1 5 rfl rfl) $$ HK0
  iintro HK0
  iapply (ldV m c 2 1 5 rfl rfl) $$ HV0
  iintro HV0
  iapply (step_putO m c 2 1 5 rfl (by decide) (k0_off18_eq c) rfl) $$ HC2
  iintro HC2
  iapply (step_putM m c 2 1 5 rfl (by decide) (k0_off19_eq c) rfl) $$ HC2
  iintro HC2
  iapply (step_putL m c 2 1 5 rfl (by decide) (k0_off20_eq c) rfl) $$ HC2
  iintro HC2
  ihave Hx := (compSt_end m c 2) $$ HC2
  icases Hx with HC2
  rw [wp_ret]; imodintro
  iapply Hk
  isplitl [HK0]; · iexact HK0
  isplitl [HV0]; · iexact HV0
  iexact HC2

set_option maxHeartbeats 4000000 in
theorem part28 (K : GSem nD τ sig → ℕ) (c : Dev nD) (v2 : BitVec 32) {Q : _ → sProp 𝕄} :
    iprop(recs m K ∗ sendSt c 30 ∗ slotPts m c c.val 2 (shareDrop fullShare 0))
      ⊢ iprop((∀ r, iprop(sendSt c 32 ∗ slotPts m c c.val 2 (shareDrop fullShare 2)) -∗ Q r)
        -∗ wp frame (wpE (defs₀ (F := F)) 𝒱₀ (c : Thread nD τ) none) Set.univ (k0_part28 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2) Q) := by
  simp only [k0_part28_eq_skeleton]; unfold k0_part28_skel
  simp only [Prog.lift, Prog.bind_op, Prog.bind_ret, Prog.pure_eq_ret]
  iintro ⟨#HR, HS, HC2⟩ Hk
  iapply (step_send m K c 30 (by decide) (k0_off21_eq c) rfl rfl (Fin.ext (k0_dev46_eq c))) $$ [HS HC2]
  · isplitr; · iexact HR
    isplitl [HS]; · iexact HS
    iexact HC2
  iintro ⟨HS, HC2⟩
  iapply (step_send m K c 31 (by decide) (k0_off21_eq c) rfl rfl (Fin.ext (k0_dev47_eq c))) $$ [HS HC2]
  · isplitr; · iexact HR
    isplitl [HS]; · iexact HS
    iexact HC2
  iintro ⟨HS, HC2⟩
  rw [wp_ret]; imodintro
  iapply Hk
  isplitl [HS]; · iexact HS
  iexact HC2

set_option maxHeartbeats 4000000 in
theorem part29 (K : GSem nD τ sig → ℕ) (c : Dev nD) (v2 v798 : BitVec 32) {Q : _ → sProp 𝕄} :
    iprop(recs m K ∗ sendSt c 32 ∗ slotPts m c c.val 2 (shareDrop fullShare 2))
      ⊢ iprop((∀ r, iprop(sendSt c 34 ∗ slotPts m c c.val 2 (shareDrop fullShare 4)) -∗ Q r)
        -∗ wp frame (wpE (defs₀ (F := F)) 𝒱₀ (c : Thread nD τ) none) Set.univ (k0_part29 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v798) Q) := by
  simp only [k0_part29_eq_skeleton]; unfold k0_part29_skel
  simp only [Prog.lift, Prog.bind_op, Prog.bind_ret, Prog.pure_eq_ret]
  iintro ⟨#HR, HS, HC2⟩ Hk
  iapply (step_send m K c 32 (by decide) (k0_off21_eq c) rfl rfl (Fin.ext (k0_dev48_eq c))) $$ [HS HC2]
  · isplitr; · iexact HR
    isplitl [HS]; · iexact HS
    iexact HC2
  iintro ⟨HS, HC2⟩
  iapply (step_send m K c 33 (by decide) (k0_off21_eq c) rfl rfl (Fin.ext (k0_dev49_eq c))) $$ [HS HC2]
  · isplitr; · iexact HR
    isplitl [HS]; · iexact HS
    iexact HC2
  iintro ⟨HS, HC2⟩
  rw [wp_ret]; imodintro
  iapply Hk
  isplitl [HS]; · iexact HS
  iexact HC2

set_option maxHeartbeats 4000000 in
theorem part30 (K : GSem nD τ sig → ℕ) (c : Dev nD) (v2 v823 : BitVec 32) {Q : _ → sProp 𝕄} :
    iprop(recs m K ∗ sendSt c 34 ∗ slotPts m c c.val 2 (shareDrop fullShare 4))
      ⊢ iprop((∀ r, iprop(sendSt c 36 ∗ slotPts m c c.val 2 (shareDrop fullShare 6)) -∗ Q r)
        -∗ wp frame (wpE (defs₀ (F := F)) 𝒱₀ (c : Thread nD τ) none) Set.univ (k0_part30 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v823) Q) := by
  simp only [k0_part30_eq_skeleton]; unfold k0_part30_skel
  simp only [Prog.lift, Prog.bind_op, Prog.bind_ret, Prog.pure_eq_ret]
  iintro ⟨#HR, HS, HC2⟩ Hk
  iapply (step_send m K c 34 (by decide) (k0_off21_eq c) rfl rfl (Fin.ext (k0_dev50_eq c))) $$ [HS HC2]
  · isplitr; · iexact HR
    isplitl [HS]; · iexact HS
    iexact HC2
  iintro ⟨HS, HC2⟩
  iapply (step_send m K c 35 (by decide) (k0_off21_eq c) rfl rfl (Fin.ext (k0_dev51_eq c))) $$ [HS HC2]
  · isplitr; · iexact HR
    isplitl [HS]; · iexact HS
    iexact HC2
  iintro ⟨HS, HC2⟩
  rw [wp_ret]; imodintro
  iapply Hk
  isplitl [HS]; · iexact HS
  iexact HC2

set_option maxHeartbeats 4000000 in
theorem part31 (K : GSem nD τ sig → ℕ) (c : Dev nD) (v2 : BitVec 32) {Q : _ → sProp 𝕄} :
    iprop(recs m K ∗ sendSt c 36 ∗ slotPts m c c.val 2 (shareDrop fullShare 6))
      ⊢ iprop((∀ r, iprop(sendSt c 38 ∗ slotPts m c c.val 2 (shareDrop fullShare 8)) -∗ Q r)
        -∗ wp frame (wpE (defs₀ (F := F)) 𝒱₀ (c : Thread nD τ) none) Set.univ (k0_part31 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2) Q) := by
  simp only [k0_part31_eq_skeleton]; unfold k0_part31_skel
  simp only [Prog.lift, Prog.bind_op, Prog.bind_ret, Prog.pure_eq_ret]
  iintro ⟨#HR, HS, HC2⟩ Hk
  iapply (step_send m K c 36 (by decide) (k0_off21_eq c) rfl rfl (Fin.ext (k0_dev52_eq c))) $$ [HS HC2]
  · isplitr; · iexact HR
    isplitl [HS]; · iexact HS
    iexact HC2
  iintro ⟨HS, HC2⟩
  iapply (step_send m K c 37 (by decide) (k0_off21_eq c) rfl rfl (Fin.ext (k0_dev53_eq c))) $$ [HS HC2]
  · isplitr; · iexact HR
    isplitl [HS]; · iexact HS
    iexact HC2
  iintro ⟨HS, HC2⟩
  rw [wp_ret]; imodintro
  iapply Hk
  isplitl [HS]; · iexact HS
  iexact HC2

set_option maxHeartbeats 4000000 in
theorem part32 (K : GSem nD τ sig → ℕ) (c : Dev nD) (v2 : BitVec 32) {Q : _ → sProp 𝕄} :
    iprop(recs m K ∗ sendSt c 38 ∗ slotPts m c c.val 2 (shareDrop fullShare 8))
      ⊢ iprop((∀ r, iprop(sendSt c 41 ∗ slotPts m c c.val 2 (shareDrop fullShare 11)) -∗ Q r)
        -∗ wp frame (wpE (defs₀ (F := F)) 𝒱₀ (c : Thread nD τ) none) Set.univ (k0_part32 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2) Q) := by
  simp only [k0_part32_eq_skeleton]; unfold k0_part32_skel
  simp only [Prog.lift, Prog.bind_op, Prog.bind_ret, Prog.pure_eq_ret]
  iintro ⟨#HR, HS, HC2⟩ Hk
  iapply (step_send m K c 38 (by decide) (k0_off21_eq c) rfl rfl (Fin.ext (k0_dev54_eq c))) $$ [HS HC2]
  · isplitr; · iexact HR
    isplitl [HS]; · iexact HS
    iexact HC2
  iintro ⟨HS, HC2⟩
  iapply (step_send m K c 39 (by decide) (k0_off21_eq c) rfl rfl (Fin.ext (k0_dev55_eq c))) $$ [HS HC2]
  · isplitr; · iexact HR
    isplitl [HS]; · iexact HS
    iexact HC2
  iintro ⟨HS, HC2⟩
  iapply (step_send m K c 40 (by decide) (k0_off21_eq c) rfl rfl (Fin.ext (k0_dev56_eq c))) $$ [HS HC2]
  · isplitr; · iexact HR
    isplitl [HS]; · iexact HS
    iexact HC2
  iintro ⟨HS, HC2⟩
  rw [wp_ret]; imodintro
  iapply Hk
  isplitl [HS]; · iexact HS
  iexact HC2

set_option maxHeartbeats 4000000 in
theorem part33 (K : GSem nD τ sig → ℕ) (c : Dev nD) (v2 v905 c16_i32_894 : BitVec 32) {Q : _ → sProp 𝕄} :
    iprop(recs m K ∗ sendSt c 41 ∗ slotPts m c c.val 2 (shareDrop fullShare 11))
      ⊢ iprop((∀ r, iprop(sendSt c 43 ∗ slotPts m c c.val 2 (shareDrop fullShare 13)) -∗ Q r)
        -∗ wp frame (wpE (defs₀ (F := F)) 𝒱₀ (c : Thread nD τ) none) Set.univ (k0_part33 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v905 c16_i32_894) Q) := by
  simp only [k0_part33_eq_skeleton]; unfold k0_part33_skel
  simp only [Prog.lift, Prog.bind_op, Prog.bind_ret, Prog.pure_eq_ret]
  iintro ⟨#HR, HS, HC2⟩ Hk
  iapply (step_send m K c 41 (by decide) (k0_off21_eq c) rfl rfl (Fin.ext (k0_dev57_eq c))) $$ [HS HC2]
  · isplitr; · iexact HR
    isplitl [HS]; · iexact HS
    iexact HC2
  iintro ⟨HS, HC2⟩
  iapply (step_send m K c 42 (by decide) (k0_off21_eq c) rfl rfl (Fin.ext (k0_dev58_eq c))) $$ [HS HC2]
  · isplitr; · iexact HR
    isplitl [HS]; · iexact HS
    iexact HC2
  iintro ⟨HS, HC2⟩
  rw [wp_ret]; imodintro
  iapply Hk
  isplitl [HS]; · iexact HS
  iexact HC2

set_option maxHeartbeats 4000000 in
theorem part34 (K : GSem nD τ sig → ℕ) (c : Dev nD) (v2 v930 : BitVec 32) {Q : _ → sProp 𝕄} :
    iprop(recs m K ∗ sendSt c 43 ∗ slotPts m c c.val 2 (shareDrop fullShare 13) ∗ kA c 3)
      ⊢ iprop((∀ r, iprop(sendSt c 45 ∗ slotPts m c c.val 2 (shareDrop fullShare 15) ∗ kB' m c 3) -∗ Q r)
        -∗ wp frame (wpE (defs₀ (F := F)) 𝒱₀ (c : Thread nD τ) none) Set.univ (k0_part34 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v930) Q) := by
  simp only [k0_part34_eq_skeleton]; unfold k0_part34_skel
  simp only [Prog.lift, Prog.bind_op, Prog.bind_ret, Prog.pure_eq_ret]
  iintro ⟨#HR, HS, HC2, HK1⟩ Hk
  iapply (step_send m K c 43 (by decide) (k0_off21_eq c) rfl rfl (Fin.ext (k0_dev59_eq c))) $$ [HS HC2]
  · isplitr; · iexact HR
    isplitl [HS]; · iexact HS
    iexact HC2
  iintro ⟨HS, HC2⟩
  iapply (step_send m K c 44 (by decide) (k0_off21_eq c) rfl rfl (Fin.ext (k0_dev60_eq c))) $$ [HS HC2]
  · isplitr; · iexact HR
    isplitl [HS]; · iexact HS
    iexact HC2
  iintro ⟨HS, HC2⟩
  iapply (waitK m K c 3 45 (by decide) rfl) $$ [HS HK1]
  · isplitr; · iexact HR
    isplitl [HS]; · iexact HS
    iexact HK1
  iintro ⟨HS, HK1⟩
  rw [wp_ret]; imodintro
  iapply Hk
  isplitl [HS]; · iexact HS
  isplitl [HC2]; · iexact HC2
  iexact HK1

set_option maxHeartbeats 4000000 in
theorem part35 (K : GSem nD τ sig → ℕ) (c : Dev nD) (v2 : BitVec 32) {Q : _ → sProp 𝕄} :
    iprop(recs m K ∗ sendSt c 45 ∗ vA c 3 ∗ qPts m c ∗ kB' m c 3)
      ⊢ iprop((iprop(sendSt c 45 ∗ vB' m c 3 ∗ qPts m c ∗ kB' m c 3) -∗ Q ⟨(k0_pay51 k0_pay2 (qrow m c 6) (kblk m c 6)), (k0_pay53 k0_pay2 (qrow m c 6) (kblk m c 6)), (k0_pay54 k0_pay2 (qrow m c 6) (kblk m c 6) (vblk m c 6))⟩)
        -∗ wp frame (wpE (defs₀ (F := F)) 𝒱₀ (c : Thread nD τ) none) Set.univ (k0_part35 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 v2 k0_pay2) Q) := by
  simp only [k0_part35_eq_skeleton]; unfold k0_part35_skel
  simp only [Prog.lift, Prog.bind_op, Prog.bind_ret, Prog.pure_eq_ret]
  iintro ⟨#HR, HS, HV1, HQ, HK1⟩ Hk
  iapply (waitV m K c 3 45 (by decide) rfl) $$ [HS HV1]
  · isplitr; · iexact HR
    isplitl [HS]; · iexact HS
    iexact HV1
  iintro ⟨HS, HV1⟩
  iapply (step_ldQ m c 6 rfl) $$ HQ
  iintro HQ
  iapply (ldK m c 3 0 6 rfl rfl) $$ HK1
  iintro HK1
  iapply (ldV m c 3 0 6 rfl rfl) $$ HV1
  iintro HV1
  rw [wp_ret]; imodintro
  iapply Hk
  isplitl [HS]; · iexact HS
  isplitl [HV1]; · iexact HV1
  isplitl [HQ]; · iexact HQ
  iexact HK1

set_option maxHeartbeats 4000000 in
theorem part36 (K : GSem nD τ sig → ℕ) (c : Dev nD) (v2 : BitVec 32) {Q : _ → sProp 𝕄} :
    iprop(recs m K ∗ compSt m c 3 0 ∗ qPts m c ∗ kB' m c 3 ∗ vB' m c 3)
      ⊢ iprop((iprop(compSt m c 3 3 ∗ qPts m c ∗ kB' m c 3 ∗ vB' m c 3) -∗ Q ⟨(k0_pay59 k0_pay2 (qrow m c 7) (kblk m c 7)), (k0_pay61 k0_pay2 (qrow m c 7) (kblk m c 7)), (k0_pay62 k0_pay2 (qrow m c 7) (kblk m c 7) (vblk m c 7))⟩)
        -∗ wp frame (wpE (defs₀ (F := F)) 𝒱₀ (c : Thread nD τ) none) Set.univ (k0_part36 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 k0_pay2 (k0_pay51 k0_pay2 (qrow m c 6) (kblk m c 6)) (k0_pay53 k0_pay2 (qrow m c 6) (kblk m c 6)) (k0_pay54 k0_pay2 (qrow m c 6) (kblk m c 6) (vblk m c 6))) Q) := by
  simp only [k0_part36_eq_skeleton]; unfold k0_part36_skel
  simp only [Prog.lift, Prog.bind_op, Prog.bind_ret, Prog.pure_eq_ret]
  iintro ⟨#HR, HC3, HQ, HK1, HV1⟩ Hk
  iapply (step_putO m c 3 0 6 rfl (by decide) (k0_off22_eq c) rfl) $$ HC3
  iintro HC3
  iapply (step_putM m c 3 0 6 rfl (by decide) (k0_off23_eq c) rfl) $$ HC3
  iintro HC3
  iapply (step_putL m c 3 0 6 rfl (by decide) (k0_off24_eq c) rfl) $$ HC3
  iintro HC3
  iapply (step_ldQ m c 7 rfl) $$ HQ
  iintro HQ
  iapply (ldK m c 3 1 7 rfl rfl) $$ HK1
  iintro HK1
  iapply (ldV m c 3 1 7 rfl rfl) $$ HV1
  iintro HV1
  rw [wp_ret]; imodintro
  iapply Hk
  isplitl [HC3]; · iexact HC3
  isplitl [HQ]; · iexact HQ
  isplitl [HK1]; · iexact HK1
  iexact HV1

set_option maxHeartbeats 4000000 in
theorem part37 (K : GSem nD τ sig → ℕ) (c : Dev nD) (v2 : BitVec 32) {Q : _ → sProp 𝕄} :
    iprop(recs m K ∗ compSt m c 3 3 ∗ sendSt c 45)
      ⊢ iprop((∀ r, iprop(slotPts m c c.val 3 (shareDrop fullShare 1) ∗ sendSt c 46) -∗ Q r)
        -∗ wp frame (wpE (defs₀ (F := F)) 𝒱₀ (c : Thread nD τ) none) Set.univ (k0_part37 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 (k0_pay59 k0_pay2 (qrow m c 7) (kblk m c 7)) (k0_pay61 k0_pay2 (qrow m c 7) (kblk m c 7)) (k0_pay62 k0_pay2 (qrow m c 7) (kblk m c 7) (vblk m c 7))) Q) := by
  simp only [k0_part37_eq_skeleton]; unfold k0_part37_skel
  simp only [Prog.lift, Prog.bind_op, Prog.bind_ret, Prog.pure_eq_ret]
  iintro ⟨#HR, HC3, HS⟩ Hk
  iapply (step_putO m c 3 1 7 rfl (by decide) (k0_off25_eq c) rfl) $$ HC3
  iintro HC3
  iapply (step_putM m c 3 1 7 rfl (by decide) (k0_off26_eq c) rfl) $$ HC3
  iintro HC3
  iapply (step_putL m c 3 1 7 rfl (by decide) (k0_off27_eq c) rfl) $$ HC3
  iintro HC3
  ihave Hx := (compSt_end m c 3) $$ HC3
  icases Hx with HC3
  iapply (step_send m K c 45 (by decide) (k0_off28_eq c) rfl rfl (Fin.ext (k0_dev61_eq c))) $$ [HS HC3]
  · isplitr; · iexact HR
    isplitl [HS]; · iexact HS
    iexact HC3
  iintro ⟨HS, HC3⟩
  rw [wp_ret]; imodintro
  iapply Hk
  isplitl [HC3]; · iexact HC3
  iexact HS

set_option maxHeartbeats 4000000 in
theorem part38 (K : GSem nD τ sig → ℕ) (c : Dev nD) (v2 : BitVec 32) {Q : _ → sProp 𝕄} :
    iprop(recs m K ∗ sendSt c 46 ∗ slotPts m c c.val 3 (shareDrop fullShare 1))
      ⊢ iprop((∀ r, iprop(sendSt c 48 ∗ slotPts m c c.val 3 (shareDrop fullShare 3)) -∗ Q r)
        -∗ wp frame (wpE (defs₀ (F := F)) 𝒱₀ (c : Thread nD τ) none) Set.univ (k0_part38 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2) Q) := by
  simp only [k0_part38_eq_skeleton]; unfold k0_part38_skel
  simp only [Prog.lift, Prog.bind_op, Prog.bind_ret, Prog.pure_eq_ret]
  iintro ⟨#HR, HS, HC3⟩ Hk
  iapply (step_send m K c 46 (by decide) (k0_off28_eq c) rfl rfl (Fin.ext (k0_dev62_eq c))) $$ [HS HC3]
  · isplitr; · iexact HR
    isplitl [HS]; · iexact HS
    iexact HC3
  iintro ⟨HS, HC3⟩
  iapply (step_send m K c 47 (by decide) (k0_off28_eq c) rfl rfl (Fin.ext (k0_dev63_eq c))) $$ [HS HC3]
  · isplitr; · iexact HR
    isplitl [HS]; · iexact HS
    iexact HC3
  iintro ⟨HS, HC3⟩
  rw [wp_ret]; imodintro
  iapply Hk
  isplitl [HS]; · iexact HS
  iexact HC3

set_option maxHeartbeats 4000000 in
theorem part39 (K : GSem nD τ sig → ℕ) (c : Dev nD) (v2 v1084 : BitVec 32) {Q : _ → sProp 𝕄} :
    iprop(recs m K ∗ sendSt c 48 ∗ slotPts m c c.val 3 (shareDrop fullShare 3))
      ⊢ iprop((∀ r, iprop(sendSt c 50 ∗ slotPts m c c.val 3 (shareDrop fullShare 5)) -∗ Q r)
        -∗ wp frame (wpE (defs₀ (F := F)) 𝒱₀ (c : Thread nD τ) none) Set.univ (k0_part39 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v1084) Q) := by
  simp only [k0_part39_eq_skeleton]; unfold k0_part39_skel
  simp only [Prog.lift, Prog.bind_op, Prog.bind_ret, Prog.pure_eq_ret]
  iintro ⟨#HR, HS, HC3⟩ Hk
  iapply (step_send m K c 48 (by decide) (k0_off28_eq c) rfl rfl (Fin.ext (k0_dev64_eq c))) $$ [HS HC3]
  · isplitr; · iexact HR
    isplitl [HS]; · iexact HS
    iexact HC3
  iintro ⟨HS, HC3⟩
  iapply (step_send m K c 49 (by decide) (k0_off28_eq c) rfl rfl (Fin.ext (k0_dev65_eq c))) $$ [HS HC3]
  · isplitr; · iexact HR
    isplitl [HS]; · iexact HS
    iexact HC3
  iintro ⟨HS, HC3⟩
  rw [wp_ret]; imodintro
  iapply Hk
  isplitl [HS]; · iexact HS
  iexact HC3

set_option maxHeartbeats 4000000 in
theorem part40 (K : GSem nD τ sig → ℕ) (c : Dev nD) (v2 v1109 : BitVec 32) {Q : _ → sProp 𝕄} :
    iprop(recs m K ∗ sendSt c 50 ∗ slotPts m c c.val 3 (shareDrop fullShare 5))
      ⊢ iprop((∀ r, iprop(sendSt c 52 ∗ slotPts m c c.val 3 (shareDrop fullShare 7)) -∗ Q r)
        -∗ wp frame (wpE (defs₀ (F := F)) 𝒱₀ (c : Thread nD τ) none) Set.univ (k0_part40 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v1109) Q) := by
  simp only [k0_part40_eq_skeleton]; unfold k0_part40_skel
  simp only [Prog.lift, Prog.bind_op, Prog.bind_ret, Prog.pure_eq_ret]
  iintro ⟨#HR, HS, HC3⟩ Hk
  iapply (step_send m K c 50 (by decide) (k0_off28_eq c) rfl rfl (Fin.ext (k0_dev66_eq c))) $$ [HS HC3]
  · isplitr; · iexact HR
    isplitl [HS]; · iexact HS
    iexact HC3
  iintro ⟨HS, HC3⟩
  iapply (step_send m K c 51 (by decide) (k0_off28_eq c) rfl rfl (Fin.ext (k0_dev67_eq c))) $$ [HS HC3]
  · isplitr; · iexact HR
    isplitl [HS]; · iexact HS
    iexact HC3
  iintro ⟨HS, HC3⟩
  rw [wp_ret]; imodintro
  iapply Hk
  isplitl [HS]; · iexact HS
  iexact HC3

set_option maxHeartbeats 4000000 in
theorem part41 (K : GSem nD τ sig → ℕ) (c : Dev nD) (v2 : BitVec 32) {Q : _ → sProp 𝕄} :
    iprop(recs m K ∗ sendSt c 52 ∗ slotPts m c c.val 3 (shareDrop fullShare 7))
      ⊢ iprop((∀ r, iprop(sendSt c 54 ∗ slotPts m c c.val 3 (shareDrop fullShare 9)) -∗ Q r)
        -∗ wp frame (wpE (defs₀ (F := F)) 𝒱₀ (c : Thread nD τ) none) Set.univ (k0_part41 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2) Q) := by
  simp only [k0_part41_eq_skeleton]; unfold k0_part41_skel
  simp only [Prog.lift, Prog.bind_op, Prog.bind_ret, Prog.pure_eq_ret]
  iintro ⟨#HR, HS, HC3⟩ Hk
  iapply (step_send m K c 52 (by decide) (k0_off28_eq c) rfl rfl (Fin.ext (k0_dev68_eq c))) $$ [HS HC3]
  · isplitr; · iexact HR
    isplitl [HS]; · iexact HS
    iexact HC3
  iintro ⟨HS, HC3⟩
  iapply (step_send m K c 53 (by decide) (k0_off28_eq c) rfl rfl (Fin.ext (k0_dev69_eq c))) $$ [HS HC3]
  · isplitr; · iexact HR
    isplitl [HS]; · iexact HS
    iexact HC3
  iintro ⟨HS, HC3⟩
  rw [wp_ret]; imodintro
  iapply Hk
  isplitl [HS]; · iexact HS
  iexact HC3

set_option maxHeartbeats 4000000 in
theorem part42 (K : GSem nD τ sig → ℕ) (c : Dev nD) (v2 : BitVec 32) {Q : _ → sProp 𝕄} :
    iprop(recs m K ∗ sendSt c 54 ∗ slotPts m c c.val 3 (shareDrop fullShare 9))
      ⊢ iprop((∀ r, iprop(sendSt c 57 ∗ slotPts m c c.val 3 (shareDrop fullShare 12)) -∗ Q r)
        -∗ wp frame (wpE (defs₀ (F := F)) 𝒱₀ (c : Thread nD τ) none) Set.univ (k0_part42 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2) Q) := by
  simp only [k0_part42_eq_skeleton]; unfold k0_part42_skel
  simp only [Prog.lift, Prog.bind_op, Prog.bind_ret, Prog.pure_eq_ret]
  iintro ⟨#HR, HS, HC3⟩ Hk
  iapply (step_send m K c 54 (by decide) (k0_off28_eq c) rfl rfl (Fin.ext (k0_dev70_eq c))) $$ [HS HC3]
  · isplitr; · iexact HR
    isplitl [HS]; · iexact HS
    iexact HC3
  iintro ⟨HS, HC3⟩
  iapply (step_send m K c 55 (by decide) (k0_off28_eq c) rfl rfl (Fin.ext (k0_dev71_eq c))) $$ [HS HC3]
  · isplitr; · iexact HR
    isplitl [HS]; · iexact HS
    iexact HC3
  iintro ⟨HS, HC3⟩
  iapply (step_send m K c 56 (by decide) (k0_off28_eq c) rfl rfl (Fin.ext (k0_dev72_eq c))) $$ [HS HC3]
  · isplitr; · iexact HR
    isplitl [HS]; · iexact HS
    iexact HC3
  iintro ⟨HS, HC3⟩
  rw [wp_ret]; imodintro
  iapply Hk
  isplitl [HS]; · iexact HS
  iexact HC3

set_option maxHeartbeats 4000000 in
theorem part43 (K : GSem nD τ sig → ℕ) (c : Dev nD) (v2 v1191 c16_i32_1182 : BitVec 32) {Q : _ → sProp 𝕄} :
    iprop(recs m K ∗ sendSt c 57 ∗ slotPts m c c.val 3 (shareDrop fullShare 12))
      ⊢ iprop((∀ r, iprop(sendSt c 59 ∗ slotPts m c c.val 3 (shareDrop fullShare 14)) -∗ Q r)
        -∗ wp frame (wpE (defs₀ (F := F)) 𝒱₀ (c : Thread nD τ) none) Set.univ (k0_part43 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v2 v1191 c16_i32_1182) Q) := by
  simp only [k0_part43_eq_skeleton]; unfold k0_part43_skel
  simp only [Prog.lift, Prog.bind_op, Prog.bind_ret, Prog.pure_eq_ret]
  iintro ⟨#HR, HS, HC3⟩ Hk
  iapply (step_send m K c 57 (by decide) (k0_off28_eq c) rfl rfl (Fin.ext (k0_dev73_eq c))) $$ [HS HC3]
  · isplitr; · iexact HR
    isplitl [HS]; · iexact HS
    iexact HC3
  iintro ⟨HS, HC3⟩
  iapply (step_send m K c 58 (by decide) (k0_off28_eq c) rfl rfl (Fin.ext (k0_dev74_eq c))) $$ [HS HC3]
  · isplitr; · iexact HR
    isplitl [HS]; · iexact HS
    iexact HC3
  iintro ⟨HS, HC3⟩
  rw [wp_ret]; imodintro
  iapply Hk
  isplitl [HS]; · iexact HS
  iexact HC3

end Cert.KernelIdeal.Talk
-- ==== Proof.PartsC.lean ====
/-
The body, part by part: the waits on what was sent.
-/
module

public import proofs.«01_k».proof.Proof.Phase

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ)

set_option maxHeartbeats 4000000 in
theorem part44 (K : GSem nD τ sig → ℕ) (c : Dev nD) (v1216 : BitVec 32) {Q : _ → sProp 𝕄} :
    iprop(recs m K ∗ sendSt c 59 ∗ slotPts m c c.val 3 (shareDrop fullShare 14) ∗ wsAt c)
      ⊢ iprop((∀ r, iprop(slotPts m c c.val 3 (shareDrop fullShare 15) ∗ wsSt m c 2) -∗ Q r)
        -∗ wp frame (wpE (defs₀ (F := F)) 𝒱₀ (c : Thread nD τ) none) Set.univ (k0_part44 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v1216) Q) := by
  simp only [k0_part44_eq_skeleton]; unfold k0_part44_skel
  simp only [Prog.lift, Prog.bind_op, Prog.bind_ret, Prog.pure_eq_ret]
  iintro ⟨#HR, HS, HC3, HWS⟩ Hk
  iapply (step_send m K c 59 (by decide) (k0_off28_eq c) rfl rfl (Fin.ext (k0_dev75_eq c))) $$ [HS HC3]
  · isplitr; · iexact HR
    isplitl [HS]; · iexact HS
    iexact HC3
  iintro ⟨HS, HC3⟩
  ihave Hx := (ws_start m c) $$ [HS HWS]
  · isplitl [HS]; · iexact HS
    iexact HWS
  icases Hx with HWS
  iapply (step_waitS m K c 0 (by decide) rfl) $$ [HWS]
  · isplitr; · iexact HR
    iexact HWS
  iintro HWS
  iapply (step_waitS m K c 1 (by decide) rfl) $$ [HWS]
  · isplitr; · iexact HR
    iexact HWS
  iintro HWS
  rw [wp_ret]; imodintro
  iapply Hk
  isplitl [HC3]; · iexact HC3
  iexact HWS

set_option maxHeartbeats 4000000 in
theorem part45 (K : GSem nD τ sig → ℕ) (c : Dev nD) {Q : _ → sProp 𝕄} :
    iprop(recs m K ∗ wsSt m c 2)
      ⊢ iprop((∀ r, iprop(wsSt m c 5) -∗ Q r)
        -∗ wp frame (wpE (defs₀ (F := F)) 𝒱₀ (c : Thread nD τ) none) Set.univ (k0_part45 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part45_eq_skeleton]; unfold k0_part45_skel
  simp only [Prog.lift, Prog.bind_op, Prog.bind_ret, Prog.pure_eq_ret]
  iintro ⟨#HR, HWS⟩ Hk
  iapply (step_waitS m K c 2 (by decide) rfl) $$ [HWS]
  · isplitr; · iexact HR
    iexact HWS
  iintro HWS
  iapply (step_waitS m K c 3 (by decide) rfl) $$ [HWS]
  · isplitr; · iexact HR
    iexact HWS
  iintro HWS
  iapply (step_waitS m K c 4 (by decide) rfl) $$ [HWS]
  · isplitr; · iexact HR
    iexact HWS
  iintro HWS
  rw [wp_ret]; imodintro
  iapply Hk
  iexact HWS

set_option maxHeartbeats 4000000 in
theorem part46 (K : GSem nD τ sig → ℕ) (c : Dev nD) {Q : _ → sProp 𝕄} :
    iprop(recs m K ∗ wsSt m c 5)
      ⊢ iprop((∀ r, iprop(wsSt m c 9) -∗ Q r)
        -∗ wp frame (wpE (defs₀ (F := F)) 𝒱₀ (c : Thread nD τ) none) Set.univ (k0_part46 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part46_eq_skeleton]; unfold k0_part46_skel
  simp only [Prog.lift, Prog.bind_op, Prog.bind_ret, Prog.pure_eq_ret]
  iintro ⟨#HR, HWS⟩ Hk
  iapply (step_waitS m K c 5 (by decide) rfl) $$ [HWS]
  · isplitr; · iexact HR
    iexact HWS
  iintro HWS
  iapply (step_waitS m K c 6 (by decide) rfl) $$ [HWS]
  · isplitr; · iexact HR
    iexact HWS
  iintro HWS
  iapply (step_waitS m K c 7 (by decide) rfl) $$ [HWS]
  · isplitr; · iexact HR
    iexact HWS
  iintro HWS
  iapply (step_waitS m K c 8 (by decide) rfl) $$ [HWS]
  · isplitr; · iexact HR
    iexact HWS
  iintro HWS
  rw [wp_ret]; imodintro
  iapply Hk
  iexact HWS

set_option maxHeartbeats 4000000 in
theorem part47 (K : GSem nD τ sig → ℕ) (c : Dev nD) {Q : _ → sProp 𝕄} :
    iprop(recs m K ∗ wsSt m c 9)
      ⊢ iprop((∀ r, iprop(wsSt m c 12) -∗ Q r)
        -∗ wp frame (wpE (defs₀ (F := F)) 𝒱₀ (c : Thread nD τ) none) Set.univ (k0_part47 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part47_eq_skeleton]; unfold k0_part47_skel
  simp only [Prog.lift, Prog.bind_op, Prog.bind_ret, Prog.pure_eq_ret]
  iintro ⟨#HR, HWS⟩ Hk
  iapply (step_waitS m K c 9 (by decide) rfl) $$ [HWS]
  · isplitr; · iexact HR
    iexact HWS
  iintro HWS
  iapply (step_waitS m K c 10 (by decide) rfl) $$ [HWS]
  · isplitr; · iexact HR
    iexact HWS
  iintro HWS
  iapply (step_waitS m K c 11 (by decide) rfl) $$ [HWS]
  · isplitr; · iexact HR
    iexact HWS
  iintro HWS
  rw [wp_ret]; imodintro
  iapply Hk
  iexact HWS

set_option maxHeartbeats 4000000 in
theorem part48 (K : GSem nD τ sig → ℕ) (c : Dev nD) {Q : _ → sProp 𝕄} :
    iprop(recs m K ∗ wsSt m c 12)
      ⊢ iprop((∀ r, iprop(wsSt m c 15) -∗ Q r)
        -∗ wp frame (wpE (defs₀ (F := F)) 𝒱₀ (c : Thread nD τ) none) Set.univ (k0_part48 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part48_eq_skeleton]; unfold k0_part48_skel
  simp only [Prog.lift, Prog.bind_op, Prog.bind_ret, Prog.pure_eq_ret]
  iintro ⟨#HR, HWS⟩ Hk
  iapply (step_waitS m K c 12 (by decide) rfl) $$ [HWS]
  · isplitr; · iexact HR
    iexact HWS
  iintro HWS
  iapply (step_waitS m K c 13 (by decide) rfl) $$ [HWS]
  · isplitr; · iexact HR
    iexact HWS
  iintro HWS
  iapply (step_waitS m K c 14 (by decide) rfl) $$ [HWS]
  · isplitr; · iexact HR
    iexact HWS
  iintro HWS
  rw [wp_ret]; imodintro
  iapply Hk
  iexact HWS

set_option maxHeartbeats 4000000 in
theorem part49 (K : GSem nD τ sig → ℕ) (c : Dev nD) {Q : _ → sProp 𝕄} :
    iprop(recs m K ∗ wsSt m c 15)
      ⊢ iprop((∀ r, iprop(wsSt m c 19) -∗ Q r)
        -∗ wp frame (wpE (defs₀ (F := F)) 𝒱₀ (c : Thread nD τ) none) Set.univ (k0_part49 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part49_eq_skeleton]; unfold k0_part49_skel
  simp only [Prog.lift, Prog.bind_op, Prog.bind_ret, Prog.pure_eq_ret]
  iintro ⟨#HR, HWS⟩ Hk
  iapply (step_waitS m K c 15 (by decide) rfl) $$ [HWS]
  · isplitr; · iexact HR
    iexact HWS
  iintro HWS
  iapply (step_waitS m K c 16 (by decide) rfl) $$ [HWS]
  · isplitr; · iexact HR
    iexact HWS
  iintro HWS
  iapply (step_waitS m K c 17 (by decide) rfl) $$ [HWS]
  · isplitr; · iexact HR
    iexact HWS
  iintro HWS
  iapply (step_waitS m K c 18 (by decide) rfl) $$ [HWS]
  · isplitr; · iexact HR
    iexact HWS
  iintro HWS
  rw [wp_ret]; imodintro
  iapply Hk
  iexact HWS

set_option maxHeartbeats 4000000 in
theorem part50 (K : GSem nD τ sig → ℕ) (c : Dev nD) {Q : _ → sProp 𝕄} :
    iprop(recs m K ∗ wsSt m c 19)
      ⊢ iprop((∀ r, iprop(wsSt m c 22) -∗ Q r)
        -∗ wp frame (wpE (defs₀ (F := F)) 𝒱₀ (c : Thread nD τ) none) Set.univ (k0_part50 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part50_eq_skeleton]; unfold k0_part50_skel
  simp only [Prog.lift, Prog.bind_op, Prog.bind_ret, Prog.pure_eq_ret]
  iintro ⟨#HR, HWS⟩ Hk
  iapply (step_waitS m K c 19 (by decide) rfl) $$ [HWS]
  · isplitr; · iexact HR
    iexact HWS
  iintro HWS
  iapply (step_waitS m K c 20 (by decide) rfl) $$ [HWS]
  · isplitr; · iexact HR
    iexact HWS
  iintro HWS
  iapply (step_waitS m K c 21 (by decide) rfl) $$ [HWS]
  · isplitr; · iexact HR
    iexact HWS
  iintro HWS
  rw [wp_ret]; imodintro
  iapply Hk
  iexact HWS

set_option maxHeartbeats 4000000 in
theorem part51 (K : GSem nD τ sig → ℕ) (c : Dev nD) {Q : _ → sProp 𝕄} :
    iprop(recs m K ∗ wsSt m c 22)
      ⊢ iprop((∀ r, iprop(wsSt m c 25) -∗ Q r)
        -∗ wp frame (wpE (defs₀ (F := F)) 𝒱₀ (c : Thread nD τ) none) Set.univ (k0_part51 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part51_eq_skeleton]; unfold k0_part51_skel
  simp only [Prog.lift, Prog.bind_op, Prog.bind_ret, Prog.pure_eq_ret]
  iintro ⟨#HR, HWS⟩ Hk
  iapply (step_waitS m K c 22 (by decide) rfl) $$ [HWS]
  · isplitr; · iexact HR
    iexact HWS
  iintro HWS
  iapply (step_waitS m K c 23 (by decide) rfl) $$ [HWS]
  · isplitr; · iexact HR
    iexact HWS
  iintro HWS
  iapply (step_waitS m K c 24 (by decide) rfl) $$ [HWS]
  · isplitr; · iexact HR
    iexact HWS
  iintro HWS
  rw [wp_ret]; imodintro
  iapply Hk
  iexact HWS

set_option maxHeartbeats 4000000 in
theorem part52 (K : GSem nD τ sig → ℕ) (c : Dev nD) {Q : _ → sProp 𝕄} :
    iprop(recs m K ∗ wsSt m c 25)
      ⊢ iprop((∀ r, iprop(wsSt m c 29) -∗ Q r)
        -∗ wp frame (wpE (defs₀ (F := F)) 𝒱₀ (c : Thread nD τ) none) Set.univ (k0_part52 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part52_eq_skeleton]; unfold k0_part52_skel
  simp only [Prog.lift, Prog.bind_op, Prog.bind_ret, Prog.pure_eq_ret]
  iintro ⟨#HR, HWS⟩ Hk
  iapply (step_waitS m K c 25 (by decide) rfl) $$ [HWS]
  · isplitr; · iexact HR
    iexact HWS
  iintro HWS
  iapply (step_waitS m K c 26 (by decide) rfl) $$ [HWS]
  · isplitr; · iexact HR
    iexact HWS
  iintro HWS
  iapply (step_waitS m K c 27 (by decide) rfl) $$ [HWS]
  · isplitr; · iexact HR
    iexact HWS
  iintro HWS
  iapply (step_waitS m K c 28 (by decide) rfl) $$ [HWS]
  · isplitr; · iexact HR
    iexact HWS
  iintro HWS
  rw [wp_ret]; imodintro
  iapply Hk
  iexact HWS

set_option maxHeartbeats 4000000 in
theorem part53 (K : GSem nD τ sig → ℕ) (c : Dev nD) {Q : _ → sProp 𝕄} :
    iprop(recs m K ∗ wsSt m c 29)
      ⊢ iprop((∀ r, iprop(wsSt m c 32) -∗ Q r)
        -∗ wp frame (wpE (defs₀ (F := F)) 𝒱₀ (c : Thread nD τ) none) Set.univ (k0_part53 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part53_eq_skeleton]; unfold k0_part53_skel
  simp only [Prog.lift, Prog.bind_op, Prog.bind_ret, Prog.pure_eq_ret]
  iintro ⟨#HR, HWS⟩ Hk
  iapply (step_waitS m K c 29 (by decide) rfl) $$ [HWS]
  · isplitr; · iexact HR
    iexact HWS
  iintro HWS
  iapply (step_waitS m K c 30 (by decide) rfl) $$ [HWS]
  · isplitr; · iexact HR
    iexact HWS
  iintro HWS
  iapply (step_waitS m K c 31 (by decide) rfl) $$ [HWS]
  · isplitr; · iexact HR
    iexact HWS
  iintro HWS
  rw [wp_ret]; imodintro
  iapply Hk
  iexact HWS

set_option maxHeartbeats 4000000 in
theorem part54 (K : GSem nD τ sig → ℕ) (c : Dev nD) {Q : _ → sProp 𝕄} :
    iprop(recs m K ∗ wsSt m c 32)
      ⊢ iprop((∀ r, iprop(wsSt m c 35) -∗ Q r)
        -∗ wp frame (wpE (defs₀ (F := F)) 𝒱₀ (c : Thread nD τ) none) Set.univ (k0_part54 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part54_eq_skeleton]; unfold k0_part54_skel
  simp only [Prog.lift, Prog.bind_op, Prog.bind_ret, Prog.pure_eq_ret]
  iintro ⟨#HR, HWS⟩ Hk
  iapply (step_waitS m K c 32 (by decide) rfl) $$ [HWS]
  · isplitr; · iexact HR
    iexact HWS
  iintro HWS
  iapply (step_waitS m K c 33 (by decide) rfl) $$ [HWS]
  · isplitr; · iexact HR
    iexact HWS
  iintro HWS
  iapply (step_waitS m K c 34 (by decide) rfl) $$ [HWS]
  · isplitr; · iexact HR
    iexact HWS
  iintro HWS
  rw [wp_ret]; imodintro
  iapply Hk
  iexact HWS

set_option maxHeartbeats 4000000 in
theorem part55 (K : GSem nD τ sig → ℕ) (c : Dev nD) {Q : _ → sProp 𝕄} :
    iprop(recs m K ∗ wsSt m c 35)
      ⊢ iprop((∀ r, iprop(wsSt m c 39) -∗ Q r)
        -∗ wp frame (wpE (defs₀ (F := F)) 𝒱₀ (c : Thread nD τ) none) Set.univ (k0_part55 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part55_eq_skeleton]; unfold k0_part55_skel
  simp only [Prog.lift, Prog.bind_op, Prog.bind_ret, Prog.pure_eq_ret]
  iintro ⟨#HR, HWS⟩ Hk
  iapply (step_waitS m K c 35 (by decide) rfl) $$ [HWS]
  · isplitr; · iexact HR
    iexact HWS
  iintro HWS
  iapply (step_waitS m K c 36 (by decide) rfl) $$ [HWS]
  · isplitr; · iexact HR
    iexact HWS
  iintro HWS
  iapply (step_waitS m K c 37 (by decide) rfl) $$ [HWS]
  · isplitr; · iexact HR
    iexact HWS
  iintro HWS
  iapply (step_waitS m K c 38 (by decide) rfl) $$ [HWS]
  · isplitr; · iexact HR
    iexact HWS
  iintro HWS
  rw [wp_ret]; imodintro
  iapply Hk
  iexact HWS

set_option maxHeartbeats 4000000 in
theorem part56 (K : GSem nD τ sig → ℕ) (c : Dev nD) {Q : _ → sProp 𝕄} :
    iprop(recs m K ∗ wsSt m c 39)
      ⊢ iprop((∀ r, iprop(wsSt m c 42) -∗ Q r)
        -∗ wp frame (wpE (defs₀ (F := F)) 𝒱₀ (c : Thread nD τ) none) Set.univ (k0_part56 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part56_eq_skeleton]; unfold k0_part56_skel
  simp only [Prog.lift, Prog.bind_op, Prog.bind_ret, Prog.pure_eq_ret]
  iintro ⟨#HR, HWS⟩ Hk
  iapply (step_waitS m K c 39 (by decide) rfl) $$ [HWS]
  · isplitr; · iexact HR
    iexact HWS
  iintro HWS
  iapply (step_waitS m K c 40 (by decide) rfl) $$ [HWS]
  · isplitr; · iexact HR
    iexact HWS
  iintro HWS
  iapply (step_waitS m K c 41 (by decide) rfl) $$ [HWS]
  · isplitr; · iexact HR
    iexact HWS
  iintro HWS
  rw [wp_ret]; imodintro
  iapply Hk
  iexact HWS

set_option maxHeartbeats 4000000 in
theorem part57 (K : GSem nD τ sig → ℕ) (c : Dev nD) {Q : _ → sProp 𝕄} :
    iprop(recs m K ∗ wsSt m c 42)
      ⊢ iprop((∀ r, iprop(wsSt m c 45) -∗ Q r)
        -∗ wp frame (wpE (defs₀ (F := F)) 𝒱₀ (c : Thread nD τ) none) Set.univ (k0_part57 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part57_eq_skeleton]; unfold k0_part57_skel
  simp only [Prog.lift, Prog.bind_op, Prog.bind_ret, Prog.pure_eq_ret]
  iintro ⟨#HR, HWS⟩ Hk
  iapply (step_waitS m K c 42 (by decide) rfl) $$ [HWS]
  · isplitr; · iexact HR
    iexact HWS
  iintro HWS
  iapply (step_waitS m K c 43 (by decide) rfl) $$ [HWS]
  · isplitr; · iexact HR
    iexact HWS
  iintro HWS
  iapply (step_waitS m K c 44 (by decide) rfl) $$ [HWS]
  · isplitr; · iexact HR
    iexact HWS
  iintro HWS
  rw [wp_ret]; imodintro
  iapply Hk
  iexact HWS

set_option maxHeartbeats 4000000 in
theorem part58 (K : GSem nD τ sig → ℕ) (c : Dev nD) {Q : _ → sProp 𝕄} :
    iprop(recs m K ∗ wsSt m c 45)
      ⊢ iprop((∀ r, iprop(wsSt m c 49) -∗ Q r)
        -∗ wp frame (wpE (defs₀ (F := F)) 𝒱₀ (c : Thread nD τ) none) Set.univ (k0_part58 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part58_eq_skeleton]; unfold k0_part58_skel
  simp only [Prog.lift, Prog.bind_op, Prog.bind_ret, Prog.pure_eq_ret]
  iintro ⟨#HR, HWS⟩ Hk
  iapply (step_waitS m K c 45 (by decide) rfl) $$ [HWS]
  · isplitr; · iexact HR
    iexact HWS
  iintro HWS
  iapply (step_waitS m K c 46 (by decide) rfl) $$ [HWS]
  · isplitr; · iexact HR
    iexact HWS
  iintro HWS
  iapply (step_waitS m K c 47 (by decide) rfl) $$ [HWS]
  · isplitr; · iexact HR
    iexact HWS
  iintro HWS
  iapply (step_waitS m K c 48 (by decide) rfl) $$ [HWS]
  · isplitr; · iexact HR
    iexact HWS
  iintro HWS
  rw [wp_ret]; imodintro
  iapply Hk
  iexact HWS

set_option maxHeartbeats 4000000 in
theorem part59 (K : GSem nD τ sig → ℕ) (c : Dev nD) {Q : _ → sProp 𝕄} :
    iprop(recs m K ∗ wsSt m c 49)
      ⊢ iprop((∀ r, iprop(wsSt m c 52) -∗ Q r)
        -∗ wp frame (wpE (defs₀ (F := F)) 𝒱₀ (c : Thread nD τ) none) Set.univ (k0_part59 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part59_eq_skeleton]; unfold k0_part59_skel
  simp only [Prog.lift, Prog.bind_op, Prog.bind_ret, Prog.pure_eq_ret]
  iintro ⟨#HR, HWS⟩ Hk
  iapply (step_waitS m K c 49 (by decide) rfl) $$ [HWS]
  · isplitr; · iexact HR
    iexact HWS
  iintro HWS
  iapply (step_waitS m K c 50 (by decide) rfl) $$ [HWS]
  · isplitr; · iexact HR
    iexact HWS
  iintro HWS
  iapply (step_waitS m K c 51 (by decide) rfl) $$ [HWS]
  · isplitr; · iexact HR
    iexact HWS
  iintro HWS
  rw [wp_ret]; imodintro
  iapply Hk
  iexact HWS

set_option maxHeartbeats 4000000 in
theorem part60 (K : GSem nD τ sig → ℕ) (c : Dev nD) {Q : _ → sProp 𝕄} :
    iprop(recs m K ∗ wsSt m c 52)
      ⊢ iprop((∀ r, iprop(wsSt m c 55) -∗ Q r)
        -∗ wp frame (wpE (defs₀ (F := F)) 𝒱₀ (c : Thread nD τ) none) Set.univ (k0_part60 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part60_eq_skeleton]; unfold k0_part60_skel
  simp only [Prog.lift, Prog.bind_op, Prog.bind_ret, Prog.pure_eq_ret]
  iintro ⟨#HR, HWS⟩ Hk
  iapply (step_waitS m K c 52 (by decide) rfl) $$ [HWS]
  · isplitr; · iexact HR
    iexact HWS
  iintro HWS
  iapply (step_waitS m K c 53 (by decide) rfl) $$ [HWS]
  · isplitr; · iexact HR
    iexact HWS
  iintro HWS
  iapply (step_waitS m K c 54 (by decide) rfl) $$ [HWS]
  · isplitr; · iexact HR
    iexact HWS
  iintro HWS
  rw [wp_ret]; imodintro
  iapply Hk
  iexact HWS

set_option maxHeartbeats 4000000 in
theorem part61 (K : GSem nD τ sig → ℕ) (c : Dev nD) {Q : _ → sProp 𝕄} :
    iprop(recs m K ∗ wsSt m c 55)
      ⊢ iprop((∀ r, iprop(wsSt m c 59) -∗ Q r)
        -∗ wp frame (wpE (defs₀ (F := F)) 𝒱₀ (c : Thread nD τ) none) Set.univ (k0_part61 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c) Q) := by
  simp only [k0_part61_eq_skeleton]; unfold k0_part61_skel
  simp only [Prog.lift, Prog.bind_op, Prog.bind_ret, Prog.pure_eq_ret]
  iintro ⟨#HR, HWS⟩ Hk
  iapply (step_waitS m K c 55 (by decide) rfl) $$ [HWS]
  · isplitr; · iexact HR
    iexact HWS
  iintro HWS
  iapply (step_waitS m K c 56 (by decide) rfl) $$ [HWS]
  · isplitr; · iexact HR
    iexact HWS
  iintro HWS
  iapply (step_waitS m K c 57 (by decide) rfl) $$ [HWS]
  · isplitr; · iexact HR
    iexact HWS
  iintro HWS
  iapply (step_waitS m K c 58 (by decide) rfl) $$ [HWS]
  · isplitr; · iexact HR
    iexact HWS
  iintro HWS
  rw [wp_ret]; imodintro
  iapply Hk
  iexact HWS

set_option maxHeartbeats 4000000 in
theorem part62 (K : GSem nD τ sig → ℕ) (c : Dev nD) (v206 v218 : BitVec 32) {Q : _ → sProp 𝕄} :
    iprop(recs m K ∗ wsSt m c 59 ∗ wrAt c)
      ⊢ iprop((∀ r, iprop(wrSt m c 2 ∗ wsDone m c) -∗ Q r)
        -∗ wp frame (wpE (defs₀ (F := F)) 𝒱₀ (c : Thread nD τ) none) Set.univ (k0_part62 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v206 v218) Q) := by
  simp only [k0_part62_eq_skeleton]; unfold k0_part62_skel
  simp only [Prog.lift, Prog.bind_op, Prog.bind_ret, Prog.pure_eq_ret]
  iintro ⟨#HR, HWS, HWR⟩ Hk
  iapply (step_waitS m K c 59 (by decide) rfl) $$ [HWS]
  · isplitr; · iexact HR
    iexact HWS
  iintro HWS
  ihave Hx := (ws_end m c) $$ [HWS HWR]
  · isplitl [HWS]; · iexact HWS
    iexact HWR
  icases Hx with ⟨HWR, HWD⟩
  iapply (step_waitR m K c 0 (by decide) rfl) $$ [HWR]
  · isplitr; · iexact HR
    iexact HWR
  iintro HWR
  iapply (step_waitR m K c 1 (by decide) rfl) $$ [HWR]
  · isplitr; · iexact HR
    iexact HWR
  iintro HWR
  rw [wp_ret]; imodintro
  iapply Hk
  isplitl [HWR]; · iexact HWR
  iexact HWD

end Cert.KernelIdeal.Talk
-- ==== Proof.PartsD.lean ====
/-
The body, part by part: the waits on what arrives.
-/
module

public import proofs.«01_k».proof.Proof.Phase

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ)

set_option maxHeartbeats 4000000 in
theorem part63 (K : GSem nD τ sig → ℕ) (c : Dev nD) (v230 v242 v254 : BitVec 32) {Q : _ → sProp 𝕄} :
    iprop(recs m K ∗ wrSt m c 2)
      ⊢ iprop((∀ r, iprop(wrSt m c 4) -∗ Q r)
        -∗ wp frame (wpE (defs₀ (F := F)) 𝒱₀ (c : Thread nD τ) none) Set.univ (k0_part63 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v230 v242 v254) Q) := by
  simp only [k0_part63_eq_skeleton]; unfold k0_part63_skel
  simp only [Prog.lift, Prog.bind_op, Prog.bind_ret, Prog.pure_eq_ret]
  iintro ⟨#HR, HWR⟩ Hk
  iapply (step_waitR m K c 2 (by decide) rfl) $$ [HWR]
  · isplitr; · iexact HR
    iexact HWR
  iintro HWR
  iapply (step_waitR m K c 3 (by decide) rfl) $$ [HWR]
  · isplitr; · iexact HR
    iexact HWR
  iintro HWR
  rw [wp_ret]; imodintro
  iapply Hk
  iexact HWR

set_option maxHeartbeats 4000000 in
theorem part64 (K : GSem nD τ sig → ℕ) (c : Dev nD) (v266 v278 v290 : BitVec 32) {Q : _ → sProp 𝕄} :
    iprop(recs m K ∗ wrSt m c 4)
      ⊢ iprop((∀ r, iprop(wrSt m c 7) -∗ Q r)
        -∗ wp frame (wpE (defs₀ (F := F)) 𝒱₀ (c : Thread nD τ) none) Set.univ (k0_part64 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v266 v278 v290) Q) := by
  simp only [k0_part64_eq_skeleton]; unfold k0_part64_skel
  simp only [Prog.lift, Prog.bind_op, Prog.bind_ret, Prog.pure_eq_ret]
  iintro ⟨#HR, HWR⟩ Hk
  iapply (step_waitR m K c 4 (by decide) rfl) $$ [HWR]
  · isplitr; · iexact HR
    iexact HWR
  iintro HWR
  iapply (step_waitR m K c 5 (by decide) rfl) $$ [HWR]
  · isplitr; · iexact HR
    iexact HWR
  iintro HWR
  iapply (step_waitR m K c 6 (by decide) rfl) $$ [HWR]
  · isplitr; · iexact HR
    iexact HWR
  iintro HWR
  rw [wp_ret]; imodintro
  iapply Hk
  iexact HWR

set_option maxHeartbeats 4000000 in
theorem part65 (K : GSem nD τ sig → ℕ) (c : Dev nD) (v302 v314 v326 : BitVec 32) {Q : _ → sProp 𝕄} :
    iprop(recs m K ∗ wrSt m c 7)
      ⊢ iprop((∀ r, iprop(wrSt m c 10) -∗ Q r)
        -∗ wp frame (wpE (defs₀ (F := F)) 𝒱₀ (c : Thread nD τ) none) Set.univ (k0_part65 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v302 v314 v326) Q) := by
  simp only [k0_part65_eq_skeleton]; unfold k0_part65_skel
  simp only [Prog.lift, Prog.bind_op, Prog.bind_ret, Prog.pure_eq_ret]
  iintro ⟨#HR, HWR⟩ Hk
  iapply (step_waitR m K c 7 (by decide) rfl) $$ [HWR]
  · isplitr; · iexact HR
    iexact HWR
  iintro HWR
  iapply (step_waitR m K c 8 (by decide) rfl) $$ [HWR]
  · isplitr; · iexact HR
    iexact HWR
  iintro HWR
  iapply (step_waitR m K c 9 (by decide) rfl) $$ [HWR]
  · isplitr; · iexact HR
    iexact HWR
  iintro HWR
  rw [wp_ret]; imodintro
  iapply Hk
  iexact HWR

set_option maxHeartbeats 4000000 in
theorem part66 (K : GSem nD τ sig → ℕ) (c : Dev nD) (v338 v350 v362 : BitVec 32) {Q : _ → sProp 𝕄} :
    iprop(recs m K ∗ wrSt m c 10)
      ⊢ iprop((∀ r, iprop(wrSt m c 13) -∗ Q r)
        -∗ wp frame (wpE (defs₀ (F := F)) 𝒱₀ (c : Thread nD τ) none) Set.univ (k0_part66 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v338 v350 v362) Q) := by
  simp only [k0_part66_eq_skeleton]; unfold k0_part66_skel
  simp only [Prog.lift, Prog.bind_op, Prog.bind_ret, Prog.pure_eq_ret]
  iintro ⟨#HR, HWR⟩ Hk
  iapply (step_waitR m K c 10 (by decide) rfl) $$ [HWR]
  · isplitr; · iexact HR
    iexact HWR
  iintro HWR
  iapply (step_waitR m K c 11 (by decide) rfl) $$ [HWR]
  · isplitr; · iexact HR
    iexact HWR
  iintro HWR
  iapply (step_waitR m K c 12 (by decide) rfl) $$ [HWR]
  · isplitr; · iexact HR
    iexact HWR
  iintro HWR
  rw [wp_ret]; imodintro
  iapply Hk
  iexact HWR

set_option maxHeartbeats 4000000 in
theorem part67 (K : GSem nD τ sig → ℕ) (c : Dev nD) (v374 v490 v1691 c0_i32_2046 : BitVec 32) {Q : _ → sProp 𝕄} :
    iprop(recs m K ∗ wrSt m c 13)
      ⊢ iprop((∀ r, iprop(wrSt m c 16) -∗ Q r)
        -∗ wp frame (wpE (defs₀ (F := F)) 𝒱₀ (c : Thread nD τ) none) Set.univ (k0_part67 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v374 v490 v1691 c0_i32_2046) Q) := by
  simp only [k0_part67_eq_skeleton]; unfold k0_part67_skel
  simp only [Prog.lift, Prog.bind_op, Prog.bind_ret, Prog.pure_eq_ret]
  iintro ⟨#HR, HWR⟩ Hk
  iapply (step_waitR m K c 13 (by decide) rfl) $$ [HWR]
  · isplitr; · iexact HR
    iexact HWR
  iintro HWR
  iapply (step_waitR m K c 14 (by decide) rfl) $$ [HWR]
  · isplitr; · iexact HR
    iexact HWR
  iintro HWR
  iapply (step_waitR m K c 15 (by decide) rfl) $$ [HWR]
  · isplitr; · iexact HR
    iexact HWR
  iintro HWR
  rw [wp_ret]; imodintro
  iapply Hk
  iexact HWR

set_option maxHeartbeats 4000000 in
theorem part68 (K : GSem nD τ sig → ℕ) (c : Dev nD) (v502 v514 v526 : BitVec 32) {Q : _ → sProp 𝕄} :
    iprop(recs m K ∗ wrSt m c 16)
      ⊢ iprop((∀ r, iprop(wrSt m c 19) -∗ Q r)
        -∗ wp frame (wpE (defs₀ (F := F)) 𝒱₀ (c : Thread nD τ) none) Set.univ (k0_part68 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v502 v514 v526) Q) := by
  simp only [k0_part68_eq_skeleton]; unfold k0_part68_skel
  simp only [Prog.lift, Prog.bind_op, Prog.bind_ret, Prog.pure_eq_ret]
  iintro ⟨#HR, HWR⟩ Hk
  iapply (step_waitR m K c 16 (by decide) rfl) $$ [HWR]
  · isplitr; · iexact HR
    iexact HWR
  iintro HWR
  iapply (step_waitR m K c 17 (by decide) rfl) $$ [HWR]
  · isplitr; · iexact HR
    iexact HWR
  iintro HWR
  iapply (step_waitR m K c 18 (by decide) rfl) $$ [HWR]
  · isplitr; · iexact HR
    iexact HWR
  iintro HWR
  rw [wp_ret]; imodintro
  iapply Hk
  iexact HWR

set_option maxHeartbeats 4000000 in
theorem part69 (K : GSem nD τ sig → ℕ) (c : Dev nD) (v538 v550 v562 : BitVec 32) {Q : _ → sProp 𝕄} :
    iprop(recs m K ∗ wrSt m c 19)
      ⊢ iprop((∀ r, iprop(wrSt m c 22) -∗ Q r)
        -∗ wp frame (wpE (defs₀ (F := F)) 𝒱₀ (c : Thread nD τ) none) Set.univ (k0_part69 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v538 v550 v562) Q) := by
  simp only [k0_part69_eq_skeleton]; unfold k0_part69_skel
  simp only [Prog.lift, Prog.bind_op, Prog.bind_ret, Prog.pure_eq_ret]
  iintro ⟨#HR, HWR⟩ Hk
  iapply (step_waitR m K c 19 (by decide) rfl) $$ [HWR]
  · isplitr; · iexact HR
    iexact HWR
  iintro HWR
  iapply (step_waitR m K c 20 (by decide) rfl) $$ [HWR]
  · isplitr; · iexact HR
    iexact HWR
  iintro HWR
  iapply (step_waitR m K c 21 (by decide) rfl) $$ [HWR]
  · isplitr; · iexact HR
    iexact HWR
  iintro HWR
  rw [wp_ret]; imodintro
  iapply Hk
  iexact HWR

set_option maxHeartbeats 4000000 in
theorem part70 (K : GSem nD τ sig → ℕ) (c : Dev nD) (v574 v586 v598 : BitVec 32) {Q : _ → sProp 𝕄} :
    iprop(recs m K ∗ wrSt m c 22)
      ⊢ iprop((∀ r, iprop(wrSt m c 24) -∗ Q r)
        -∗ wp frame (wpE (defs₀ (F := F)) 𝒱₀ (c : Thread nD τ) none) Set.univ (k0_part70 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v574 v586 v598) Q) := by
  simp only [k0_part70_eq_skeleton]; unfold k0_part70_skel
  simp only [Prog.lift, Prog.bind_op, Prog.bind_ret, Prog.pure_eq_ret]
  iintro ⟨#HR, HWR⟩ Hk
  iapply (step_waitR m K c 22 (by decide) rfl) $$ [HWR]
  · isplitr; · iexact HR
    iexact HWR
  iintro HWR
  iapply (step_waitR m K c 23 (by decide) rfl) $$ [HWR]
  · isplitr; · iexact HR
    iexact HWR
  iintro HWR
  rw [wp_ret]; imodintro
  iapply Hk
  iexact HWR

set_option maxHeartbeats 4000000 in
theorem part71 (K : GSem nD τ sig → ℕ) (c : Dev nD) (v610 v622 v634 : BitVec 32) {Q : _ → sProp 𝕄} :
    iprop(recs m K ∗ wrSt m c 24)
      ⊢ iprop((∀ r, iprop(wrSt m c 27) -∗ Q r)
        -∗ wp frame (wpE (defs₀ (F := F)) 𝒱₀ (c : Thread nD τ) none) Set.univ (k0_part71 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v610 v622 v634) Q) := by
  simp only [k0_part71_eq_skeleton]; unfold k0_part71_skel
  simp only [Prog.lift, Prog.bind_op, Prog.bind_ret, Prog.pure_eq_ret]
  iintro ⟨#HR, HWR⟩ Hk
  iapply (step_waitR m K c 24 (by decide) rfl) $$ [HWR]
  · isplitr; · iexact HR
    iexact HWR
  iintro HWR
  iapply (step_waitR m K c 25 (by decide) rfl) $$ [HWR]
  · isplitr; · iexact HR
    iexact HWR
  iintro HWR
  iapply (step_waitR m K c 26 (by decide) rfl) $$ [HWR]
  · isplitr; · iexact HR
    iexact HWR
  iintro HWR
  rw [wp_ret]; imodintro
  iapply Hk
  iexact HWR

set_option maxHeartbeats 4000000 in
theorem part72 (K : GSem nD τ sig → ℕ) (c : Dev nD) (v646 v658 v774 : BitVec 32) {Q : _ → sProp 𝕄} :
    iprop(recs m K ∗ wrSt m c 27)
      ⊢ iprop((∀ r, iprop(wrSt m c 30) -∗ Q r)
        -∗ wp frame (wpE (defs₀ (F := F)) 𝒱₀ (c : Thread nD τ) none) Set.univ (k0_part72 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v646 v658 v774) Q) := by
  simp only [k0_part72_eq_skeleton]; unfold k0_part72_skel
  simp only [Prog.lift, Prog.bind_op, Prog.bind_ret, Prog.pure_eq_ret]
  iintro ⟨#HR, HWR⟩ Hk
  iapply (step_waitR m K c 27 (by decide) rfl) $$ [HWR]
  · isplitr; · iexact HR
    iexact HWR
  iintro HWR
  iapply (step_waitR m K c 28 (by decide) rfl) $$ [HWR]
  · isplitr; · iexact HR
    iexact HWR
  iintro HWR
  iapply (step_waitR m K c 29 (by decide) rfl) $$ [HWR]
  · isplitr; · iexact HR
    iexact HWR
  iintro HWR
  rw [wp_ret]; imodintro
  iapply Hk
  iexact HWR

set_option maxHeartbeats 4000000 in
theorem part73 (K : GSem nD τ sig → ℕ) (c : Dev nD) (v786 v798 v810 : BitVec 32) {Q : _ → sProp 𝕄} :
    iprop(recs m K ∗ wrSt m c 30)
      ⊢ iprop((∀ r, iprop(wrSt m c 33) -∗ Q r)
        -∗ wp frame (wpE (defs₀ (F := F)) 𝒱₀ (c : Thread nD τ) none) Set.univ (k0_part73 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v786 v798 v810) Q) := by
  simp only [k0_part73_eq_skeleton]; unfold k0_part73_skel
  simp only [Prog.lift, Prog.bind_op, Prog.bind_ret, Prog.pure_eq_ret]
  iintro ⟨#HR, HWR⟩ Hk
  iapply (step_waitR m K c 30 (by decide) rfl) $$ [HWR]
  · isplitr; · iexact HR
    iexact HWR
  iintro HWR
  iapply (step_waitR m K c 31 (by decide) rfl) $$ [HWR]
  · isplitr; · iexact HR
    iexact HWR
  iintro HWR
  iapply (step_waitR m K c 32 (by decide) rfl) $$ [HWR]
  · isplitr; · iexact HR
    iexact HWR
  iintro HWR
  rw [wp_ret]; imodintro
  iapply Hk
  iexact HWR

set_option maxHeartbeats 4000000 in
theorem part74 (K : GSem nD τ sig → ℕ) (c : Dev nD) (v822 v834 v1851 c0_i32_2286 : BitVec 32) {Q : _ → sProp 𝕄} :
    iprop(recs m K ∗ wrSt m c 33)
      ⊢ iprop((∀ r, iprop(wrSt m c 36) -∗ Q r)
        -∗ wp frame (wpE (defs₀ (F := F)) 𝒱₀ (c : Thread nD τ) none) Set.univ (k0_part74 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v822 v834 v1851 c0_i32_2286) Q) := by
  simp only [k0_part74_eq_skeleton]; unfold k0_part74_skel
  simp only [Prog.lift, Prog.bind_op, Prog.bind_ret, Prog.pure_eq_ret]
  iintro ⟨#HR, HWR⟩ Hk
  iapply (step_waitR m K c 33 (by decide) rfl) $$ [HWR]
  · isplitr; · iexact HR
    iexact HWR
  iintro HWR
  iapply (step_waitR m K c 34 (by decide) rfl) $$ [HWR]
  · isplitr; · iexact HR
    iexact HWR
  iintro HWR
  iapply (step_waitR m K c 35 (by decide) rfl) $$ [HWR]
  · isplitr; · iexact HR
    iexact HWR
  iintro HWR
  rw [wp_ret]; imodintro
  iapply Hk
  iexact HWR

set_option maxHeartbeats 4000000 in
theorem part75 (K : GSem nD τ sig → ℕ) (c : Dev nD) (v846 v858 v870 : BitVec 32) {Q : _ → sProp 𝕄} :
    iprop(recs m K ∗ wrSt m c 36)
      ⊢ iprop((∀ r, iprop(wrSt m c 39) -∗ Q r)
        -∗ wp frame (wpE (defs₀ (F := F)) 𝒱₀ (c : Thread nD τ) none) Set.univ (k0_part75 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v846 v858 v870) Q) := by
  simp only [k0_part75_eq_skeleton]; unfold k0_part75_skel
  simp only [Prog.lift, Prog.bind_op, Prog.bind_ret, Prog.pure_eq_ret]
  iintro ⟨#HR, HWR⟩ Hk
  iapply (step_waitR m K c 36 (by decide) rfl) $$ [HWR]
  · isplitr; · iexact HR
    iexact HWR
  iintro HWR
  iapply (step_waitR m K c 37 (by decide) rfl) $$ [HWR]
  · isplitr; · iexact HR
    iexact HWR
  iintro HWR
  iapply (step_waitR m K c 38 (by decide) rfl) $$ [HWR]
  · isplitr; · iexact HR
    iexact HWR
  iintro HWR
  rw [wp_ret]; imodintro
  iapply Hk
  iexact HWR

set_option maxHeartbeats 4000000 in
theorem part76 (K : GSem nD τ sig → ℕ) (c : Dev nD) (v882 v894 v906 : BitVec 32) {Q : _ → sProp 𝕄} :
    iprop(recs m K ∗ wrSt m c 39)
      ⊢ iprop((∀ r, iprop(wrSt m c 42) -∗ Q r)
        -∗ wp frame (wpE (defs₀ (F := F)) 𝒱₀ (c : Thread nD τ) none) Set.univ (k0_part76 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v882 v894 v906) Q) := by
  simp only [k0_part76_eq_skeleton]; unfold k0_part76_skel
  simp only [Prog.lift, Prog.bind_op, Prog.bind_ret, Prog.pure_eq_ret]
  iintro ⟨#HR, HWR⟩ Hk
  iapply (step_waitR m K c 39 (by decide) rfl) $$ [HWR]
  · isplitr; · iexact HR
    iexact HWR
  iintro HWR
  iapply (step_waitR m K c 40 (by decide) rfl) $$ [HWR]
  · isplitr; · iexact HR
    iexact HWR
  iintro HWR
  iapply (step_waitR m K c 41 (by decide) rfl) $$ [HWR]
  · isplitr; · iexact HR
    iexact HWR
  iintro HWR
  rw [wp_ret]; imodintro
  iapply Hk
  iexact HWR

set_option maxHeartbeats 4000000 in
theorem part77 (K : GSem nD τ sig → ℕ) (c : Dev nD) (v918 v930 v942 : BitVec 32) {Q : _ → sProp 𝕄} :
    iprop(recs m K ∗ wrSt m c 42)
      ⊢ iprop((∀ r, iprop(wrSt m c 44) -∗ Q r)
        -∗ wp frame (wpE (defs₀ (F := F)) 𝒱₀ (c : Thread nD τ) none) Set.univ (k0_part77 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v918 v930 v942) Q) := by
  simp only [k0_part77_eq_skeleton]; unfold k0_part77_skel
  simp only [Prog.lift, Prog.bind_op, Prog.bind_ret, Prog.pure_eq_ret]
  iintro ⟨#HR, HWR⟩ Hk
  iapply (step_waitR m K c 42 (by decide) rfl) $$ [HWR]
  · isplitr; · iexact HR
    iexact HWR
  iintro HWR
  iapply (step_waitR m K c 43 (by decide) rfl) $$ [HWR]
  · isplitr; · iexact HR
    iexact HWR
  iintro HWR
  rw [wp_ret]; imodintro
  iapply Hk
  iexact HWR

set_option maxHeartbeats 4000000 in
theorem part78 (K : GSem nD τ sig → ℕ) (c : Dev nD) (v1048 v1060 v1072 : BitVec 32) {Q : _ → sProp 𝕄} :
    iprop(recs m K ∗ wrSt m c 44)
      ⊢ iprop((∀ r, iprop(wrSt m c 47) -∗ Q r)
        -∗ wp frame (wpE (defs₀ (F := F)) 𝒱₀ (c : Thread nD τ) none) Set.univ (k0_part78 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v1048 v1060 v1072) Q) := by
  simp only [k0_part78_eq_skeleton]; unfold k0_part78_skel
  simp only [Prog.lift, Prog.bind_op, Prog.bind_ret, Prog.pure_eq_ret]
  iintro ⟨#HR, HWR⟩ Hk
  iapply (step_waitR m K c 44 (by decide) rfl) $$ [HWR]
  · isplitr; · iexact HR
    iexact HWR
  iintro HWR
  iapply (step_waitR m K c 45 (by decide) rfl) $$ [HWR]
  · isplitr; · iexact HR
    iexact HWR
  iintro HWR
  iapply (step_waitR m K c 46 (by decide) rfl) $$ [HWR]
  · isplitr; · iexact HR
    iexact HWR
  iintro HWR
  rw [wp_ret]; imodintro
  iapply Hk
  iexact HWR

set_option maxHeartbeats 4000000 in
theorem part79 (K : GSem nD τ sig → ℕ) (c : Dev nD) (v1084 v1096 v1108 : BitVec 32) {Q : _ → sProp 𝕄} :
    iprop(recs m K ∗ wrSt m c 47)
      ⊢ iprop((∀ r, iprop(wrSt m c 50) -∗ Q r)
        -∗ wp frame (wpE (defs₀ (F := F)) 𝒱₀ (c : Thread nD τ) none) Set.univ (k0_part79 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v1084 v1096 v1108) Q) := by
  simp only [k0_part79_eq_skeleton]; unfold k0_part79_skel
  simp only [Prog.lift, Prog.bind_op, Prog.bind_ret, Prog.pure_eq_ret]
  iintro ⟨#HR, HWR⟩ Hk
  iapply (step_waitR m K c 47 (by decide) rfl) $$ [HWR]
  · isplitr; · iexact HR
    iexact HWR
  iintro HWR
  iapply (step_waitR m K c 48 (by decide) rfl) $$ [HWR]
  · isplitr; · iexact HR
    iexact HWR
  iintro HWR
  iapply (step_waitR m K c 49 (by decide) rfl) $$ [HWR]
  · isplitr; · iexact HR
    iexact HWR
  iintro HWR
  rw [wp_ret]; imodintro
  iapply Hk
  iexact HWR

set_option maxHeartbeats 4000000 in
theorem part80 (K : GSem nD τ sig → ℕ) (c : Dev nD) (v1120 v1132 v1144 : BitVec 32) {Q : _ → sProp 𝕄} :
    iprop(recs m K ∗ wrSt m c 50)
      ⊢ iprop((∀ r, iprop(wrSt m c 53) -∗ Q r)
        -∗ wp frame (wpE (defs₀ (F := F)) 𝒱₀ (c : Thread nD τ) none) Set.univ (k0_part80 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v1120 v1132 v1144) Q) := by
  simp only [k0_part80_eq_skeleton]; unfold k0_part80_skel
  simp only [Prog.lift, Prog.bind_op, Prog.bind_ret, Prog.pure_eq_ret]
  iintro ⟨#HR, HWR⟩ Hk
  iapply (step_waitR m K c 50 (by decide) rfl) $$ [HWR]
  · isplitr; · iexact HR
    iexact HWR
  iintro HWR
  iapply (step_waitR m K c 51 (by decide) rfl) $$ [HWR]
  · isplitr; · iexact HR
    iexact HWR
  iintro HWR
  iapply (step_waitR m K c 52 (by decide) rfl) $$ [HWR]
  · isplitr; · iexact HR
    iexact HWR
  iintro HWR
  rw [wp_ret]; imodintro
  iapply Hk
  iexact HWR

set_option maxHeartbeats 4000000 in
theorem part81 (K : GSem nD τ sig → ℕ) (c : Dev nD) (v1156 v1168 v2011 c0_i32_2526 : BitVec 32) {Q : _ → sProp 𝕄} :
    iprop(recs m K ∗ wrSt m c 53)
      ⊢ iprop((∀ r, iprop(wrSt m c 56) -∗ Q r)
        -∗ wp frame (wpE (defs₀ (F := F)) 𝒱₀ (c : Thread nD τ) none) Set.univ (k0_part81 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v1156 v1168 v2011 c0_i32_2526) Q) := by
  simp only [k0_part81_eq_skeleton]; unfold k0_part81_skel
  simp only [Prog.lift, Prog.bind_op, Prog.bind_ret, Prog.pure_eq_ret]
  iintro ⟨#HR, HWR⟩ Hk
  iapply (step_waitR m K c 53 (by decide) rfl) $$ [HWR]
  · isplitr; · iexact HR
    iexact HWR
  iintro HWR
  iapply (step_waitR m K c 54 (by decide) rfl) $$ [HWR]
  · isplitr; · iexact HR
    iexact HWR
  iintro HWR
  iapply (step_waitR m K c 55 (by decide) rfl) $$ [HWR]
  · isplitr; · iexact HR
    iexact HWR
  iintro HWR
  rw [wp_ret]; imodintro
  iapply Hk
  iexact HWR

set_option maxHeartbeats 4000000 in
theorem part82 (K : GSem nD τ sig → ℕ) (c : Dev nD) (v1180 v1192 v1204 : BitVec 32) {Q : _ → sProp 𝕄} :
    iprop(recs m K ∗ wrSt m c 56)
      ⊢ iprop((∀ r, iprop(wrSt m c 59) -∗ Q r)
        -∗ wp frame (wpE (defs₀ (F := F)) 𝒱₀ (c : Thread nD τ) none) Set.univ (k0_part82 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v1180 v1192 v1204) Q) := by
  simp only [k0_part82_eq_skeleton]; unfold k0_part82_skel
  simp only [Prog.lift, Prog.bind_op, Prog.bind_ret, Prog.pure_eq_ret]
  iintro ⟨#HR, HWR⟩ Hk
  iapply (step_waitR m K c 56 (by decide) rfl) $$ [HWR]
  · isplitr; · iexact HR
    iexact HWR
  iintro HWR
  iapply (step_waitR m K c 57 (by decide) rfl) $$ [HWR]
  · isplitr; · iexact HR
    iexact HWR
  iintro HWR
  iapply (step_waitR m K c 58 (by decide) rfl) $$ [HWR]
  · isplitr; · iexact HR
    iexact HWR
  iintro HWR
  rw [wp_ret]; imodintro
  iapply Hk
  iexact HWR

end Cert.KernelIdeal.Talk
-- ==== Proof.Body.lean ====
/-
The body as one run.
-/
module

public import proofs.«01_k».proof.Proof.PartsA
public import proofs.«01_k».proof.Proof.PartsB
public import proofs.«01_k».proof.Proof.PartsC
public import proofs.«01_k».proof.Proof.PartsD

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ)

theorem part83 (K : GSem nD τ sig → ℕ) (c : Dev nD) (v1216 : BitVec 32) {Q : _ → sProp 𝕄} :
    iprop(recs m K ∗ wrSt m c 59 ∗ wsDone m c ∗ slotPts m c c.val 0 (shareDrop fullShare 15) ∗ slotPts m c c.val 1 (shareDrop fullShare 15)
        ∗ slotPts m c c.val 2 (shareDrop fullShare 15) ∗ slotPts m c c.val 3 (shareDrop fullShare 15))
      ⊢ iprop((∀ f, iprop(⌜∀ i, (i 3).val < 66 → f i = G m i⌝ ∗ (owesX c 0 ∗ wrDone c ∗ wsLeft c) ∗ gPts c f) -∗ Q ⟨row f 0, row f 1, row f 2, row f 3, row f 4, row f 5⟩)
        -∗ wp frame (wpE (defs₀ (F := F)) 𝒱₀ (c : Thread nD τ) none) Set.univ (k0_part83 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c v1216) Q) := by
  simp only [k0_part83_eq_skeleton]; unfold k0_part83_skel
  simp only [Prog.lift, Prog.bind_op, Prog.bind_ret, Prog.pure_eq_ret]
  iintro ⟨#HR, HWR, HWD, H0, H1, H2, H3⟩ Hk
  iapply (step_waitR m K c 59 (by decide) rfl) $$ [HWR]
  · isplitr; · iexact HR
    iexact HWR
  iintro HWR
  ihave H := (gather_all m c) $$ [HWR HWD H0 H1 H2 H3]
  · isplitl [HWR]; · iexact HWR
    isplitl [HWD]; · iexact HWD
    isplitl [H0]; · iexact H0
    isplitl [H1]; · iexact H1
    isplitl [H2]; · iexact H2
    iexact H3
  icases H with ⟨HX, Hg⟩
  unfold gDone
  icases Hg with ⟨%f, %hf, Hg⟩
  iapply (step_ldG c f 0 rfl) $$ Hg; iintro Hg
  iapply (step_ldG c f 1 rfl) $$ Hg; iintro Hg
  iapply (step_ldG c f 2 rfl) $$ Hg; iintro Hg
  iapply (step_ldG c f 3 rfl) $$ Hg; iintro Hg
  iapply (step_ldG c f 4 rfl) $$ Hg; iintro Hg
  iapply (step_ldG c f 5 rfl) $$ Hg; iintro Hg
  rw [wp_ret]; imodintro
  rw [show Q ⟨k0_pay66 (gRow f 0), k0_pay67 (gRow f 1), k0_pay68 (gRow f 2), k0_pay69 (gRow f 3), k0_pay70 (gRow f 4), k0_pay71 (gRow f 5)⟩ = Q ⟨row f 0, row f 1, row f 2, row f 3, row f 4, row f 5⟩ from rfl]
  iapply Hk
  isplitr; · ipureintro; exact hf
  isplitl [HX]; · iexact HX
  iexact Hg

theorem part84 (c : Dev nD) (f : Vec F S16x4x16x128 .f32) {Q : _ → sProp 𝕄} :
    gPts c f ⊢ iprop((gPts c f -∗ Q ⟨row f 6, row f 7, row f 8, row f 9, row f 10, row f 11, row f 12, row f 13⟩) -∗ wp frame (wpE (defs₀ (F := F)) 𝒱₀ (c : Thread nD τ) none) Set.univ (k0_part84 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6) Q) := by
  simp only [k0_part84_eq_skeleton]; unfold k0_part84_skel
  simp only [Prog.lift, Prog.bind_op, Prog.bind_ret, Prog.pure_eq_ret]
  iintro Hg Hk
  iapply (step_ldG c f 6 rfl) $$ Hg; iintro Hg
  iapply (step_ldG c f 7 rfl) $$ Hg; iintro Hg
  iapply (step_ldG c f 8 rfl) $$ Hg; iintro Hg
  iapply (step_ldG c f 9 rfl) $$ Hg; iintro Hg
  iapply (step_ldG c f 10 rfl) $$ Hg; iintro Hg
  iapply (step_ldG c f 11 rfl) $$ Hg; iintro Hg
  iapply (step_ldG c f 12 rfl) $$ Hg; iintro Hg
  iapply (step_ldG c f 13 rfl) $$ Hg; iintro Hg
  rw [wp_ret]; imodintro
  rw [show Q ⟨k0_pay72 (gRow f 6), k0_pay73 (gRow f 7), k0_pay74 (gRow f 8), k0_pay75 (gRow f 9), k0_pay76 (gRow f 10), k0_pay77 (gRow f 11), k0_pay78 (gRow f 12), k0_pay79 (gRow f 13)⟩ = Q ⟨row f 6, row f 7, row f 8, row f 9, row f 10, row f 11, row f 12, row f 13⟩ from rfl]
  iapply Hk
  iexact Hg

theorem part85 (c : Dev nD) (f : Vec F S16x4x16x128 .f32) {Q : _ → sProp 𝕄} :
    gPts c f ⊢ iprop((gPts c f -∗ Q ⟨row f 14, row f 15, cM f, cL1 f, cO1 f, cW1 f, cP1 f⟩) -∗ wp frame (wpE (defs₀ (F := F)) 𝒱₀ (c : Thread nD τ) none) Set.univ (k0_part85 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 (row f 0) (row f 1) (row f 2) (row f 3) (row f 4) (row f 5) (row f 6) (row f 7) (row f 8) (row f 9) (row f 10) (row f 11) (row f 12) (row f 13)) Q) := by
  simp only [k0_part85_eq_skeleton]; unfold k0_part85_skel
  simp only [Prog.lift, Prog.bind_op, Prog.bind_ret, Prog.pure_eq_ret]
  iintro Hg Hk
  iapply (step_ldG c f 14 rfl) $$ Hg; iintro Hg
  iapply (step_ldG c f 15 rfl) $$ Hg; iintro Hg
  rw [wp_ret]; imodintro
  rw [show Q ⟨k0_pay80 (gRow f 14), k0_pay81 (gRow f 15), k0_pay82 (row f 0) (row f 1) (row f 2) (row f 3) (row f 4) (row f 5) (row f 6) (row f 7) (row f 8) (row f 9) (row f 10) (row f 11) (row f 12) (row f 13) (gRow f 14) (gRow f 15), k0_pay84 (row f 0) (row f 1) (row f 2) (row f 3) (row f 4) (row f 5) (row f 6) (row f 7) (row f 8) (row f 9) (row f 10) (row f 11) (row f 12) (row f 13) (gRow f 14) (gRow f 15), k0_pay85 (row f 0) (row f 1) (row f 2) (row f 3) (row f 4) (row f 5) (row f 6) (row f 7) (row f 8) (row f 9) (row f 10) (row f 11) (row f 12) (row f 13) (gRow f 14) (gRow f 15), k0_pay86 (row f 0) (row f 1) (row f 2) (row f 3) (row f 4) (row f 5) (row f 6) (row f 7) (row f 8) (row f 9) (row f 10) (row f 11) (row f 12) (row f 13) (gRow f 14) (gRow f 15), k0_pay87 (row f 0) (row f 1) (row f 2) (row f 3) (row f 4) (row f 5) (row f 6) (row f 7) (row f 8) (row f 9) (row f 10) (row f 11) (row f 12) (row f 13) (gRow f 14) (gRow f 15)⟩ = Q ⟨row f 14, row f 15, cM f, cL1 f, cO1 f, cW1 f, cP1 f⟩ from rfl]
  iapply Hk
  iexact Hg

theorem part86 (c : Dev nD) (f : Vec F S16x4x16x128 .f32) {Q : _ → sProp 𝕄} :
    Q ⟨cL7 f, cO7 f, cW7 f, cP7 f⟩ ⊢ wp frame (wpE (defs₀ (F := F)) 𝒱₀ (c : Thread nD τ) none) Set.univ (k0_part86 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 (row f 1) (row f 2) (row f 3) (row f 4) (row f 5) (row f 6) (row f 7) (cM f) (cL1 f) (cO1 f) (cW1 f) (cP1 f)) Q := by
  simp only [k0_part86_eq_skeleton]; unfold k0_part86_skel
  simp only [Prog.pure_eq_ret]
  iintro H
  rw [wp_ret]; imodintro
  rw [show Q ⟨k0_pay93 (row f 2) (row f 3) (row f 4) (row f 5) (row f 6) (cM f) (cL1 f) (cP1 f), k0_pay94 (row f 1) (row f 2) (row f 3) (row f 4) (row f 5) (row f 6) (cM f) (cO1 f) (cW1 f), k0_pay95 (row f 7) (cM f), k0_pay96 (row f 7) (cM f)⟩ = Q ⟨cL7 f, cO7 f, cW7 f, cP7 f⟩ from rfl]
  iexact H

theorem part87 (c : Dev nD) (f : Vec F S16x4x16x128 .f32) {Q : _ → sProp 𝕄} :
    Q ⟨cL13 f, cO13 f, cW13 f, cP13 f⟩ ⊢ wp frame (wpE (defs₀ (F := F)) 𝒱₀ (c : Thread nD τ) none) Set.univ (k0_part87 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 (row f 7) (row f 8) (row f 9) (row f 10) (row f 11) (row f 12) (row f 13) (cM f) (cL7 f) (cO7 f) (cW7 f) (cP7 f)) Q := by
  simp only [k0_part87_eq_skeleton]; unfold k0_part87_skel
  simp only [Prog.pure_eq_ret]
  iintro H
  rw [wp_ret]; imodintro
  rw [show Q ⟨k0_pay102 (row f 8) (row f 9) (row f 10) (row f 11) (row f 12) (cM f) (cL7 f) (cP7 f), k0_pay103 (row f 7) (row f 8) (row f 9) (row f 10) (row f 11) (row f 12) (cM f) (cO7 f) (cW7 f), k0_pay104 (row f 13) (cM f), k0_pay105 (row f 13) (cM f)⟩ = Q ⟨cL13 f, cO13 f, cW13 f, cP13 f⟩ from rfl]
  iexact H

set_option maxHeartbeats 4000000 in
theorem part88 (K : GSem nD τ sig → ℕ) (c : Dev nD) {Q : _ → sProp 𝕄} :
    iprop(recs m K ∗ bSt c 0 ∗ sendToks c ∗ (cred (tallyAt (bar c) () 15) : sProp 𝕄) ∗ atPos ER (bar c) 0 ∅ 0 ∗ kC m c 0 ∗ kC m c 1 ∗ vC m c 0 ∗ vC m c 1 ∗ kRest m c 2 ∗ kRest m c 3 ∗ vRest m c 2 ∗ vRest m c 3 ∗ qPts m c ∗ compSt m c 0 0 ∗ compSt m c 1 0 ∗ compSt m c 2 0 ∗ compSt m c 3 0 ∗ wsAt c ∗ wrAt c)
      ⊢ iprop((∀ w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 w60, iprop(atPos ER (bar c) 1 ∅ 0 ∗ kB' m c 2 ∗ kB' m c 3 ∗ vB' m c 2 ∗ vB' m c 3 ∗ qPts m c ∗ slotPts m c c.val 0 (shareDrop fullShare 15) ∗ slotPts m c c.val 1 (shareDrop fullShare 15) ∗ slotPts m c c.val 2 (shareDrop fullShare 15) ∗ slotPts m c c.val 3 (shareDrop fullShare 15) ∗ wsSt m c 55 ∗ wrAt c ∗ kSrc m c 0 ∗ vSrc m c 0 ∗ kSrc m c 1 ∗ vSrc m c 1) -∗ Q ⟨c, w1, w2, w3, w4, w5, w6, w7, w8, w9, w10, w11, w12, w13, w14, w15, w16, w17, w18, w19, w20, w21, w22, w23, w24, w25, w26, w27, w28, w29, w30, w31, w32, w33, w34, w35, w36, w37, w38, w39, w40, w41, w42, w43, w44, w45, w46, w47, w48, w49, w50, w51, w52, w53, w54, w55, w56, w57, w58, w59, w60⟩)
        -∗ wp frame (wpE (defs₀ (F := F)) 𝒱₀ (c : Thread nD τ) none) Set.univ (k0_part88 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6) Q) := by
  unfold k0_part88
  iintro ⟨#HR, HB, HT, HBC, HBA, HK0, HK1, HV0, HV1, HKR2, HKR3, HVR2, HVR3, HQ, HC0, HC1, HC2, HC3, HWS, HWR⟩ Hk
  rw [wp_bind]
  iapply (part1 m K c) $$ [HK0]
  · isplitr; · iexact HR
    iexact HK0
  iintro %r1 H
  icases H with HK0
  try dsimp only
  rw [wp_bind]
  iapply (part2 m K c _) $$ [HV0 HB]
  · isplitr; · iexact HR
    isplitl [HV0]; · iexact HV0
    iexact HB
  iintro %r1 H
  icases H with ⟨HV0, HB⟩
  try dsimp only
  rw [wp_bind]
  iapply (part3 m K c _ _) $$ [HB]
  · isplitr; · iexact HR
    iexact HB
  iintro %r H
  icases H with HB
  try dsimp only
  rw [wp_bind]
  iapply (part4 m K c _ _) $$ [HB HT HBC HBA HK1]
  · isplitr; · iexact HR
    isplitl [HB]; · iexact HB
    isplitl [HT]; · iexact HT
    isplitl [HBC]; · iexact HBC
    isplitl [HBA]; · iexact HBA
    iexact HK1
  iintro %r H
  icases H with ⟨HBA, HS, HK1⟩
  try dsimp only
  rw [wp_bind]
  iapply (part5 m K c) $$ [HV1 HS HK0 HV0 HQ]
  · isplitr; · iexact HR
    isplitl [HV1]; · iexact HV1
    isplitl [HS]; · iexact HS
    isplitl [HK0]; · iexact HK0
    isplitl [HV0]; · iexact HV0
    iexact HQ
  iintro H
  icases H with ⟨HV1, HS, HK0, HV0, HQ⟩
  try dsimp only
  rw [wp_bind]
  iapply (part6 m K c _) $$ [HC0 HQ]
  · isplitr; · iexact HR
    isplitl [HC0]; · iexact HC0
    iexact HQ
  iintro H
  icases H with ⟨HC0, HQ⟩
  try dsimp only
  rw [wp_bind]
  iapply (part7 m K c _) $$ [HK0 HV0 HC0]
  · isplitr; · iexact HR
    isplitl [HK0]; · iexact HK0
    isplitl [HV0]; · iexact HV0
    iexact HC0
  iintro %r H
  icases H with ⟨HK0, HV0, HC0⟩
  try dsimp only
  rw [wp_bind]
  iapply (part8 m K c _ _) $$ [HS HC0]
  · isplitr; · iexact HR
    isplitl [HS]; · iexact HS
    iexact HC0
  iintro %r H
  obtain ⟨r0, r1, r2⟩ := r
  icases H with ⟨HS, HC0⟩
  try dsimp only
  rw [wp_bind]
  iapply (part9 m K c _ _) $$ [HS HC0]
  · isplitr; · iexact HR
    isplitl [HS]; · iexact HS
    iexact HC0
  iintro %r H
  obtain ⟨r0, r1⟩ := r
  icases H with ⟨HS, HC0⟩
  try dsimp only
  rw [wp_bind]
  iapply (part10 m K c _) $$ [HS HC0]
  · isplitr; · iexact HR
    isplitl [HS]; · iexact HS
    iexact HC0
  iintro %r H
  obtain ⟨r0, r1⟩ := r
  icases H with ⟨HS, HC0⟩
  try dsimp only
  rw [wp_bind]
  iapply (part11 m K c _) $$ [HS HC0]
  · isplitr; · iexact HR
    isplitl [HS]; · iexact HS
    iexact HC0
  iintro %r H
  obtain ⟨r0, r1⟩ := r
  icases H with ⟨HS, HC0⟩
  try dsimp only
  rw [wp_bind]
  iapply (part12 m K c _) $$ [HS HC0]
  · isplitr; · iexact HR
    isplitl [HS]; · iexact HS
    iexact HC0
  iintro %r H
  obtain ⟨r0, r1, r2⟩ := r
  icases H with ⟨HS, HC0⟩
  try dsimp only
  rw [wp_bind]
  iapply (part13 m K c _ _) $$ [HS HC0]
  · isplitr; · iexact HR
    isplitl [HS]; · iexact HS
    iexact HC0
  iintro %r H
  obtain ⟨r0, r1, r2⟩ := r
  icases H with ⟨HS, HC0⟩
  try dsimp only
  rw [wp_bind]
  iapply (part14 m K c _ _ _) $$ [HS HC0 HK0 HKR2]
  · isplitr; · iexact HR
    isplitl [HS]; · iexact HS
    isplitl [HC0]; · iexact HC0
    isplitl [HK0]; · iexact HK0
    iexact HKR2
  iintro %r H
  icases H with ⟨HS, HC0, HK0, HKS0⟩
  try dsimp only
  rw [wp_bind]
  iapply (part15 m K c) $$ [HV0 HVR2 HS HK1 HV1 HQ]
  · isplitr; · iexact HR
    isplitl [HV0]; · iexact HV0
    isplitl [HVR2]; · iexact HVR2
    isplitl [HS]; · iexact HS
    isplitl [HK1]; · iexact HK1
    isplitl [HV1]; · iexact HV1
    iexact HQ
  iintro H
  icases H with ⟨HV0, HVS0, HS, HK1, HV1, HQ⟩
  try dsimp only
  rw [wp_bind]
  iapply (part16 m K c _) $$ [HC1 HQ]
  · isplitr; · iexact HR
    isplitl [HC1]; · iexact HC1
    iexact HQ
  iintro H
  icases H with ⟨HC1, HQ⟩
  try dsimp only
  rw [wp_bind]
  iapply (part17 m K c _) $$ [HK1 HV1 HC1]
  · isplitr; · iexact HR
    isplitl [HK1]; · iexact HK1
    isplitl [HV1]; · iexact HV1
    iexact HC1
  iintro %r H
  icases H with ⟨HK1, HV1, HC1⟩
  try dsimp only
  rw [wp_bind]
  iapply (part18 m K c _ _) $$ [HS HC1]
  · isplitr; · iexact HR
    isplitl [HS]; · iexact HS
    iexact HC1
  iintro %r H
  obtain ⟨r0, r1, r2⟩ := r
  icases H with ⟨HS, HC1⟩
  try dsimp only
  rw [wp_bind]
  iapply (part19 m K c _ _) $$ [HS HC1]
  · isplitr; · iexact HR
    isplitl [HS]; · iexact HS
    iexact HC1
  iintro %r H
  obtain ⟨r0, r1, r2, r3⟩ := r
  icases H with ⟨HS, HC1⟩
  try dsimp only
  rw [wp_bind]
  iapply (part20 m K c _ _ _) $$ [HS HC1]
  · isplitr; · iexact HR
    isplitl [HS]; · iexact HS
    iexact HC1
  iintro %r H
  obtain ⟨r0, r1⟩ := r
  icases H with ⟨HS, HC1⟩
  try dsimp only
  rw [wp_bind]
  iapply (part21 m K c _) $$ [HS HC1]
  · isplitr; · iexact HR
    isplitl [HS]; · iexact HS
    iexact HC1
  iintro %r H
  obtain ⟨r0, r1⟩ := r
  icases H with ⟨HS, HC1⟩
  try dsimp only
  rw [wp_bind]
  iapply (part22 m K c _) $$ [HS HC1]
  · isplitr; · iexact HR
    isplitl [HS]; · iexact HS
    iexact HC1
  iintro %r H
  obtain ⟨r0, r1, r2⟩ := r
  icases H with ⟨HS, HC1⟩
  try dsimp only
  rw [wp_bind]
  iapply (part23 m K c _ _) $$ [HS HC1]
  · isplitr; · iexact HR
    isplitl [HS]; · iexact HS
    iexact HC1
  iintro %r H
  obtain ⟨r0, r1⟩ := r
  icases H with ⟨HS, HC1⟩
  try dsimp only
  rw [wp_bind]
  iapply (part24 m K c _ _) $$ [HS HC1 HK1 HKR3]
  · isplitr; · iexact HR
    isplitl [HS]; · iexact HS
    isplitl [HC1]; · iexact HC1
    isplitl [HK1]; · iexact HK1
    iexact HKR3
  iintro %r H
  icases H with ⟨HS, HC1, HK1, HKS1⟩
  try dsimp only
  rw [wp_bind]
  iapply (part25 m K c) $$ [HV1 HVR3 HS HK0 HV0 HQ]
  · isplitr; · iexact HR
    isplitl [HV1]; · iexact HV1
    isplitl [HVR3]; · iexact HVR3
    isplitl [HS]; · iexact HS
    isplitl [HK0]; · iexact HK0
    isplitl [HV0]; · iexact HV0
    iexact HQ
  iintro H
  icases H with ⟨HV1, HVS1, HS, HK0, HV0, HQ⟩
  try dsimp only
  rw [wp_bind]
  iapply (part26 m K c _) $$ [HC2 HQ]
  · isplitr; · iexact HR
    isplitl [HC2]; · iexact HC2
    iexact HQ
  iintro H
  icases H with ⟨HC2, HQ⟩
  try dsimp only
  rw [wp_bind]
  iapply (part27 m K c _) $$ [HK0 HV0 HC2]
  · isplitr; · iexact HR
    isplitl [HK0]; · iexact HK0
    isplitl [HV0]; · iexact HV0
    iexact HC2
  iintro %r H
  icases H with ⟨HK0, HV0, HC2⟩
  try dsimp only
  rw [wp_bind]
  iapply (part28 m K c _) $$ [HS HC2]
  · isplitr; · iexact HR
    isplitl [HS]; · iexact HS
    iexact HC2
  iintro %r H
  obtain ⟨r0, r1, r2⟩ := r
  icases H with ⟨HS, HC2⟩
  try dsimp only
  rw [wp_bind]
  iapply (part29 m K c _ _) $$ [HS HC2]
  · isplitr; · iexact HR
    isplitl [HS]; · iexact HS
    iexact HC2
  iintro %r H
  obtain ⟨r0, r1, r2⟩ := r
  icases H with ⟨HS, HC2⟩
  try dsimp only
  rw [wp_bind]
  iapply (part30 m K c _ _) $$ [HS HC2]
  · isplitr; · iexact HR
    isplitl [HS]; · iexact HS
    iexact HC2
  iintro %r H
  obtain ⟨r0, r1⟩ := r
  icases H with ⟨HS, HC2⟩
  try dsimp only
  rw [wp_bind]
  iapply (part31 m K c _) $$ [HS HC2]
  · isplitr; · iexact HR
    isplitl [HS]; · iexact HS
    iexact HC2
  iintro %r H
  obtain ⟨r0, r1⟩ := r
  icases H with ⟨HS, HC2⟩
  try dsimp only
  rw [wp_bind]
  iapply (part32 m K c _) $$ [HS HC2]
  · isplitr; · iexact HR
    isplitl [HS]; · iexact HS
    iexact HC2
  iintro %r H
  obtain ⟨r0, r1, r2, r3⟩ := r
  icases H with ⟨HS, HC2⟩
  try dsimp only
  rw [wp_bind]
  iapply (part33 m K c _ _ _) $$ [HS HC2]
  · isplitr; · iexact HR
    isplitl [HS]; · iexact HS
    iexact HC2
  iintro %r H
  obtain ⟨r0, r1, r2⟩ := r
  icases H with ⟨HS, HC2⟩
  try dsimp only
  rw [wp_bind]
  iapply (part34 m K c _ _) $$ [HS HC2 HK1]
  · isplitr; · iexact HR
    isplitl [HS]; · iexact HS
    isplitl [HC2]; · iexact HC2
    iexact HK1
  iintro %r H
  icases H with ⟨HS, HC2, HK1⟩
  try dsimp only
  rw [wp_bind]
  iapply (part35 m K c _) $$ [HS HV1 HQ HK1]
  · isplitr; · iexact HR
    isplitl [HS]; · iexact HS
    isplitl [HV1]; · iexact HV1
    isplitl [HQ]; · iexact HQ
    iexact HK1
  iintro H
  icases H with ⟨HS, HV1, HQ, HK1⟩
  try dsimp only
  rw [wp_bind]
  iapply (part36 m K c _) $$ [HC3 HQ HK1 HV1]
  · isplitr; · iexact HR
    isplitl [HC3]; · iexact HC3
    isplitl [HQ]; · iexact HQ
    isplitl [HK1]; · iexact HK1
    iexact HV1
  iintro H
  icases H with ⟨HC3, HQ, HK1, HV1⟩
  try dsimp only
  rw [wp_bind]
  iapply (part37 m K c _) $$ [HC3 HS]
  · isplitr; · iexact HR
    isplitl [HC3]; · iexact HC3
    iexact HS
  iintro %r H
  icases H with ⟨HC3, HS⟩
  try dsimp only
  rw [wp_bind]
  iapply (part38 m K c _) $$ [HS HC3]
  · isplitr; · iexact HR
    isplitl [HS]; · iexact HS
    iexact HC3
  iintro %r H
  obtain ⟨r0, r1, r2⟩ := r
  icases H with ⟨HS, HC3⟩
  try dsimp only
  rw [wp_bind]
  iapply (part39 m K c _ _) $$ [HS HC3]
  · isplitr; · iexact HR
    isplitl [HS]; · iexact HS
    iexact HC3
  iintro %r H
  obtain ⟨r0, r1, r2⟩ := r
  icases H with ⟨HS, HC3⟩
  try dsimp only
  rw [wp_bind]
  iapply (part40 m K c _ _) $$ [HS HC3]
  · isplitr; · iexact HR
    isplitl [HS]; · iexact HS
    iexact HC3
  iintro %r H
  obtain ⟨r0, r1⟩ := r
  icases H with ⟨HS, HC3⟩
  try dsimp only
  rw [wp_bind]
  iapply (part41 m K c _) $$ [HS HC3]
  · isplitr; · iexact HR
    isplitl [HS]; · iexact HS
    iexact HC3
  iintro %r H
  obtain ⟨r0, r1⟩ := r
  icases H with ⟨HS, HC3⟩
  try dsimp only
  rw [wp_bind]
  iapply (part42 m K c _) $$ [HS HC3]
  · isplitr; · iexact HR
    isplitl [HS]; · iexact HS
    iexact HC3
  iintro %r H
  obtain ⟨r0, r1, r2, r3⟩ := r
  icases H with ⟨HS, HC3⟩
  try dsimp only
  rw [wp_bind]
  iapply (part43 m K c _ _ _) $$ [HS HC3]
  · isplitr; · iexact HR
    isplitl [HS]; · iexact HS
    iexact HC3
  iintro %r H
  obtain ⟨r0, r1, r2⟩ := r
  icases H with ⟨HS, HC3⟩
  try dsimp only
  rw [wp_bind]
  iapply (part44 m K c _) $$ [HS HC3 HWS]
  · isplitr; · iexact HR
    isplitl [HS]; · iexact HS
    isplitl [HC3]; · iexact HC3
    iexact HWS
  iintro %r H
  icases H with ⟨HC3, HWS⟩
  try dsimp only
  rw [wp_bind]
  iapply (part45 m K c) $$ [HWS]
  · isplitr; · iexact HR
    iexact HWS
  iintro %r H
  icases H with HWS
  try dsimp only
  rw [wp_bind]
  iapply (part46 m K c) $$ [HWS]
  · isplitr; · iexact HR
    iexact HWS
  iintro %r H
  icases H with HWS
  try dsimp only
  rw [wp_bind]
  iapply (part47 m K c) $$ [HWS]
  · isplitr; · iexact HR
    iexact HWS
  iintro %r H
  icases H with HWS
  try dsimp only
  rw [wp_bind]
  iapply (part48 m K c) $$ [HWS]
  · isplitr; · iexact HR
    iexact HWS
  iintro %r H
  icases H with HWS
  try dsimp only
  rw [wp_bind]
  iapply (part49 m K c) $$ [HWS]
  · isplitr; · iexact HR
    iexact HWS
  iintro %r H
  icases H with HWS
  try dsimp only
  rw [wp_bind]
  iapply (part50 m K c) $$ [HWS]
  · isplitr; · iexact HR
    iexact HWS
  iintro %r H
  icases H with HWS
  try dsimp only
  rw [wp_bind]
  iapply (part51 m K c) $$ [HWS]
  · isplitr; · iexact HR
    iexact HWS
  iintro %r H
  icases H with HWS
  try dsimp only
  rw [wp_bind]
  iapply (part52 m K c) $$ [HWS]
  · isplitr; · iexact HR
    iexact HWS
  iintro %r H
  icases H with HWS
  try dsimp only
  rw [wp_bind]
  iapply (part53 m K c) $$ [HWS]
  · isplitr; · iexact HR
    iexact HWS
  iintro %r H
  icases H with HWS
  try dsimp only
  rw [wp_bind]
  iapply (part54 m K c) $$ [HWS]
  · isplitr; · iexact HR
    iexact HWS
  iintro %r H
  icases H with HWS
  try dsimp only
  rw [wp_bind]
  iapply (part55 m K c) $$ [HWS]
  · isplitr; · iexact HR
    iexact HWS
  iintro %r H
  icases H with HWS
  try dsimp only
  rw [wp_bind]
  iapply (part56 m K c) $$ [HWS]
  · isplitr; · iexact HR
    iexact HWS
  iintro %r H
  icases H with HWS
  try dsimp only
  rw [wp_bind]
  iapply (part57 m K c) $$ [HWS]
  · isplitr; · iexact HR
    iexact HWS
  iintro %r H
  icases H with HWS
  try dsimp only
  rw [wp_bind]
  iapply (part58 m K c) $$ [HWS]
  · isplitr; · iexact HR
    iexact HWS
  iintro %r H
  icases H with HWS
  try dsimp only
  rw [wp_bind]
  iapply (part59 m K c) $$ [HWS]
  · isplitr; · iexact HR
    iexact HWS
  iintro %r H
  icases H with HWS
  try dsimp only
  rw [wp_bind]
  iapply (part60 m K c) $$ [HWS]
  · isplitr; · iexact HR
    iexact HWS
  iintro %r H
  icases H with HWS
  try dsimp only
  simp only [Prog.pure_eq_ret]
  rw [wp_ret]; imodintro
  iapply Hk
  isplitl [HBA]; · iexact HBA
  isplitl [HK0]; · iexact HK0
  isplitl [HK1]; · iexact HK1
  isplitl [HV0]; · iexact HV0
  isplitl [HV1]; · iexact HV1
  isplitl [HQ]; · iexact HQ
  isplitl [HC0]; · iexact HC0
  isplitl [HC1]; · iexact HC1
  isplitl [HC2]; · iexact HC2
  isplitl [HC3]; · iexact HC3
  isplitl [HWS]; · iexact HWS
  isplitl [HWR]; · iexact HWR
  isplitl [HKS0]; · iexact HKS0
  isplitl [HVS0]; · iexact HVS0
  isplitl [HKS1]; · iexact HKS1
  iexact HVS1

def endSt (c : Dev nD) : sProp 𝕄 := iprop((owesX c 0 ∗ wrDone c ∗ wsLeft c) ∗ ∃ f : Vec F S16x4x16x128 .f32, ⌜∀ i, (i 3).val < 66 → f i = G m i⌝ ∗ gPts c f ∗ outPts c (k0_pay1 (cOut f)))

set_option maxHeartbeats 4000000 in
/-- What is left of the body once all is sent: the waits, the combine, the output. -/
theorem tail (K : GSem nD τ sig → ℕ) (c : Dev nD) (w1 : BitVec 32) (w2 : BitVec 32) (w3 : BitVec 32) (w4 : BitVec 32) (w5 : BitVec 32) (w6 : BitVec 32) (w7 : BitVec 32) (w8 : BitVec 32) (w9 : BitVec 32) (w10 : BitVec 32) (w11 : BitVec 32) (w12 : BitVec 32) (w13 : BitVec 32) (w14 : BitVec 32) (w15 : BitVec 32) (w16 : BitVec 32) (w17 : BitVec 32) (w18 : BitVec 32) (w19 : BitVec 32) (w20 : BitVec 32) (w21 : BitVec 32) (w22 : BitVec 32) (w23 : BitVec 32) (w24 : BitVec 32) (w25 : BitVec 32) (w26 : BitVec 32) (w27 : BitVec 32) (w28 : BitVec 32) (w29 : BitVec 32) (w30 : BitVec 32) (w31 : BitVec 32) (w32 : BitVec 32) (w33 : BitVec 32) (w34 : BitVec 32) (w35 : BitVec 32) (w36 : BitVec 32) (w37 : BitVec 32) (w38 : BitVec 32) (w39 : BitVec 32) (w40 : BitVec 32) (w41 : BitVec 32) (w42 : BitVec 32) (w43 : BitVec 32) (w44 : BitVec 32) (w45 : BitVec 32) (w46 : BitVec 32) (w47 : BitVec 32) (w48 : BitVec 32) (w49 : BitVec 32) (w50 : BitVec 32) (w51 : BitVec 32) (w52 : BitVec 32) (w53 : BitVec 32) (w54 : BitVec 32) (w55 : BitVec 32) (w56 : BitVec 32) (w57 : BitVec 32) (w58 : BitVec 32) (w59 : BitVec 32) (w60 : BitVec 32) {Q : PUnit → sProp 𝕄} :
    iprop(recs m K ∗ wsSt m c 55 ∗ wrAt c ∗ slotPts m c c.val 0 (shareDrop fullShare 15) ∗ slotPts m c c.val 1 (shareDrop fullShare 15) ∗ slotPts m c c.val 2 (shareDrop fullShare 15) ∗ slotPts m c c.val 3 (shareDrop fullShare 15) ∗ ∃ f, outPts c f)
      ⊢ iprop((endSt m c -∗ Q ⟨⟩)
        -∗ wp frame (wpE (defs₀ (F := F)) 𝒱₀ (c : Thread nD τ) none) Set.univ (do
          let ⟨v, _⟩ ← k0_part89 (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6 c w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 w60
          Prog.lift (.store oM (Rect.unit (s := S8x1x8x64) ![0, 0, 0, 0] S8x1x8x64.size inb_S8x1x8x64_S8x1x8x64_0_0_0_0) (k0_pay1 v) Finset.univ (View.stores_vmem_bits_univ h_S8x1x8x64 rfl) (.inl rfl))
          pure ⟨⟩) Q) := by
  unfold k0_part89
  simp only [bind_assoc]
  iintro ⟨#HR, HWS, HWR, HC0, HC1, HC2, HC3, HO⟩ Hk
  rw [wp_bind]
  iapply (part61 m K c) $$ [HWS]
  · isplitr; · iexact HR
    iexact HWS
  iintro %r H
  icases H with HWS
  try dsimp only
  rw [wp_bind]
  iapply (part62 m K c _ _) $$ [HWS HWR]
  · isplitr; · iexact HR
    isplitl [HWS]; · iexact HWS
    iexact HWR
  iintro %r H
  icases H with ⟨HWR, HWD⟩
  try dsimp only
  rw [wp_bind]
  iapply (part63 m K c _ _ _) $$ [HWR]
  · isplitr; · iexact HR
    iexact HWR
  iintro %r H
  icases H with HWR
  try dsimp only
  rw [wp_bind]
  iapply (part64 m K c _ _ _) $$ [HWR]
  · isplitr; · iexact HR
    iexact HWR
  iintro %r H
  icases H with HWR
  try dsimp only
  rw [wp_bind]
  iapply (part65 m K c _ _ _) $$ [HWR]
  · isplitr; · iexact HR
    iexact HWR
  iintro %r H
  icases H with HWR
  try dsimp only
  rw [wp_bind]
  iapply (part66 m K c _ _ _) $$ [HWR]
  · isplitr; · iexact HR
    iexact HWR
  iintro %r H
  obtain ⟨r0, r1⟩ := r
  icases H with HWR
  try dsimp only
  rw [wp_bind]
  iapply (part67 m K c _ _ _ _) $$ [HWR]
  · isplitr; · iexact HR
    iexact HWR
  iintro %r H
  icases H with HWR
  try dsimp only
  rw [wp_bind]
  iapply (part68 m K c _ _ _) $$ [HWR]
  · isplitr; · iexact HR
    iexact HWR
  iintro %r H
  icases H with HWR
  try dsimp only
  rw [wp_bind]
  iapply (part69 m K c _ _ _) $$ [HWR]
  · isplitr; · iexact HR
    iexact HWR
  iintro %r H
  icases H with HWR
  try dsimp only
  rw [wp_bind]
  iapply (part70 m K c _ _ _) $$ [HWR]
  · isplitr; · iexact HR
    iexact HWR
  iintro %r H
  icases H with HWR
  try dsimp only
  rw [wp_bind]
  iapply (part71 m K c _ _ _) $$ [HWR]
  · isplitr; · iexact HR
    iexact HWR
  iintro %r H
  icases H with HWR
  try dsimp only
  rw [wp_bind]
  iapply (part72 m K c _ _ _) $$ [HWR]
  · isplitr; · iexact HR
    iexact HWR
  iintro %r H
  icases H with HWR
  try dsimp only
  rw [wp_bind]
  iapply (part73 m K c _ _ _) $$ [HWR]
  · isplitr; · iexact HR
    iexact HWR
  iintro %r H
  obtain ⟨r0, r1⟩ := r
  icases H with HWR
  try dsimp only
  rw [wp_bind]
  iapply (part74 m K c _ _ _ _) $$ [HWR]
  · isplitr; · iexact HR
    iexact HWR
  iintro %r H
  icases H with HWR
  try dsimp only
  rw [wp_bind]
  iapply (part75 m K c _ _ _) $$ [HWR]
  · isplitr; · iexact HR
    iexact HWR
  iintro %r H
  icases H with HWR
  try dsimp only
  rw [wp_bind]
  iapply (part76 m K c _ _ _) $$ [HWR]
  · isplitr; · iexact HR
    iexact HWR
  iintro %r H
  icases H with HWR
  try dsimp only
  rw [wp_bind]
  iapply (part77 m K c _ _ _) $$ [HWR]
  · isplitr; · iexact HR
    iexact HWR
  iintro %r H
  icases H with HWR
  try dsimp only
  rw [wp_bind]
  iapply (part78 m K c _ _ _) $$ [HWR]
  · isplitr; · iexact HR
    iexact HWR
  iintro %r H
  icases H with HWR
  try dsimp only
  rw [wp_bind]
  iapply (part79 m K c _ _ _) $$ [HWR]
  · isplitr; · iexact HR
    iexact HWR
  iintro %r H
  icases H with HWR
  try dsimp only
  rw [wp_bind]
  iapply (part80 m K c _ _ _) $$ [HWR]
  · isplitr; · iexact HR
    iexact HWR
  iintro %r H
  obtain ⟨r0, r1⟩ := r
  icases H with HWR
  try dsimp only
  rw [wp_bind]
  iapply (part81 m K c _ _ _ _) $$ [HWR]
  · isplitr; · iexact HR
    iexact HWR
  iintro %r H
  icases H with HWR
  try dsimp only
  rw [wp_bind]
  iapply (part82 m K c _ _ _) $$ [HWR]
  · isplitr; · iexact HR
    iexact HWR
  iintro %r H
  icases H with HWR
  try dsimp only
  rw [wp_bind]
  iapply (part83 m K c _) $$ [HWR HWD HC0 HC1 HC2 HC3]
  · isplitr; · iexact HR
    isplitl [HWR]; · iexact HWR
    isplitl [HWD]; · iexact HWD
    isplitl [HC0]; · iexact HC0
    isplitl [HC1]; · iexact HC1
    isplitl [HC2]; · iexact HC2
    iexact HC3
  iintro %f ⟨%hf, HX, Hg⟩
  try dsimp only
  rw [wp_bind]; iapply (part84 c f) $$ Hg; iintro Hg; try dsimp only
  rw [wp_bind]; iapply (part85 c f) $$ Hg; iintro Hg; try dsimp only
  rw [wp_bind]; iapply (part86 c f); try dsimp only
  rw [wp_bind]; iapply (part87 c f); try dsimp only
  simp only [Prog.lift, Prog.bind_op, Prog.bind_ret, Prog.pure_eq_ret]
  iapply (step_out c) $$ HO
  iintro HO
  rw [wp_ret]; imodintro
  iapply Hk
  unfold endSt
  isplitl [HX]; · iexact HX
  iexists f
  isplitr; · ipureintro; exact hf
  isplitl [Hg]; · iexact Hg
  iexact HO

end Cert.KernelIdeal.Talk
-- ==== Proof.Comb.lean ====
/-
The log-sum-exp combine as one recursion over the sixteen partial results.
-/
module

public import proofs.«01_k».proof.Proof.Phase

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ)

def colM (x : FVec F S64x128 .f32) : FVec F S64x1 .f32 := extractStridedSlice S64x1 ![0, 64] x slices_S64x128_o0_64_S64x1
def colL (x : FVec F S64x128 .f32) : FVec F S64x1 .f32 := extractStridedSlice S64x1 ![0, 65] x slices_S64x128_o0_65_S64x1
def colO (x : FVec F S64x128 .f32) : FVec F S64x64 .f32 := extractStridedSlice S64x64 ![0, 0] x slices_S64x128_o0_0_S64x64

/-- The running maximum of the first `n + 1` partial maxima. -/
def mxs (g : ℕ → FVec F S64x128 .f32) : ℕ → FVec F S64x1 .f32
  | 0 => colM (g 0)
  | n + 1 => maximumf (mxs g n) (colM (g (n + 1)))
def wt (x : FVec F S64x128 .f32) (M : FVec F S64x1 .f32) : FVec F S64x1 .f32 := exp (subf (colM x) M)
/-- The weighted sum of the first `n` partial denominators. -/
def lsum (g : ℕ → FVec F S64x128 .f32) (M : FVec F S64x1 .f32) : ℕ → FVec F S64x1 .f32
  | 0 => broadcast S64x1 (Scalar.ofBits .f32 0x00000000#32 : F .f32)
  | n + 1 => addf (lsum g M n) (mulf (wt (g n) M) (colL (g n)))
/-- The weighted sum of the first `n` partial numerators. -/
def osum (g : ℕ → FVec F S64x128 .f32) (M : FVec F S64x1 .f32) : ℕ → FVec F S64x64 .f32
  | 0 => broadcast S64x64 (Scalar.ofBits .f32 0x00000000#32 : F .f32)
  | n + 1 => addf (osum g M n) (mulf (broadcastTo S64x64 (wt (g n) M) broadcasts_S64x1_S64x64) (colO (g n)))
def quot (g : ℕ → FVec F S64x128 .f32) : FVec F S64x64 .f32 :=
  divf (osum g (mxs g 15) 16) (broadcastTo S64x64 (lsum g (mxs g 15) 16) broadcasts_S64x1_S64x64)

def rowN (f : Vec F S16x4x16x128 .f32) (n : ℕ) : FVec F S64x128 .f32 := row f (Fin.ofNat 16 n)

theorem cM_eq (f : Vec F S16x4x16x128 .f32) : cM f = mxs (rowN f) 15 := rfl
theorem cL1_eq (f : Vec F S16x4x16x128 .f32) : cL1 f = lsum (rowN f) (cM f) 1 := rfl
theorem cO1_eq (f : Vec F S16x4x16x128 .f32) : cO1 f = osum (rowN f) (cM f) 1 := rfl
theorem cL7_eq (f : Vec F S16x4x16x128 .f32) : cL7 f = lsum (rowN f) (cM f) 7 := by
  unfold cL7; rw [cL1_eq]; rfl
theorem cO7_eq (f : Vec F S16x4x16x128 .f32) : cO7 f = osum (rowN f) (cM f) 7 := by
  unfold cO7; rw [cO1_eq]; rfl
theorem cL13_eq (f : Vec F S16x4x16x128 .f32) : cL13 f = lsum (rowN f) (cM f) 13 := by
  unfold cL13; rw [cL7_eq]; rfl
theorem cO13_eq (f : Vec F S16x4x16x128 .f32) : cO13 f = osum (rowN f) (cM f) 13 := by
  unfold cO13; rw [cO7_eq]; rfl
theorem cOut_eq (f : Vec F S16x4x16x128 .f32) : cOut f = shapeCast S8x8x64 (quot (rowN f)) shapeCasts_S64x64_S8x8x64 := by
  have h : cOut f = shapeCast S8x8x64 (divf (osum (rowN f) (cM f) 16) (broadcastTo S64x64 (lsum (rowN f) (cM f) 16) broadcasts_S64x1_S64x64)) shapeCasts_S64x64_S8x8x64 := by
    unfold cOut; rw [cL13_eq, cO13_eq]; rfl
  rw [h, cM_eq]; rfl

/-! ## Only the written columns are read -/

section congr
variable {g g' : ℕ → FVec F S64x128 .f32} (hM : ∀ n, colM (g n) = colM (g' n)) (hL : ∀ n, colL (g n) = colL (g' n)) (hO : ∀ n, colO (g n) = colO (g' n))
include hM in
theorem mxs_congr (n : ℕ) : mxs g n = mxs g' n := by
  induction n with
  | zero => exact hM 0
  | succ n ih => show maximumf (mxs g n) _ = maximumf (mxs g' n) _; rw [ih, hM]
include hM in
theorem wt_congr (n : ℕ) (M : FVec F S64x1 .f32) : wt (g n) M = wt (g' n) M := by unfold wt; rw [hM]
include hM hL in
theorem lsum_congr (M : FVec F S64x1 .f32) (n : ℕ) : lsum g M n = lsum g' M n := by
  induction n with
  | zero => rfl
  | succ n ih => show addf (lsum g M n) _ = addf (lsum g' M n) _; rw [ih, hL, wt_congr hM]
include hM hO in
theorem osum_congr (M : FVec F S64x1 .f32) (n : ℕ) : osum g M n = osum g' M n := by
  induction n with
  | zero => rfl
  | succ n ih => show addf (osum g M n) _ = addf (osum g' M n) _; rw [ih, hO, wt_congr hM]
include hM hL hO in
theorem quot_congr : quot g = quot g' := by
  unfold quot
  rw [mxs_congr hM, lsum_congr hM hL, osum_congr hM hO]
end congr

theorem row_apply (f : Vec F S16x4x16x128 .f32) (s : Fin 16) (i : S64x128.Idx) :
    row f s i = f (gIx s ⟨(i 0).val / 16, by have := (i 0).isLt; have e : (i 0).val < 64 := this; omega⟩
      ⟨(i 0).val % 16, Nat.mod_lt _ (by decide)⟩ (i 1)) := by
  have h0 : (i 0).val < 64 := (i 0).isLt
  have h1 : (i 1).val < 128 := (i 1).isLt
  have e : row f s = shapeCast S64x128 (shapeCast S4x16x128 (gRow f s) shapeCasts_S1x4x16x128_S4x16x128) shapeCasts_S4x16x128_S64x128 := rfl
  rw [e]
  show gRow f s (Shape.reshapeEquiv _ (Shape.reshapeEquiv _ i)) = _
  rw [Shape.reshapeEquiv_reshapeEquiv, Shape.reshapeEquiv_eq_of_rowMajor (s := S1x4x16x128) (s' := S64x128) _ (x := i)
    (y := (fun x => match x with | ⟨0, _⟩ => (0 : Fin 1) | ⟨1, _⟩ => (⟨(i 0).val / 16, by omega⟩ : Fin 4) | ⟨2, _⟩ => (⟨(i 0).val % 16, by omega⟩ : Fin 16) | ⟨3, _⟩ => i 1 : S1x4x16x128.Idx)) (by
      rw [Shape.rowMajor_val_two, Shape.rowMajor_val_four]
      show ((0 * 4 + (i 0).val / 16) * 16 + (i 0).val % 16) * 128 + (i 1).val = (i 0).val * 128 + (i 1).val
      omega)]
  rfl

theorem cOut_congr (f g : Vec F S16x4x16x128 .f32) (h : ∀ i, (i 3).val < 66 → f i = g i) : cOut f = cOut g := by
  rw [cOut_eq, cOut_eq]
  congr 1
  refine quot_congr (fun n => funext fun i => ?_) (fun n => funext fun i => ?_) (fun n => funext fun i => ?_)
  · have hi : (i 1).val < 1 := (i 1).isLt
    show row f _ _ = row g _ _
    rw [row_apply, row_apply]
    exact h _ (show 64 + (i 1).val < 66 by omega)
  · have hi : (i 1).val < 1 := (i 1).isLt
    show row f _ _ = row g _ _
    rw [row_apply, row_apply]
    exact h _ (show 65 + (i 1).val < 66 by omega)
  · have hi : (i 1).val < 64 := (i 1).isLt
    show row f _ _ = row g _ _
    rw [row_apply, row_apply]
    exact h _ (show 0 + (i 1).val < 66 by omega)

end Cert.KernelIdeal.Talk
-- ==== Proof.Run.lean ====
/-
The whole body on one device: from the buffers, the tokens and the opened cells, to the buffers and every
semaphore counter back at zero.
-/
module

public import Idealize.ShloMosaic.Lib.Rounds.Family
public import proofs.«01_k».proof.Proof.Body
public import proofs.«01_k».proof.Proof.Comb

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ)

/-! ## The scoped cells in three families -/

theorem sc_sets : (Finset.univ.map (Fin.valEmbedding (n := 124)) : Finset ℕ)
    = Finset.range 4 ∪ ((Finset.range 60).map (addRightEmbedding 4) ∪ (Finset.range 60).map (addRightEmbedding 64)) := by decide +kernel
theorem sc_disj1 : Disjoint (Finset.range 4 : Finset ℕ) ((Finset.range 60).map (addRightEmbedding 4) ∪ (Finset.range 60).map (addRightEmbedding 64)) := by
  decide +kernel
theorem sc_disj2 : Disjoint ((Finset.range 60).map (addRightEmbedding 4) : Finset ℕ) ((Finset.range 60).map (addRightEmbedding 64)) := by
  decide +kernel

/-- A family over the scoped cells is one over the copy cells, one over the send cells and one over the receive cells. -/
theorem bigSep_sc (A : DmaSem sig → sProp 𝕄) :
    (bigSep Finset.univ fun k : Fin 124 => A (scS k.val))
      = iprop((bigSep (Finset.range 4) fun n => A (kvS n)) ∗ (bigSep (Finset.range 60) fun n => A (sndS n)) ∗ bigSep (Finset.range 60) fun n => A (rcvS n)) := by
  have e : (bigSep Finset.univ fun k : Fin 124 => A (scS k.val)) = bigSep (Finset.univ.map (Fin.valEmbedding (n := 124))) fun k => A (scS k) := by
    rw [bigSep_map]; rfl
  rw [e, sc_sets, bigSep_union sc_disj1, bigSep_union sc_disj2, bigSep_map, bigSep_map]
  refine congr (congrArg _ ?_) (congr (congrArg _ ?_) ?_)
  · exact bigSep_congr fun n hn => by rw [show scS n = kvS n from if_pos (Finset.mem_range.1 hn)]
  · refine bigSep_congr fun n hn => ?_
    have hn := Finset.mem_range.1 hn
    rw [show scS (addRightEmbedding 4 n) = sndS n from (if_neg (show ¬ n + 4 < 4 by omega)).trans (if_pos (show n + 4 < 64 by omega))]
  · refine bigSep_congr fun n hn => ?_
    have hn := Finset.mem_range.1 hn
    rw [show scS (addRightEmbedding 64 n) = rcvS n from (if_neg (show ¬ n + 64 < 4 by omega)).trans (if_neg (show ¬ n + 64 < 64 by omega))]

theorem bigSep_four (A : ℕ → sProp 𝕄) : bigSep (Finset.range 4) A = iprop(A 0 ∗ A 1 ∗ A 2 ∗ A 3) := by
  rw [show (Finset.range 4 : Finset ℕ) = {0, 1, 2, 3} from by decide, bigSep_insert (by decide), bigSep_insert (by decide), bigSep_insert (by decide),
    bigSep_singleton]
  rfl
theorem bigSep_fin4 (A : ℕ → sProp 𝕄) : (bigSep Finset.univ fun ch : Fin 4 => A ch.val) = iprop(A 0 ∗ A 1 ∗ A 2 ∗ A 3) := by
  rw [← bigSep_four, ← range4_map, bigSep_map]; rfl

/-! ## The buffers in pieces -/

theorem chunks_all : (Finset.univ : Finset (Fin 4)).biUnion (fun ch => chunkSet ch.val) = Finset.univ := by
  ext i
  simp only [Finset.mem_univ, iff_true]
  have hi : (i 0).val < 8 := (i 0).isLt
  exact Finset.mem_biUnion.2 ⟨⟨(i 0).val / 2, by omega⟩, Finset.mem_univ _, mem_chunkSet.2 rfl⟩
theorem chunks_disj : ∀ t ∈ (Finset.univ : Finset (Fin 4)), ∀ t' ∈ (Finset.univ : Finset (Fin 4)), t ≠ t' → Disjoint (chunkSet t.val) (chunkSet t'.val) :=
  fun t _ t' _ h => Finset.disjoint_left.2 fun i hi hj => h (Fin.ext ((mem_chunkSet.1 hi).symm.trans (mem_chunkSet.1 hj)))

theorem k_chunks (c : Dev nD) :
    (((c : Thread nD τ).loc main_v2) ↦[Finset.univ]{fullShare} (V m c main_v2) : sProp 𝕄)
      = iprop(kSrc m c 0 ∗ kSrc m c 1 ∗ kSrc m c 2 ∗ kSrc m c 3) := by
  refine Eq.trans ?_ (bigSep_fin4 (fun ch => kSrc m c ch))
  rw [← chunks_all, pointsTo_biUnion (ℓ := (c : Thread nD τ).loc main_v2) _ _ chunks_disj]
  rfl
theorem v_chunks (c : Dev nD) :
    (((c : Thread nD τ).loc main_v3) ↦[Finset.univ]{fullShare} (V m c main_v3) : sProp 𝕄)
      = iprop(vSrc m c 0 ∗ vSrc m c 1 ∗ vSrc m c 2 ∗ vSrc m c 3) := by
  refine Eq.trans ?_ (bigSep_fin4 (fun ch => vSrc m c ch))
  rw [← chunks_all, pointsTo_biUnion (ℓ := (c : Thread nD τ).loc main_v3) _ _ chunks_disj]
  rfl

theorem halves_all : halfSet 0 ∪ halfSet 1 = Finset.univ := by
  ext i
  simp only [Finset.mem_univ, iff_true]
  have hi : (i 0).val < 2 := (i 0).isLt
  rw [Finset.mem_union, mem_halfSet, mem_halfSet]; omega
theorem halves_disj : Disjoint (halfSet 0) (halfSet 1) :=
  Finset.disjoint_left.2 fun i hi hj => by rw [mem_halfSet] at hi hj; omega

/-- A buffer of the device, at some contents. -/
def sAny (c : Dev nD) (b : Ref sig .tc) : sProp 𝕄 := iprop(∃ f : Buf (Elt F) ((c : Thread nD τ).loc b), ((c : Thread nD τ).loc b) ↦[Finset.univ]{fullShare} f)

theorem k_split (c : Dev nD) : (sAny c cc0_scratch0 : sProp 𝕄) ⊢ iprop(kAny c 0 ∗ kAny c 1) := by
  unfold sAny kAny
  iintro ⟨%f, H⟩
  ihave H := (show (((c : Thread nD τ).loc cc0_scratch0) ↦[Finset.univ]{fullShare} f : sProp 𝕄)
      ⊢ iprop((((c : Thread nD τ).loc cc0_scratch0) ↦[halfSet 0]{fullShare} f) ∗ ((c : Thread nD τ).loc cc0_scratch0) ↦[halfSet 1]{fullShare} f) from by
    rw [← halves_all]; exact (pointsTo_union halves_disj).1) $$ H
  icases H with ⟨H0, H1⟩
  isplitl [H0]
  · iexists f; iexact H0
  · iexists f; iexact H1
theorem v_split (c : Dev nD) : (sAny c cc0_scratch1 : sProp 𝕄) ⊢ iprop(vAny c 0 ∗ vAny c 1) := by
  unfold sAny vAny
  iintro ⟨%f, H⟩
  ihave H := (show (((c : Thread nD τ).loc cc0_scratch1) ↦[Finset.univ]{fullShare} f : sProp 𝕄)
      ⊢ iprop((((c : Thread nD τ).loc cc0_scratch1) ↦[halfSet 0]{fullShare} f) ∗ ((c : Thread nD τ).loc cc0_scratch1) ↦[halfSet 1]{fullShare} f) from by
    rw [← halves_all]; exact (pointsTo_union halves_disj).1) $$ H
  icases H with ⟨H0, H1⟩
  isplitl [H0]
  · iexists f; iexact H0
  · iexists f; iexact H1
theorem k_join (c : Dev nD) : iprop(kAny c 0 ∗ kAny c 1) ⊢ (sAny c cc0_scratch0 : sProp 𝕄) := by
  unfold sAny kAny
  iintro ⟨⟨%f, H0⟩, %g, H1⟩
  ihave H := (pointsTo_join (ℓ := (c : Thread nD τ).loc cc0_scratch0) halves_disj) $$ [H0 H1]
  · isplitl [H0] <;> iassumption
  rw [halves_all]
  iexists _; iexact H
theorem v_join (c : Dev nD) : iprop(vAny c 0 ∗ vAny c 1) ⊢ (sAny c cc0_scratch1 : sProp 𝕄) := by
  unfold sAny vAny
  iintro ⟨⟨%f, H0⟩, %g, H1⟩
  ihave H := (pointsTo_join (ℓ := (c : Thread nD τ).loc cc0_scratch1) halves_disj) $$ [H0 H1]
  · isplitl [H0] <;> iassumption
  rw [halves_all]
  iexists _; iexact H

theorem slots_all' : (Finset.univ : Finset (Dev nD × Fin 4)).biUnion (fun p => slotSet p.1.val p.2.val) = Finset.univ := by
  ext i
  simp only [Finset.mem_univ, iff_true]
  exact Finset.mem_biUnion.2 ⟨((i 0 : Fin 16), (i 1 : Fin 4)), Finset.mem_univ _, mem_slotSet.2 ⟨rfl, rfl⟩⟩
theorem slots_disj' : ∀ t ∈ (Finset.univ : Finset (Dev nD × Fin 4)), ∀ t' ∈ (Finset.univ : Finset (Dev nD × Fin 4)), t ≠ t' →
    Disjoint (slotSet t.1.val t.2.val) (slotSet t'.1.val t'.2.val) :=
  fun t _ t' _ h => Finset.disjoint_left.2 fun i hi hj =>
    h (Prod.ext (Fin.ext ((mem_slotSet.1 hi).1.symm.trans (mem_slotSet.1 hj).1)) (Fin.ext ((mem_slotSet.1 hi).2.symm.trans (mem_slotSet.1 hj).2)))

theorem dst_image (c : Dev nD) : (Finset.Ico 0 15).image (dst c) = Finset.univ.erase c := by
  ext d
  rw [Finset.mem_image, Finset.mem_erase]
  have hc : c.val < 16 := c.isLt
  have hd : d.val < 16 := d.isLt
  constructor
  · rintro ⟨o, ho, rfl⟩
    have ho := (Finset.mem_Ico.1 ho).2
    refine ⟨fun h => ?_, Finset.mem_univ _⟩
    have h : (c.val + (o % 15 + 1)) % 16 = c.val := congrArg Fin.val h
    omega
  · rintro ⟨h, -⟩
    have h : d.val ≠ c.val := fun e => h (Fin.ext e)
    refine ⟨(d.val + 15 - c.val) % 16, Finset.mem_Ico.2 ⟨Nat.zero_le _, by omega⟩, Fin.ext ?_⟩
    show (c.val + ((d.val + 15 - c.val) % 16 % 15 + 1)) % 16 = d.val
    omega
theorem dst_injOn (c : Dev nD) : Set.InjOn (dst c) (Finset.Ico 0 15 : Finset ℕ) := by
  intro a ha b hb h
  have ha := (Finset.mem_Ico.1 (Finset.mem_coe.1 ha)).2
  have hb := (Finset.mem_Ico.1 (Finset.mem_coe.1 hb)).2
  have h : (c.val + (a % 15 + 1)) % 16 = (c.val + (b % 15 + 1)) % 16 := congrArg Fin.val h
  have hc : c.val < 16 := c.isLt
  omega

/-- The gather buffer in slots: the device's own row, and one row for each of the others. -/
theorem g_split (c : Dev nD) : (sAny c cc0_scratch2 : sProp 𝕄)
    ⊢ iprop((slotAny c c.val 0 ∗ slotAny c c.val 1 ∗ slotAny c c.val 2 ∗ slotAny c c.val 3)
        ∗ bigSep (Finset.Ico 0 15) fun i => bigSep (Finset.range 4) fun ch => slotAny c (dst c i).val ch) := by
  unfold sAny
  iintro ⟨%f, H⟩
  ihave H := (show (((c : Thread nD τ).loc cc0_scratch2) ↦[Finset.univ]{fullShare} f : sProp 𝕄)
      ⊢ bigSep Finset.univ fun d : Dev nD => bigSep Finset.univ fun ch : Fin 4 => slotAny c d.val ch.val from by
    rw [← slots_all', pointsTo_biUnion (ℓ := (c : Thread nD τ).loc cc0_scratch2) _ _ slots_disj', bigSep_univ_prod]
    refine bigSep_mono fun d _ => bigSep_mono fun ch _ => ?_
    show (gLoc c ↦[slotSet d.val ch.val]{fullShare} f : sProp 𝕄) ⊢ iprop(∃ f : Buf (Elt F) (gLoc c), gLoc c ↦[slotSet d.val ch.val]{fullShare} f)
    iintro H; iexists f; iexact H) $$ H
  ihave H := (Entails.of_eq (bigSep_erase (Finset.mem_univ c) (Φ := fun d : Dev nD => bigSep Finset.univ fun ch : Fin 4 => (slotAny c d.val ch.val : sProp 𝕄)))) $$ H
  ihave H := (show iprop((bigSep Finset.univ fun ch : Fin 4 => (slotAny c c.val ch.val : sProp 𝕄))
        ∗ bigSep (Finset.univ.erase c) fun d : Dev nD => bigSep Finset.univ fun ch : Fin 4 => slotAny c d.val ch.val) ⊢ _ from
    BIClass.sep_mono (Entails.of_eq (bigSep_fin4 (fun ch => slotAny c c.val ch))) (Entails.of_eq (show _
        = bigSep (Finset.Ico 0 15) fun i => bigSep (Finset.range 4) fun ch => (slotAny c (dst c i).val ch : sProp 𝕄) from by
      rw [← dst_image, bigSep_image_of_injOn (dst_injOn c)]
      refine bigSep_congr fun i _ => ?_
      rw [← range4_map, bigSep_map]; rfl))) $$ H
  iexact H

/-! ## What the body is given and gives back -/

/-- The duties a device pays: its signals, its copies' two ends, its own streams. -/
def toks (c : Dev nD) : sProp 𝕄 :=
  iprop((bigSep (Finset.Ico 0 15) fun i => dutyTok ER (bar (dst c i)) 0 (bd i))
    ∗ (bigSep (Finset.Ico 0 60) fun i => iprop(dutyTok ER (snd c i) 0 0 ∗ dutyTok ER (rcv (dst c i) i) 0 0))
    ∗ bigSep (Finset.range 4) fun n => iprop(dutyTok ER (kv c n) 0 0 ∗ dutyTok ER (kv c n) 1 0))
/-- The credit it waits with on what others bring. -/
def creds (c : Dev nD) : sProp 𝕄 := iprop(cred (tallyAt (bar c) () 15) ∗ bigSep (Finset.range 60) fun i => cred (tallyAt (rcv c i) () N))

def scCell (c : Dev nD) (k : Fin 124) : GSem nD τ sig := ((c : Thread nD τ), .dma (scS k.val))

def openedAt (c : Dev nD) : sProp 𝕄 :=
  bigSep Finset.univ fun k : Fin 124 => iprop(atPos ER (scCell c k) 0 ∅ 0 ∗ reached ER (scCell c k) 0)

/-- The buffers the body works in. -/
def wkBufs (c : Dev nD) : sProp 𝕄 :=
  iprop((sAny c cc0_scratch0 ∗ sAny c cc0_scratch1 ∗ sAny c cc0_scratch2)
    ∗ (((c : Thread nD τ).loc main_v2) ↦[Finset.univ]{fullShare} (V m c main_v2)) ∗ ((c : Thread nD τ).loc main_v3) ↦[Finset.univ]{fullShare} (V m c main_v3))

def gIn (c : Dev nD) : sProp 𝕄 := iprop(toks c ∗ creds c ∗ atPos ER (bar c) 0 ∅ 0 ∗ openedAt c ∗ wkBufs m c)
def gOut (c : Dev nD) : sProp 𝕄 :=
  iprop(semVal (bar c) 0 ∗ (bigSep Finset.univ fun k : Fin 124 => semVal (scCell c k) 0) ∗ wkBufs m c)

theorem openedAt_eq (c : Dev nD) : (openedAt c : sProp 𝕄)
    = iprop((bigSep (Finset.range 4) fun n => iprop(atPos ER (kv c n) 0 ∅ 0 ∗ reached ER (kv c n) 0))
        ∗ (bigSep (Finset.range 60) fun n => iprop(atPos ER (snd c n) 0 ∅ 0 ∗ reached ER (snd c n) 0))
        ∗ bigSep (Finset.range 60) fun n => iprop(atPos ER (rcv c n) 0 ∅ 0 ∗ reached ER (rcv c n) 0)) :=
  bigSep_sc (fun s => iprop(atPos ER ((c : Thread nD τ), SemLoc.dma s) 0 ∅ 0 ∗ reached ER ((c : Thread nD τ), SemLoc.dma s) 0))

/-- The rows a device gives to its barrier signals. -/
theorem barPays (c : Dev nD) :
    iprop((bigSep (Finset.Ico 0 15) fun i => bigSep (Finset.range 4) fun ch => slotAny c (dst c i).val ch)
        ∗ bigSep (Finset.range 60) fun n => reached ER (rcv c n) 0)
      ⊢ (bigSep (Finset.Ico 0 15) fun i => barPay (dst c i) (bd i).val : sProp 𝕄) := by
  have h : ∀ i ∈ Finset.Ico 0 15, iprop((bigSep (Finset.range 60) fun n => reached ER (rcv c n) 0) ∗ bigSep (Finset.range 4) fun ch => slotAny c (dst c i).val ch)
      ⊢ (barPay (dst c i) (bd i).val : sProp 𝕄) := fun i _ => by
    unfold barPay
    rw [dst_bd]
    refine bigSep_with_persistent fun ch hc => ?_
    have hc := Finset.mem_range.1 hc
    iintro ⟨#HR, H⟩
    isplitl [H]; · iexact H
    iapply (elim_at (i := 15 * ch + (bd i).val) (Finset.mem_range.2 (by have := (bd i).isLt; omega)) (Φ := fun n => reached ER (rcv c n) 0)) $$ HR
  iintro ⟨H, #HR⟩
  iapply (bigSep_with_persistent h)
  isplitr; · iexact HR
  iexact H

/-- Everything the run starts from. -/
theorem run_start (c : Dev nD) :
    iprop(gIn m c ∗ owesX c (O₀ c))
      ⊢ iprop(bSt c 0 ∗ sendToks c ∗ (cred (tallyAt (bar c) () 15) : sProp 𝕄) ∗ atPos ER (bar c) 0 ∅ 0
        ∗ kC m c 0 ∗ kC m c 1 ∗ vC m c 0 ∗ vC m c 1 ∗ kRest m c 2 ∗ kRest m c 3 ∗ vRest m c 2 ∗ vRest m c 3
        ∗ compSt m c 0 0 ∗ compSt m c 1 0 ∗ compSt m c 2 0 ∗ compSt m c 3 0 ∗ wsAt c ∗ wrAt c) := by
  unfold gIn toks creds wkBufs
  rw [openedAt_eq, bigSep_four, bigSep_four, k_chunks, v_chunks]
  iintro ⟨⟨⟨Htb, Hts, ⟨Hk0, Hk0'⟩, ⟨Hk1, Hk1'⟩, ⟨Hv0, Hv0'⟩, Hv1, Hv1'⟩, ⟨Hcb, Hcr⟩, Hab, ⟨⟨⟨Ha0, Hr0⟩, ⟨Ha1, Hr1⟩, ⟨Ha2, Hr2⟩, Ha3, Hr3⟩, Hss, Hrr⟩,
    ⟨HkB, HvB, HgB⟩, ⟨Hks0, Hks1, Hks2, Hks3⟩, Hvs0, Hvs1, Hvs2, Hvs3⟩, HO⟩
  ihave HkB := (k_split c) $$ HkB
  icases HkB with ⟨HkB0, HkB1⟩
  ihave HvB := (v_split c) $$ HvB
  icases HvB with ⟨HvB0, HvB1⟩
  ihave HgB := (g_split c) $$ HgB
  icases HgB with ⟨⟨Hg0, Hg1, Hg2, Hg3⟩, HgB⟩
  ihave Hss := (Entails.of_eq (bigSep_sep' (Finset.range 60) (fun n => (atPos ER (snd c n) 0 ∅ 0 : sProp 𝕄)) (fun n => reached ER (snd c n) 0))) $$ Hss
  ihave Hrr := (Entails.of_eq (bigSep_sep' (Finset.range 60) (fun n => (atPos ER (rcv c n) 0 ∅ 0 : sProp 𝕄)) (fun n => reached ER (rcv c n) 0))) $$ Hrr
  icases Hss with ⟨Hsa, Hsr⟩
  icases Hrr with ⟨Hra, #Hrr⟩
  isplitl [HO Htb HgB]
  · unfold bSt
    isplitl [HO]; · iexact HO
    rw [bigSep_sep' (Finset.Ico 0 15) (fun i => (dutyTok ER (bar (dst c i)) 0 (bd i) : sProp 𝕄))]
    isplitl [Htb]; · iexact Htb
    iapply (barPays c)
    isplitl [HgB]; · iexact HgB
    iexact Hrr
  isplitl [Hts Hsr]
  · unfold sendToks
    ihave H := (show iprop((bigSep (Finset.Ico 0 60) fun i => iprop(dutyTok ER (snd c i) 0 0 ∗ dutyTok ER (rcv (dst c i) i) 0 0))
        ∗ bigSep (Finset.Ico 0 60) fun i => reached ER (snd c i) 0)
        ⊢ (bigSep (Finset.Ico 0 60) fun i => iprop(dutyTok ER (snd c i) 0 0 ∗ dutyTok ER (rcv (dst c i) i) 0 0 ∗ reached ER (snd c i) 0) : sProp 𝕄) from by
      rw [← bigSep_sep']
      refine bigSep_mono fun i _ => ?_
      show iprop((dutyTok ER (snd c i) 0 0 ∗ dutyTok ER (rcv (dst c i) i) 0 0) ∗ reached ER (snd c i) 0)
        ⊢ (iprop(dutyTok ER (snd c i) 0 0 ∗ dutyTok ER (rcv (dst c i) i) 0 0 ∗ reached ER (snd c i) 0) : sProp 𝕄)
      iintro ⟨⟨H1, H2⟩, H3⟩
      isplitl [H1]; · iexact H1
      isplitl [H2] <;> iassumption) $$ [Hts Hsr]
    · isplitl [Hts]; · iexact Hts
      rw [ico0]; iexact Hsr
    iexact H
  isplitl [Hcb]; · iexact Hcb
  isplitl [Hab]; · iexact Hab
  isplitl [HkB0 Hks0 Hk0 Hr0 Ha0]
  · rw [show kC m c 0 = iprop((kAny c 0 ∗ kSrc m c 0 ∗ dutyTok ER (kv c 0) 0 0 ∗ reached ER (kv c 0) 0) ∗ atPos ER (kv c 0) 0 ∅ 0) from rfl]
    isplitr [Ha0]
    · isplitl [HkB0]; · iexact HkB0
      isplitl [Hks0]; · iexact Hks0
      isplitl [Hk0] <;> iassumption
    iexact Ha0
  isplitl [HkB1 Hks1 Hk1 Hr1 Ha1]
  · rw [show kC m c 1 = iprop((kAny c 1 ∗ kSrc m c 1 ∗ dutyTok ER (kv c 1) 0 0 ∗ reached ER (kv c 1) 0) ∗ atPos ER (kv c 1) 0 ∅ 0) from rfl]
    isplitr [Ha1]
    · isplitl [HkB1]; · iexact HkB1
      isplitl [Hks1]; · iexact Hks1
      isplitl [Hk1] <;> iassumption
    iexact Ha1
  isplitl [HvB0 Hvs0 Hv0 Hr2 Ha2]
  · rw [show vC m c 0 = iprop((vAny c 0 ∗ vSrc m c 0 ∗ dutyTok ER (kv c 2) 0 0 ∗ reached ER (kv c 2) 0) ∗ atPos ER (kv c 2) 0 ∅ 0) from rfl]
    isplitr [Ha2]
    · isplitl [HvB0]; · iexact HvB0
      isplitl [Hvs0]; · iexact Hvs0
      isplitl [Hv0] <;> iassumption
    iexact Ha2
  isplitl [HvB1 Hvs1 Hv1 Hr3 Ha3]
  · rw [show vC m c 1 = iprop((vAny c 1 ∗ vSrc m c 1 ∗ dutyTok ER (kv c 3) 0 0 ∗ reached ER (kv c 3) 0) ∗ atPos ER (kv c 3) 0 ∅ 0) from rfl]
    isplitr [Ha3]
    · isplitl [HvB1]; · iexact HvB1
      isplitl [Hvs1]; · iexact Hvs1
      isplitl [Hv1] <;> iassumption
    iexact Ha3
  isplitl [Hks2 Hk0']
  · rw [show kRest m c 2 = iprop(kSrc m c 2 ∗ dutyTok ER (kv c 0) 1 0) from rfl]
    isplitl [Hks2] <;> iassumption
  isplitl [Hks3 Hk1']
  · rw [show kRest m c 3 = iprop(kSrc m c 3 ∗ dutyTok ER (kv c 1) 1 0) from rfl]
    isplitl [Hks3] <;> iassumption
  isplitl [Hvs2 Hv0']
  · rw [show vRest m c 2 = iprop(vSrc m c 2 ∗ dutyTok ER (kv c 2) 1 0) from rfl]
    isplitl [Hvs2] <;> iassumption
  isplitl [Hvs3 Hv1']
  · rw [show vRest m c 3 = iprop(vSrc m c 3 ∗ dutyTok ER (kv c 3) 1 0) from rfl]
    isplitl [Hvs3] <;> iassumption
  isplitl [Hg0]; · iapply (compSt_start m c 0); iexact Hg0
  isplitl [Hg1]; · iapply (compSt_start m c 1); iexact Hg1
  isplitl [Hg2]; · iapply (compSt_start m c 2); iexact Hg2
  isplitl [Hg3]; · iapply (compSt_start m c 3); iexact Hg3
  isplitl [Hsa]; · unfold wsAt; iexact Hsa
  unfold wrAt
  rw [bigSep_sep' (Finset.range 60) (fun i => (cred (tallyAt (rcv c i) () N) : sProp 𝕄))]
  isplitl [Hcr] <;> iassumption

/-! ## The cells closed -/

theorem close1 (K : GSem nD τ sig → ℕ) (c : Dev nD) : iprop(recs m K ∗ atPos ER (bar c) 1 ∅ 0) ⊢ (|={Set.univ}=> semVal (bar c) 0 : sProp 𝕄) := by
  iintro ⟨#HR, H⟩
  iapply (Rounds.cell_close ER (Rd m) (Set.mem_univ (K (bar c))) id (duties_later1 m (bar c) (fun n h => by cases h)))
  isplitr; · iapply (recs_inv m K (bar_mem c)); iexact HR
  iexact H

theorem close_kv (K : GSem nD τ sig → ℕ) (c : Dev nD) {n : ℕ} (h : n < 4) :
    iprop(recs m K ∗ atPos ER (kv c n) 2 ∅ 0) ⊢ (|={Set.univ}=> semVal (kv c n) 0 : sProp 𝕄) := by
  iintro ⟨#HR, H⟩
  iapply (Rounds.cell_close ER (Rd m) (Set.mem_univ (K (kv c n))) id (duties_later2 m (kv c n)))
  isplitr; · iapply (recs_inv m K (kv_mem c h)); iexact HR
  iexact H

theorem close_fam (K : GSem nD τ sig → ℕ) (g : ℕ → GSem nD τ sig) (hg : ∀ n < 60, g n ∈ (barCells ∪ scCells : Finset (GSem nD τ sig)))
    (hk : ∀ n < 60, ∀ n', kindOf (g n).2 ≠ .kv n') :
    iprop(recs m K ∗ bigSep (Finset.range 60) fun n => atPos ER (g n) 1 ∅ 0) ⊢ (|={Set.univ}=> bigSep (Finset.range 60) fun n => semVal (g n) 0 : sProp 𝕄) := by
  refine BIBase.Entails.trans ?_ (Rounds.cells_close ER (Rd m) (Finset.range 60) g (fun n => K (g n)) (fun _ _ => Set.mem_univ _) (fun _ _ => id) (fun _ => 1)
    (fun n hn => duties_later1 m (g n) (hk n (Finset.mem_range.1 hn))))
  refine bigSep_with_persistent fun n hn => ?_
  iintro ⟨#HR, H⟩
  isplitr; · iapply (recs_inv m K (hg n (Finset.mem_range.1 hn))); iexact HR
  iexact H

/-! ## The run -/

theorem out_eq {f : Vec F S16x4x16x128 .f32} (hf : ∀ i, (i 3).val < 66 → f i = G m i) : cOut f = cOut (G m) := cOut_congr f (G m) hf

theorem run_end (K : GSem nD τ sig → ℕ) (c : Dev nD) :
    iprop(recs m K ∗ atPos ER (bar c) 1 ∅ 0 ∗ kB' m c 2 ∗ kB' m c 3 ∗ vB' m c 2 ∗ vB' m c 3 ∗ kSrc m c 0 ∗ vSrc m c 0 ∗ kSrc m c 1 ∗ vSrc m c 1 ∗ endSt m c)
      ⊢ (|={Set.univ}=> (gOut m c ∗ owesX c 0 ∗ outPts c (k0_pay1 (cOut (G m)))) : sProp 𝕄) := by
  unfold endSt gOut wkBufs wrDone wsLeft
  rw [k_chunks, v_chunks,
    show kB' m c 2 = iprop((kFull m c 2 ∗ kSrc m c 2) ∗ atPos ER (kv c 0) 2 ∅ 0 ∗ reached ER (kv c 0) 2) from rfl,
    show kB' m c 3 = iprop((kFull m c 3 ∗ kSrc m c 3) ∗ atPos ER (kv c 1) 2 ∅ 0 ∗ reached ER (kv c 1) 2) from rfl,
    show vB' m c 2 = iprop((vFull m c 2 ∗ vSrc m c 2) ∗ atPos ER (kv c 2) 2 ∅ 0 ∗ reached ER (kv c 2) 2) from rfl,
    show vB' m c 3 = iprop((vFull m c 3 ∗ vSrc m c 3) ∗ atPos ER (kv c 3) 2 ∅ 0 ∗ reached ER (kv c 3) 2) from rfl]
  iintro ⟨#HR, Hb, ⟨⟨Hk2, Hks2⟩, Ha0, -⟩, ⟨⟨Hk3, Hks3⟩, Ha1, -⟩, ⟨⟨Hv2, Hvs2⟩, Ha2, -⟩, ⟨⟨Hv3, Hvs3⟩, Ha3, -⟩, Hks0, Hvs0, Hks1, Hvs1,
    ⟨HO, Hra, Hsa⟩, %f, %hf, Hg, Hout⟩
  imod (close1 m K c) $$ [Hb] with Hb
  · isplitr; · iexact HR
    iexact Hb
  imod (close_kv m K c (n := 0) (by decide)) $$ [Ha0] with Ha0
  · isplitr; · iexact HR
    iexact Ha0
  imod (close_kv m K c (n := 1) (by decide)) $$ [Ha1] with Ha1
  · isplitr; · iexact HR
    iexact Ha1
  imod (close_kv m K c (n := 2) (by decide)) $$ [Ha2] with Ha2
  · isplitr; · iexact HR
    iexact Ha2
  imod (close_kv m K c (n := 3) (by decide)) $$ [Ha3] with Ha3
  · isplitr; · iexact HR
    iexact Ha3
  imod (close_fam m K (snd c) (fun n h => snd_mem c h) (fun n h n' e => by rw [kindOf_snd h] at e; cases e)) $$ [Hsa] with Hsa
  · isplitr; · iexact HR
    iexact Hsa
  imod (close_fam m K (rcv c) (fun n h => rcv_mem c h) (fun n h n' e => by rw [kindOf_rcv h] at e; cases e)) $$ [Hra] with Hra
  · isplitr; · iexact HR
    iexact Hra
  imodintro
  isplitr [HO Hout]
  · isplitl [Hb]; · iexact Hb
    isplitl [Ha0 Ha1 Ha2 Ha3 Hsa Hra]
    · rw [show (bigSep Finset.univ fun k : Fin 124 => (semVal (scCell c k) 0 : sProp 𝕄)) = _ from bigSep_sc (fun s => semVal ((c : Thread nD τ), SemLoc.dma s) 0), bigSep_four]
      isplitl [Ha0 Ha1 Ha2 Ha3]
      · isplitl [Ha0]; · iexact Ha0
        isplitl [Ha1]; · iexact Ha1
        isplitl [Ha2] <;> iassumption
      isplitl [Hsa] <;> iassumption
    isplitl [Hk2 Hk3 Hv2 Hv3 Hg]
    · isplitl [Hk2 Hk3]
      · iapply (k_join c)
        isplitl [Hk2]
        · iapply (kFull_any m c 2); iexact Hk2
        · iapply (kFull_any m c 3); iexact Hk3
      isplitl [Hv2 Hv3]
      · iapply (v_join c)
        isplitl [Hv2]
        · iapply (vFull_any m c 2); iexact Hv2
        · iapply (vFull_any m c 3); iexact Hv3
      · unfold sAny gPts; iexists f; iexact Hg
    isplitl [Hks0 Hks1 Hks2 Hks3]
    · isplitl [Hks0]; · iexact Hks0
      isplitl [Hks1]; · iexact Hks1
      isplitl [Hks2] <;> iassumption
    · isplitl [Hvs0]; · iexact Hvs0
      isplitl [Hvs1]; · iexact Hvs1
      isplitl [Hvs2] <;> iassumption
  isplitl [HO]; · iexact HO
  rw [← out_eq m hf]
  iexact Hout

/-- THE BODY, at a symbolic device. -/
theorem run (K : GSem nD τ sig → ℕ) (c : Dev nD) {Q : PUnit → sProp 𝕄} :
    iprop(recs m K ∗ gIn m c ∗ owesX c (O₀ c) ∗ qPts m c ∗ ∃ f, outPts c f)
      ⊢ iprop(((gOut m c ∗ owesX c 0 ∗ qPts m c ∗ outPts c (k0_pay1 (cOut (G m)))) -∗ Q ⟨⟩)
        -∗ wp frame (wpE (defs₀ (F := F)) 𝒱₀ (c : Thread nD τ) none) Set.univ (cc0_body (F := F) qM (Memref.isWhole_whole _) kH (Memref.isWhole_whole _) vH (Memref.isWhole_whole _) oM (Memref.isWhole_whole _) kB (Memref.isWhole_whole _) vB (Memref.isWhole_whole _) gB (Memref.isWhole_whole _) cc0_scratch3 cc0_scratch4 cc0_scratch5 cc0_scratch6) Q) := by
  rw [cc0_body_eq_skeleton]
  unfold cc0_body_skel
  iintro ⟨#HR, Hin, HO, Hq, Hout⟩ Hk
  ihave H := (run_start m c) $$ [Hin HO]
  · isplitl [Hin] <;> iassumption
  icases H with ⟨HB, HT, HBC, HBA, HK0, HK1, HV0, HV1, HKR2, HKR3, HVR2, HVR3, HC0, HC1, HC2, HC3, HWS, HWR⟩
  rw [wp_bind]
  iapply (part88 m K c) $$ [HB HT HBC HBA HK0 HK1 HV0 HV1 HKR2 HKR3 HVR2 HVR3 Hq HC0 HC1 HC2 HC3 HWS HWR]
  · isplitr; · iexact HR
    isplitl [HB]; · iexact HB
    isplitl [HT]; · iexact HT
    isplitl [HBC]; · iexact HBC
    isplitl [HBA]; · iexact HBA
    isplitl [HK0]; · iexact HK0
    isplitl [HK1]; · iexact HK1
    isplitl [HV0]; · iexact HV0
    isplitl [HV1]; · iexact HV1
    isplitl [HKR2]; · iexact HKR2
    isplitl [HKR3]; · iexact HKR3
    isplitl [HVR2]; · iexact HVR2
    isplitl [HVR3]; · iexact HVR3
    isplitl [Hq]; · iexact Hq
    isplitl [HC0]; · iexact HC0
    isplitl [HC1]; · iexact HC1
    isplitl [HC2]; · iexact HC2
    isplitl [HC3]; · iexact HC3
    isplitl [HWS]; · iexact HWS
    iexact HWR
  iintro %w1 %w2 %w3 %w4 %w5 %w6 %w7 %w8 %w9 %w10 %w11 %w12 %w13 %w14 %w15 %w16 %w17 %w18 %w19 %w20 %w21 %w22 %w23 %w24 %w25 %w26 %w27 %w28 %w29 %w30 %w31 %w32 %w33 %w34 %w35 %w36 %w37 %w38 %w39 %w40 %w41 %w42 %w43 %w44 %w45 %w46 %w47 %w48 %w49 %w50 %w51 %w52 %w53 %w54 %w55 %w56 %w57 %w58 %w59 %w60 H
  icases H with ⟨Hb, HK2, HK3, HV2, HV3, Hq, HS0, HS1, HS2, HS3, HWS, HWR, Hks0, Hvs0, Hks1, Hvs1⟩
  dsimp only
  iapply wp_fupd
  iapply (tail m K c w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 w60) $$ [HWS HWR HS0 HS1 HS2 HS3 Hout]
  · isplitr; · iexact HR
    isplitl [HWS]; · iexact HWS
    isplitl [HWR]; · iexact HWR
    isplitl [HS0]; · iexact HS0
    isplitl [HS1]; · iexact HS1
    isplitl [HS2]; · iexact HS2
    isplitl [HS3]; · iexact HS3
    iexact Hout
  iintro He
  imod (run_end m K c) $$ [Hb HK2 HK3 HV2 HV3 Hks0 Hvs0 Hks1 Hvs1 He] with ⟨Hg, HO, Hout⟩
  · isplitr; · iexact HR
    isplitl [Hb]; · iexact Hb
    isplitl [HK2]; · iexact HK2
    isplitl [HK3]; · iexact HK3
    isplitl [HV2]; · iexact HV2
    isplitl [HV3]; · iexact HV3
    isplitl [Hks0]; · iexact Hks0
    isplitl [Hvs0]; · iexact Hvs0
    isplitl [Hks1]; · iexact Hks1
    isplitl [Hvs1]; · iexact Hvs1
    iexact He
  imodintro
  iapply Hk
  isplitl [Hg]; · iexact Hg
  isplitl [HO]; · iexact HO
  isplitl [Hq] <;> iassumption

end Cert.KernelIdeal.Talk
-- ==== Proof.Tokens.lean ====
/-
What the launch mints and how it is dealt: the duty tokens of every cell, each handed to the device that pays the
duty, and the launch credits of the barrier and receive cells.
-/
module

public import proofs.«01_k».proof.Proof.Run

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ)

/-! ## The tokens -/

/-- The duties of one device's cells. -/
abbrev Tix : Type := Fin 15 ⊕ (Fin 60 ⊕ (Fin 60 ⊕ (Fin 4 × Fin 2)))
def tsem : Tix → SemLoc sig × ℕ × Fin 15
  | .inl o => (.reg barrier0, 0, o)
  | .inr (.inl i) => (.dma (sndS i.val), 0, 0)
  | .inr (.inr (.inl i)) => (.dma (rcvS i.val), 0, 0)
  | .inr (.inr (.inr p)) => (.dma (kvS p.1.val), p.2.val, 0)
theorem tsem_inj : Function.Injective tsem := by decide +kernel
def tokEmb : Dev nD × Tix ↪ GSem nD τ sig × ℕ × Fin 15 :=
  ⟨fun x => (((x.1 : Thread nD τ), (tsem x.2).1), (tsem x.2).2.1, (tsem x.2).2.2), fun _ _ h =>
    Prod.ext (congrArg (fun t : GSem nD τ sig × ℕ × Fin 15 => t.1.1.1) h)
      (tsem_inj (Prod.ext (congrArg (fun t : GSem nD τ sig × ℕ × Fin 15 => t.1.2) h)
        (Prod.ext (congrArg (fun t : GSem nD τ sig × ℕ × Fin 15 => t.2.1) h) (congrArg (fun t : GSem nD τ sig × ℕ × Fin 15 => t.2.2) h))))⟩
def allToks : Finset (GSem nD τ sig × ℕ × Fin 15) := Finset.univ.map tokEmb

theorem bigSep_ico (n : ℕ) (A : ℕ → sProp 𝕄) : bigSep (Finset.Ico 0 n) A = bigSep Finset.univ fun i : Fin n => A i.val := by
  rw [show (Finset.Ico 0 n) = (Finset.univ.map (Fin.valEmbedding (n := n)) : Finset ℕ) from by
    ext x; simp only [Finset.mem_Ico, Finset.mem_map, Finset.mem_univ, true_and, Fin.valEmbedding_apply]
    exact ⟨fun h => ⟨⟨x, h.2⟩, rfl⟩, fun ⟨i, hi⟩ => ⟨Nat.zero_le _, hi ▸ i.isLt⟩⟩, bigSep_map]
  rfl
theorem bigSep_range (n : ℕ) (A : ℕ → sProp 𝕄) : bigSep (Finset.range n) A = bigSep Finset.univ fun i : Fin n => A i.val := by
  rw [Finset.range_eq_Ico]; exact bigSep_ico n A

/-- The tokens as minted, cell by cell of one device. -/
def ownToks (c : Dev nD) : sProp 𝕄 :=
  iprop((bigSep Finset.univ fun o : Fin 15 => dutyTok ER (bar c) 0 o)
    ∗ (bigSep Finset.univ fun i : Fin 60 => dutyTok ER (snd c i.val) 0 0)
    ∗ (bigSep Finset.univ fun i : Fin 60 => dutyTok ER (rcv c i.val) 0 0)
    ∗ bigSep Finset.univ fun n : Fin 4 => iprop(dutyTok ER (kv c n.val) 0 0 ∗ dutyTok ER (kv c n.val) 1 0))

theorem allToks_eq : bigSep allToks (fun x => (dutyTok ER x.1 x.2.1 x.2.2 : sProp 𝕄)) = bigSep Finset.univ fun c : Dev nD => ownToks c := by
  unfold allToks
  rw [bigSep_map, bigSep_univ_prod]
  refine bigSep_congr fun c _ => ?_
  unfold ownToks
  rw [bigSep_univ_sum, bigSep_univ_sum, bigSep_univ_sum, bigSep_univ_prod]
  refine congrArg₂ _ rfl (congrArg₂ _ rfl (congrArg₂ _ rfl (bigSep_congr fun n _ => ?_)))
  exact BI.bigSep_fin_two _

def shift (n : ℕ) : Dev nD ≃ Dev nD := ⟨fun c => dst c n, fun c => src c n, fun c => src_dst c n, fun c => dst_src c n⟩

/-- A family over the devices and the offsets, each member read at the device its offset leads to. -/
theorem around {n : ℕ} (A : Dev nD → Fin n → sProp 𝕄) :
    (bigSep Finset.univ fun c : Dev nD => bigSep Finset.univ fun i : Fin n => A c i)
      = bigSep Finset.univ fun c : Dev nD => bigSep Finset.univ fun i : Fin n => A (dst c i.val) i := by
  rw [BI.bigSep_univ_comm, BI.bigSep_univ_comm (fun (c : Dev nD) (i : Fin n) => A (dst c i.val) i)]
  exact bigSep_congr fun i _ => bigSep_univ_equiv (shift i.val) fun c => A c i

theorem bd_rev (i : Fin 15) : bd i.val = Fin.revPerm i := by revert i; decide

theorem bar_around :
    (bigSep Finset.univ fun c : Dev nD => bigSep Finset.univ fun o : Fin 15 => (dutyTok ER (bar c) 0 o : sProp 𝕄))
      = bigSep Finset.univ fun c : Dev nD => bigSep Finset.univ fun i : Fin 15 => dutyTok ER (bar (dst c i.val)) 0 (bd i.val) := by
  rw [bigSep_congr (s := Finset.univ) (Ψ := fun c : Dev nD => bigSep Finset.univ fun i : Fin 15 => (dutyTok ER (bar c) 0 (bd i.val) : sProp 𝕄))
    fun c _ => (bigSep_univ_equiv Fin.revPerm fun o : Fin 15 => (dutyTok ER (bar c) 0 o : sProp 𝕄)).trans
      (bigSep_congr fun i _ => by rw [bd_rev])]
  exact around fun c i => dutyTok ER (bar c) 0 (bd i.val)

theorem toks_around : (bigSep Finset.univ fun c : Dev nD => (ownToks c : sProp 𝕄)) = bigSep Finset.univ fun c : Dev nD => toks c := by
  unfold ownToks toks
  rw [bigSep_sep', bigSep_sep', bigSep_sep', bar_around, around fun (c : Dev nD) (i : Fin 60) => (dutyTok ER (rcv c i.val) 0 0 : sProp 𝕄),
    bigSep_sep', bigSep_sep']
  refine congrArg₂ _ (bigSep_congr fun c _ => (bigSep_ico (F := F) 15 fun i => dutyTok ER (bar (dst c i)) 0 (bd i)).symm) ?_
  rw [show (bigSep Finset.univ fun c : Dev nD => bigSep (Finset.Ico 0 60) fun i => (iprop(dutyTok ER (snd c i) 0 0 ∗ dutyTok ER (rcv (dst c i) i) 0 0) : sProp 𝕄))
      = iprop((bigSep Finset.univ fun c : Dev nD => bigSep Finset.univ fun i : Fin 60 => dutyTok ER (snd c i.val) 0 0)
        ∗ bigSep Finset.univ fun c : Dev nD => bigSep Finset.univ fun i : Fin 60 => dutyTok ER (rcv (dst c i.val) i.val) 0 0) from by
    rw [← bigSep_sep']
    exact bigSep_congr fun c _ => by rw [bigSep_ico, bigSep_sep']]
  rw [show (bigSep Finset.univ fun c : Dev nD => bigSep (Finset.range 4) fun n => (iprop(dutyTok ER (kv c n) 0 0 ∗ dutyTok ER (kv c n) 1 0) : sProp 𝕄))
      = bigSep Finset.univ fun c : Dev nD => bigSep Finset.univ fun n : Fin 4 => iprop(dutyTok ER (kv c n.val) 0 0 ∗ dutyTok ER (kv c n.val) 1 0) from
    bigSep_congr fun c _ => bigSep_range 4 _]
  exact (BI.equiv_iff.mp ⟨BI.sep_assoc, by
    show iprop(_ ∗ _ ∗ _) ⊢ (iprop((_ ∗ _) ∗ _) : sProp 𝕄)
    iintro ⟨A, B, C⟩
    isplitl [A B]
    · isplitl [A] <;> iassumption
    · iexact C⟩).symm

/-! ## The launch credits -/

theorem rcv_inj : Function.Injective (fun i : Fin 60 => (SemLoc.dma (rcvS i.val) : SemLoc sig)) := by decide +kernel
theorem rcv_ne_bar (i : ℕ) : (SemLoc.dma (rcvS i) : SemLoc sig) ≠ .reg barrier0 := fun h => by cases h

theorem dst_eq_iff (d c : Dev nD) (i : ℕ) : c = dst d i ↔ d = src c i :=
  ⟨fun h => by rw [h, src_dst], fun h => by rw [h, dst_src]⟩

theorem owed_bar (d c : Dev nD) : O₀ d (bar c) () = ∑ i ∈ Finset.Ico 0 15, if d = src c i then 1 else 0 := by
  unfold O₀ owedS owedB
  rw [Pi.add_apply, Finsupp.add_apply, Finset.sum_apply, Finset.sum_apply, Finsupp.finset_sum_apply, Finsupp.finset_sum_apply,
    Finset.sum_eq_zero fun i _ => by rw [tallyAt_ne_cell (fun h => rcv_ne_bar i (congrArg Prod.snd h).symm)]; rfl, Nat.zero_add]
  refine Finset.sum_congr rfl fun i _ => ?_
  rw [tallyAt_apply]
  by_cases h : d = src c i
  · rw [if_pos h, if_pos ⟨by rw [(dst_eq_iff d c i).mpr h], rfl⟩]
  · rw [if_neg h, if_neg fun ⟨h1, _⟩ => h ((dst_eq_iff d c i).mp (bar_inj h1))]

theorem owed_rcv (d c : Dev nD) (j : Fin 60) : O₀ d (rcv c j.val) () = if d = src c j.val then N else 0 := by
  unfold O₀ owedS owedB
  rw [Pi.add_apply, Finsupp.add_apply, Finset.sum_apply, Finset.sum_apply, Finsupp.finset_sum_apply, Finsupp.finset_sum_apply]
  rw [show (∑ i ∈ Finset.Ico 0 15, (tallyAt (bar (dst d i)) () 1 : CellTallies nD τ sig Unit) (rcv c j.val) ()) = 0 from
    Finset.sum_eq_zero fun i _ => by rw [tallyAt_ne_cell (fun h => rcv_ne_bar j.val (congrArg Prod.snd h))]; rfl, Nat.add_zero]
  refine (Finset.sum_eq_single_of_mem j.val (Finset.mem_Ico.mpr ⟨Nat.zero_le _, j.isLt⟩) fun i hi hne => ?_).trans ?_
  rotate_left
  · rw [tallyAt_apply]
    by_cases h : d = src c j.val
    · rw [if_pos h, if_pos ⟨by rw [← (dst_eq_iff d c j.val).mpr h], rfl⟩]
    · rw [if_neg h, if_neg fun ⟨h1, _⟩ => h ((dst_eq_iff d c j.val).mp (congrArg (fun g : GSem nD τ sig => g.1.1) h1))]
  · have hn : ¬(rcv c j.val = rcv (dst d i) i ∧ () = ()) := fun ⟨h1, _⟩ => by
      have := @rcv_inj j ⟨i, (Finset.mem_Ico.mp hi).2⟩ (congrArg Prod.snd h1)
      exact hne (congrArg Fin.val this).symm
    rw [tallyAt_apply, if_neg hn]

theorem launch_bar (c : Dev nD) :
    tallyOn (bar c) (launchCredit (Pipeline.owing O₀) 0 (bar c)) = (tallyAt (bar c) () 15 : CellTallies nD τ sig Unit) := by
  unfold tallyAt
  refine congrArg _ (Finsupp.ext fun u => ?_); cases u
  rw [Pipeline.launchCredit_owing, Finsupp.single_eq_same, Finset.sum_congr rfl fun d _ => owed_bar d c, Finset.sum_comm,
    Finset.sum_congr rfl fun i _ => by rw [Finset.sum_ite_eq' Finset.univ (src c i) fun _ => 1, if_pos (Finset.mem_univ _)]]
  rfl

theorem launch_rcv (c : Dev nD) (j : Fin 60) :
    tallyOn (rcv c j.val) (launchCredit (Pipeline.owing O₀) 0 (rcv c j.val)) = (tallyAt (rcv c j.val) () N : CellTallies nD τ sig Unit) := by
  unfold tallyAt
  refine congrArg _ (Finsupp.ext fun u => ?_); cases u
  rw [Pipeline.launchCredit_owing, Finsupp.single_eq_same, Finset.sum_congr rfl fun d _ => owed_rcv d c j,
    Finset.sum_ite_eq' Finset.univ (src c j.val) fun _ => N, if_pos (Finset.mem_univ _)]

theorem launch_creds (c : Dev nD) : (Pipeline.launchCred O₀ c : sProp 𝕄) ⊢ creds c := by
  unfold Pipeline.launchCred creds
  rw [bigSep_univ_at _ (SemLoc.reg barrier0), launch_bar, bigSep_range]
  refine sep_mono_right ?_
  refine BIBase.Entails.trans (BI.bigSep_subset (t := Finset.univ.map ⟨_, rcv_inj⟩) fun x hx => ?_) (Entails.of_eq ?_)
  · obtain ⟨i, -, rfl⟩ := Finset.mem_map.mp hx
    exact Finset.mem_erase.mpr ⟨rcv_ne_bar i.val, Finset.mem_univ _⟩
  · rw [bigSep_map]
    exact bigSep_congr fun i _ => congrArg cred (launch_rcv c i)

end Cert.KernelIdeal.Talk
-- ==== Proof.Launch.lean ====
/-
The launch: the region's proof data and its body obligation.
-/
module

public import proofs.«01_k».proof.Proof.Tokens

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The cells' semaphores, then the eight of the arrays that no copy uses. -/
def osem : Fin 124 ⊕ Fin 8 → SemLoc sig
  | .inl k => .dma (scS k.val)
  | .inr k => .dma ⟨if k.val < 4 then 6 + k.val else 66 + k.val, by have := k.isLt; show _ < 134; split <;> omega⟩
theorem osemFacts : Pipeline.OwnSemFacts spec0 osem := by decide +kernel

def idleSems (c : Dev nD) : sProp 𝕄 := bigSep Finset.univ fun k : Fin 8 => semVal ((c : Thread nD τ), osem (.inr k)) 0

theorem ownSems_eq (c : Dev nD) : (Pipeline.ownSems0 osem c : sProp 𝕄)
    = iprop((bigSep Finset.univ fun k : Fin 124 => semVal (scCell c k) 0) ∗ idleSems c) := by
  unfold Pipeline.ownSems0 idleSems
  rw [bigSep_univ_sum]; rfl

/-! ## The region's proof data -/

abbrev adm : (p : Fin 1) → (pcfgs (F := F) p).Adm := fun p => (cfgs p).toPCfg_adm

def V₀ (c : Dev nD) : Valuation τ sig (Elt F) := fun b => m (c, b)
abbrev V₁ (c : Dev nD) : Valuation τ sig (Elt F) := StableHlo.after hostOps0 (V₀ m c)

/-- What the kernel's body leaves in the output's staging buffer. -/
def outV : (cc0_stg1_0 : Ref sig .tc).ty.Contents (Elt F) := k0_pay1 (cOut (G m))

def Φ₀ (c : Dev nD) : sProp 𝕄 := iprop((∃ K, recs m K ∗ gIn m c) ∗ idleSems c ∗ ∃ r, prngReg c r)
def Φ₁ (c : Dev nD) : sProp 𝕄 := iprop(gOut m c ∗ idleSems c ∗ ∃ r, prngReg c r)

def dat0 (c : Dev nD) : Dat τ (Elt F) Unit ℕ UU ℕ cfg0 c where
  A w := V m c (Pipeline.arrRef spec0 w)
  after w _ := match w with
    | ⟨0, _⟩ => V m c main_v1
    | ⟨1, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev pdats : (p : Fin 1) → (c : Dev nD) → Dat τ (Elt F) Unit ℕ UU ℕ (Pipeline.pin (pcfgs (F := F)) adm p) c
  | 0 => dat0 m | ⟨_ + 1, h⟩ => absurd h (Nat.not_lt.2 (Nat.le_add_left _ _))

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    owesX c O ⊢ (dat.owesAt () t : sProp 𝕄) := by
  unfold owesX Dat.owesAt Pipeline.owesWithin Dat.bound
  rw [h0, hr]
  iintro ⟨%W, HO⟩
  iexists W
  isplitr
  · ipureintro; exact fun _ _ => Or.inl trivial
  · iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) : (dat.owesAt () t : sProp 𝕄) ⊢ owesX c O := by
  unfold owesX Dat.owesAt Pipeline.owesWithin
  rw [h0]
  iintro ⟨%W, -, HO⟩
  iexists W
  iexact HO

theorem owns_at (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦[Finset.univ]{fullShare} f) := by
  unfold owns
  simp only [Memref.view_whole, View.read_whole, View.set_whole]

theorem fetch_in (t : Fin cfg0.N) : (cfg0.win (0 : Fin 2)).fetch t = true := by rw [fin_N0 t]; rfl

abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦[Finset.univ]{fullShare} f)

theorem before_in (c : Dev nD) (d) : (dat0 m c).before (0 : Fin 2) t0_0 d = V m c main_v1 := by
  unfold Dat.before
  rw [if_pos (fetch_in t0_0)]
  funext i
  show V m c main_v1 (((cfg0.win (0 : Fin 2)).rect t0_0).emb i) = V m c main_v1 i
  congr 1
  funext a
  exact Fin.ext (Pipeline.Window.rect_emb_val_of_index_zero (cfg0.win (0 : Fin 2)) t0_0 a rfl i)

def bodyPre (c : Dev nD) : sProp 𝕄 :=
  iprop(Φ₀ m c ∗ (dat0 m c).owesAt () (t0_0 : Fin cfg0.N).castSucc
    ∗ (∃ d, stg c cc0_stg0_0 ((dat0 m c).before (0 : Fin 2) t0_0 d))
    ∗ (∃ d, stg c cc0_stg1_0 ((dat0 m c).before (1 : Fin 2) t0_0 d)))
def bodyPost (c : Dev nD) : sProp 𝕄 :=
  iprop(Φ₁ m c ∗ (dat0 m c).owesAt () (t0_0 : Fin cfg0.N).succ ∗ stg c cc0_stg0_0 (V m c main_v1) ∗ stg c cc0_stg1_0 (outV m))

set_option maxRecDepth 20000 in
theorem body_ob (c : Dev nD) : BodyObligation (dat0 m c) defs₀ 𝒱₀ () Set.univ := fun t => by
  rw [show t = t0_0 from fin_N0 t]
  rw [bigSep_W0, bigSep_W0]
  simp only [owns_at]
  show bodyPre m c ⊢ wp frame (wpE defs₀ 𝒱₀ (c : Thread nD τ) none) Set.univ
    (cc0_body qM (Memref.isWhole_whole _) kH (Memref.isWhole_whole _) vH (Memref.isWhole_whole _) oM (Memref.isWhole_whole _)
      kB (Memref.isWhole_whole _) vB (Memref.isWhole_whole _) gB (Memref.isWhole_whole _) cc0_scratch3 cc0_scratch4 cc0_scratch5 cc0_scratch6)
    (fun _ => bodyPost m c)
  unfold bodyPre Φ₀
  iintro ⟨⟨⟨%K, #HR, Hg⟩, Hi, Hp⟩, HO, ⟨%d0, %g0, %hg0, Hq⟩, ⟨%d1, %g1, %hg1, Ho⟩⟩
  rw [before_in] at hg0
  subst hg0
  ihave HO := (owesAt_elim (dat0 m c) _ (O₀ c) rfl) $$ HO
  iapply (run m K c) $$ [Hg HO Hq Ho]
  · isplitr; · iexact HR
    isplitl [Hg]; · iexact Hg
    isplitl [HO]; · iexact HO
    isplitl [Hq]; · unfold qPts; iexact Hq
    iexists g1
    unfold outPts
    iexact Ho
  iintro ⟨Hg, HO, Hq, Ho⟩
  unfold bodyPost Φ₁
  isplitl [Hg Hi Hp]
  · isplitl [Hg]; · iexact Hg
    isplitl [Hi] <;> iassumption
  isplitl [HO]
  · iapply (owesAt_intro (dat0 m c) _ 0 rfl rfl) $$ HO
  isplitl [Hq]
  · iexists _
    isplitr
    · ipureintro; rfl
    · unfold qPts; iexact Hq
  iexists _
  isplitr
  · ipureintro; rfl
  · unfold outPts; iexact Ho

end Cert.KernelIdeal.Talk
-- ==== Proof.Region.lean ====
/-
The program's two segments: the host operations, and the kernel's region with what it is entered with and what it leaves.
-/
module

public import proofs.«01_k».proof.Proof.Launch

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ) (ρ : Dev nD → PrngReg)

/-! ## The buffers -/

def bufs : Finset (DevRef τ sig) := (StableHlo.tcRefs τ sig).filter fun b => ¬ b.isScoped
/-- The buffers the region's windows do not stage, and those of them the kernel addresses itself. -/
def restB : Finset (DevRef τ sig) :=
  {Proc.devRef .tc main_arg0, Proc.devRef .tc main_arg1, Proc.devRef .tc main_arg2, Proc.devRef .tc main_v2, Proc.devRef .tc main_v3}
def kvB : Finset (DevRef τ sig) := {Proc.devRef .tc main_v2, Proc.devRef .tc main_v3}

abbrev pt (c : Dev nD) (b : Ref sig .tc) (f : Buf (Elt F) ((c : Thread nD τ).loc b)) : sProp 𝕄 :=
  iprop(((c : Thread nD τ).loc b) ↦[Finset.univ]{fullShare} f)

theorem kvB_eq (c : Dev nD) (W : Valuation τ sig (Elt F)) :
    (StableHlo.held (c.tc : Thread nD τ) kvB W : sProp 𝕄) = iprop(pt c main_v2 (W main_v2) ∗ pt c main_v3 (W main_v3)) := by
  unfold StableHlo.held
  rw [bigSep_eq_bigSepL_of_eq [Proc.devRef .tc main_v2, Proc.devRef .tc main_v3] (by decide) (by decide)]; rfl
theorem restB_eq (c : Dev nD) (W : Valuation τ sig (Elt F)) :
    (StableHlo.held (c.tc : Thread nD τ) restB W : sProp 𝕄) = iprop(pt c main_arg0 (W main_arg0) ∗ pt c main_arg1 (W main_arg1)
      ∗ pt c main_arg2 (W main_arg2) ∗ pt c main_v2 (W main_v2) ∗ pt c main_v3 (W main_v3)) := by
  unfold StableHlo.held
  rw [bigSep_eq_bigSepL_of_eq [Proc.devRef .tc main_arg0, Proc.devRef .tc main_arg1, Proc.devRef .tc main_arg2, Proc.devRef .tc main_v2,
    Proc.devRef .tc main_v3] (by decide) (by decide)]; rfl
theorem arrB_eq (c : Dev nD) (W : Valuation τ sig (Elt F)) :
    (StableHlo.held (c.tc : Thread nD τ) (Pipeline.arrRefs (τ := τ) (pcfgs (F := F) 0).spec) W : sProp 𝕄)
      = iprop(pt c main_v1 (W main_v1) ∗ pt c main_v4 (W main_v4)) := by
  show StableHlo.held (c.tc : Thread nD τ) (Pipeline.arrRefs (τ := τ) spec0) W = _
  unfold StableHlo.held
  rw [bigSep_eq_bigSepL_of_eq [Proc.devRef .tc main_v1, Proc.devRef .tc main_v4] (by decide) (by decide)]; rfl
theorem bufs_eq (c : Dev nD) (W : Valuation τ sig (Elt F)) :
    (StableHlo.held (c.tc : Thread nD τ) bufs W : sProp 𝕄) = iprop(pt c main_arg0 (W main_arg0) ∗ pt c main_arg1 (W main_arg1)
      ∗ pt c main_arg2 (W main_arg2) ∗ pt c main_v1 (W main_v1) ∗ pt c main_v2 (W main_v2) ∗ pt c main_v3 (W main_v3) ∗ pt c main_v4 (W main_v4)) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3, Proc.devRef .tc main_v4] (by decide) (by decide)]; rfl

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]; rfl
theorem unscoped_eq : ∀ sm : SemLoc sig, sm.isScoped .tc = false → sm = .reg barrier0 := by decide +kernel
theorem unscopedSems_eq (c : Dev nD) : (unscopedSems0 c : sProp 𝕄) = semVal (bar c) 0 := by
  unfold unscopedSems0
  rw [show (Finset.univ.filter fun sm : SemLoc sig => ¬ sm.isScoped .tc) = {SemLoc.reg barrier0} from by decide +kernel, BI.bigSep_singleton]

/-! ## The segments -/

/-- What the output array holds in the end. -/
def outA (c : Dev nD) : Buf (Elt F) ((c : Thread nD τ).loc main_v4) := (dat0 m c).arrAt (1 : Fin 2) cfg0.N
def V₂ (c : Dev nD) : Valuation τ sig (Elt F) := Function.update (V₁ m c) (Proc.devRef .tc main_v4) (outA m c)
theorem V₂_ne (c : Dev nD) {b : DevRef τ sig} (h : b ≠ Proc.devRef .tc main_v4) : V₂ m c b = V₁ m c b := Function.update_of_ne h _ _
theorem V₂_out (c : Dev nD) : V₂ m c main_v4 = outA m c := Function.update_self _ _ _

/-- What the launch keeps for the region. -/
def Tk (c : Dev nD) : sProp 𝕄 := iprop(∃ K, recs m K ∗ (toks c ∗ creds c ∗ atPos ER (bar c) 0 ∅ 0 ∗ bigSep Finset.univ fun k : Fin 124 => openTok ER (scCell c k)))
def Xk (c : Dev nD) : sProp 𝕄 := iprop((∃ K, recs m K ∗ (toks c ∗ creds c ∗ atPos ER (bar c) 0 ∅ 0 ∗ openedAt c)) ∗ idleSems c)
def Yk (c : Dev nD) : sProp 𝕄 := semVal (bar c) 0
def R (c : Dev nD) : sProp 𝕄 := iprop(Tk m c ∗ owesX c (O₀ c) ∗ ∃ r, prngReg c r)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

theorem ops_sub : ∀ op ∈ (hostOps0 : List (HloOp τ sig (Elt F))), op.bufs ⊆ bufs := fun op h => by
  have hf := List.forall_iff_forall_mem.mp hostOps0_sub op h
  simp only [hostOps0, List.mem_cons, List.not_mem_nil, or_false] at h
  rcases h with rfl | rfl | rfl
  · show ({Proc.devRef .tc main_arg0, Proc.devRef .tc main_v1} : Finset (DevRef τ sig)) ⊆ bufs; decide
  · show ({Proc.devRef .tc main_arg1, Proc.devRef .tc main_v2} : Finset (DevRef τ sig)) ⊆ bufs; decide
  · show ({Proc.devRef .tc main_arg2, Proc.devRef .tc main_v3} : Finset (DevRef τ sig)) ⊆ bufs; decide

def seg0 : ℍ := Pipeline.HostSeg.ofOps _ _ _ _ _ bufs hostOps0 ops_sub (List.forall_iff_forall_mem.mp hostOps0_fresh) (V₀ m) (R m)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem sc_recs (K : GSem nD τ sig → ℕ) (c : Dev nD) :
    recs m K ⊢ bigSep Finset.univ fun k : Fin 124 => (cellInv ER (Rd m) (K (scCell c k)) (scCell c k) : sProp 𝕄) := by
  have h := bigSep_with_persistent (S := Finset.univ) (R := recs m K) (Φ := fun _ : Fin 124 => (iprop(emp) : sProp 𝕄))
    (Ψ := fun k : Fin 124 => (cellInv ER (Rd m) (K (scCell c k)) (scCell c k) : sProp 𝕄)) (fun k _ => by
      iintro ⟨HR, -⟩
      iapply (recs_inv m K (sc_mem c k.val k.isLt)) $$ HR)
  iintro HR
  iapply h
  isplitl [HR]; · iexact HR
  iapply (Entails.of_eq (BI.bigSep_emp_const (M := 𝕄) (Finset.univ : Finset (Fin 124))).symm)
  iempintro

theorem hopen (c : Dev nD) : iprop(Tk m c ∗ Pipeline.ownSems0 osem c ∗ levAts L lv) ⊢ (|={Set.univ}=> Xk m c : sProp 𝕄) := by
  rw [ownSems_eq]
  unfold Tk Xk
  iintro ⟨⟨%K, #HR, HT, HC, HB, HO⟩, ⟨Hs, Hi⟩, -⟩
  imod (Rounds.cells_open ER (Rd m) Finset.univ (fun k : Fin 124 => scCell c k) (fun k => K (scCell c k)) (Es := Set.univ) fun _ _ => Set.mem_univ _)
    $$ [HO Hs] with Hat
  · isplitl [HO]
    · iapply (Entails.of_eq (bigSep_sep' (s := Finset.univ) (fun k : Fin 124 => (cellInv ER (Rd m) (K (scCell c k)) (scCell c k) : sProp 𝕄)) (fun k => openTok ER (scCell c k))).symm)
      isplitr
      · iapply (sc_recs m K c); iexact HR
      · iexact HO
    · iexact Hs
  imodintro
  isplitr [Hi]
  · iexists K
    isplitr; · iexact HR
    isplitl [HT]; · iexact HT
    isplitl [HC]; · iexact HC
    isplitl [HB]; · iexact HB
    unfold openedAt
    iexact Hat
  · iexact Hi

theorem scoped_eq (c : Dev nD) : (Pipeline.scopedRest (Ix := Unit) (Name := ℕ) (U := UU) (Lvl := ℕ) (Val := Elt F) (Pipeline.pin (pcfgs (F := F)) adm 0).spec c : sProp 𝕄)
    = iprop(sAny c cc0_scratch0 ∗ sAny c cc0_scratch1 ∗ sAny c cc0_scratch2) := scopedRest0_eq c

theorem hin (c : Dev nD) : iprop(Pipeline.scopedRest (Pipeline.pin (pcfgs (F := F)) adm 0).spec c ∗ (∃ r, prngReg c r)
      ∗ StableHlo.held (c.tc : Thread nD τ) kvB (V₁ m c) ∗ Xk m c) ⊢ (pdats m 0 c).Φ 0 := by
  rw [show (pdats m 0 c).Φ 0 = Φ₀ m c from rfl, scoped_eq, kvB_eq]
  unfold Φ₀ Xk gIn wkBufs
  iintro ⟨Hs, Hp, ⟨Hk, Hv⟩, ⟨%K, HR, HT, HC, HB, HO⟩, Hi⟩
  isplitr [Hi Hp]
  · iexists K
    isplitl [HR]; · iexact HR
    isplitl [HT]; · iexact HT
    isplitl [HC]; · iexact HC
    isplitl [HB]; · iexact HB
    isplitl [HO]; · iexact HO
    isplitl [Hs]; · iexact Hs
    isplitl [Hk]; · iexact Hk
    iexact Hv
  isplitl [Hi] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) kvB (V₂ m c) ∗ Pipeline.ownSems0 osem c ∗ Yk c) := by
  rw [show (pdats m 0 c).Φ (Fin.last _) = Φ₁ m c from rfl, scoped_eq, kvB_eq, ownSems_eq, V₂_ne m c (by decide), V₂_ne m c (by decide)]
  unfold Φ₁ gOut wkBufs Yk
  iintro ⟨⟨Hb, Hs, Hw, Hk, Hv⟩, Hi, Hp⟩
  isplitl [Hw]; · iexact Hw
  isplitl [Hp]; · iexact Hp
  isplitl [Hk Hv]
  · isplitl [Hk]; · iexact Hk
    iexact Hv
  isplitl [Hs Hi]
  · isplitl [Hs] <;> iassumption
  iexact Hb

theorem O₀_pos {c : Dev nD} {g : GSem nD τ sig} {u : Unit} (h : 0 < O₀ c g u) : u ∈ L g ∧ (0 : ℕ) < lv g u := by
  unfold O₀ at h
  rw [Pi.add_apply, Finsupp.add_apply] at h
  rcases Nat.add_pos_iff_pos_or_pos.mp h with h | h
  · obtain ⟨d, i, hi, rfl⟩ := owedS_cell c 0 g u h
    refine ⟨by rw [L_tc]; exact Finset.mem_singleton_self _, ?_⟩
    show 0 < lvK (kindOf (.dma (rcvS i)))
    rw [kindOf_rcv hi]; exact Nat.zero_lt_two
  · unfold owedB at h
    rw [Finset.sum_apply, Finsupp.finset_sum_apply] at h
    obtain ⟨i, -, hi⟩ := Finset.exists_ne_zero_of_sum_ne_zero (Nat.pos_iff_ne_zero.mp h)
    rw [tallyAt_apply] at hi
    have hg : g = bar (dst c i) := by
      by_contra hne
      exact hi (if_neg fun h => hne h.1)
    subst hg
    refine ⟨by rw [L_tc]; exact Finset.mem_singleton_self _, ?_⟩
    show 0 < lvK (kindOf (.reg barrier0))
    decide

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  rcases t with ⟨_ | n, ht⟩
  · exact O₀_pos h
  · exact absurd h (Nat.lt_irrefl 0)

theorem cutW (c : Dev nD) (w : Fin 2) (s : Fin ((cfg0.win w).nbuf)) : lv ((c : Thread nD τ), .dma ((cfg0.win w).sem s)) () ≤ 0 := by
  show lvK (kindOf (.dma ((cfg0.win w).sem s))) ≤ 0
  revert w; decide

set_option backward.isDefEq.respectTransparency.types false in
def reg0 : ℝ𝕊 0 :=
  Pipeline.RegionSeg.ofTalk (pcfgs (F := F)) adm (pdats m) () defs₀ 𝒱₀ L lv 0 osem osemFacts
    kvB restB (by decide) kitP rfl (fun c => (body_ob m c).loose)
    (fun _ => 0) O₀ (fun c => (show (pdats (F := F) m 0 c).owed 0 = O₀ c from rfl).trans (zero_add _).symm) (fun c => rfl) (fun _ => rfl)
    (fun c w => by unfold Dat.share; split <;> rfl)
    (V₁ m) (V₂ m) (fun c b hb => V₂_ne m c (by revert hb b; decide))
    (Tk m) Yk (Xk m) Yk (hopen m) (hin m) (hout m)
    (fun c => by iintro H; imodintro; iexact H)
    (fun _ => 0)
    ⟨fun c w s => by rw [L_tc]; exact Finset.mem_singleton_self _, fun c w s => cutW c w s, fun c t g i h => cutD m c t g i h⟩
    (fun _ => iprop(emp))
    (fun c w => by fin_cases w <;> rfl)
    (fun c w => by
      fin_cases w
      · exact ((dat0 m c).arrAt_in (0 : Fin 2) rfl _).trans (V₂_ne m c (by decide)).symm
      · exact (V₂_out m c).symm)

theorem reg_pre (c : Dev nD) : iprop(StableHlo.held (c : Thread nD τ) bufs (V₁ m c) ∗ R m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) restB (V₁ m c) ∗ emp) ∗ Tk m c ∗ ∃ Wd, owes (c : Thread nD τ) (0 + O₀ c) Wd)
  rw [arrB_eq, restB_eq, bufs_eq, zero_add]
  unfold R owesX
  iintro ⟨⟨H0, H1, H2, H3, H4, H5, H6⟩, HT, HO, Hp⟩
  isplitl [H3 H6]
  · isplitl [H3] <;> iassumption
  isplitl [Hp]; · iexact Hp
  isplitl [H0 H1 H2 H4 H5]
  · isplitl
    · isplitl [H0]; · iexact H0
      isplitl [H1]; · iexact H1
      isplitl [H2]; · iexact H2
      isplitl [H4] <;> iassumption
    · iempintro
  isplitl [HT]; · iexact HT
  iexact HO

theorem reg_post (c : Dev nD) : (reg0 m).post c
    ⊢ iprop((StableHlo.held (c : Thread nD τ) bufs (V₂ m c) ∗ semVal (bar c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) restB (V₂ m c) ∗ emp) ∗ Yk c ∗ ∃ Wd, owes (c : Thread nD τ) (0 : CellTallies nD τ sig Unit) Wd) ⊢ _
  rw [arrB_eq, restB_eq, bufs_eq]
  unfold Yk
  iintro ⟨⟨H3, H6⟩, -, ⟨⟨H0, H1, H2, H4, H5⟩, -⟩, Hb, HO⟩
  isplitr [HO]
  · isplitr [Hb]
    · isplitl [H0]; · iexact H0
      isplitl [H1]; · iexact H1
      isplitl [H2]; · iexact H2
      isplitl [H3]; · iexact H3
      isplitl [H4]; · iexact H4
      isplitl [H5] <;> iassumption
    · iexact Hb
  · iexact HO

end Cert.KernelIdeal.Talk
-- ==== Proof.RunMain.lean ====
/-
The program's run on all the devices: the cells allocated, everything dealt, and what every execution ends with.
-/
module

public import proofs.«01_k».proof.Proof.Region

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem disjoint_cells : Disjoint (barCells : Finset (GSem nD τ sig)) scCells := by
  rw [Finset.disjoint_left]
  intro g h₁ h₂
  obtain ⟨c, -, rfl⟩ := Finset.mem_map.mp h₁
  obtain ⟨x, -, h⟩ := Finset.mem_map.mp h₂
  have := congrArg Prod.snd h
  cases this

def lE : UB := launchOf barCells scCells allToks
def u₀ : UU :=
  (initOf (Pipeline.cells (Pipeline.pin (pcfgs (F := F)) adm) cellOf_inj) (Pipeline.launchToks (Pipeline.pin (pcfgs (F := F)) adm) cellOf_inj), lE)

/-- The launch element, kept whole on device 0 until the cells are allocated. -/
def atZero (c : Dev nD) : sProp 𝕄 := if c = 0 then BI.own (ER lE) else iprop(emp)
theorem atZero_all : bigSep Finset.univ (atZero (F := F)) = BI.own (ER lE) := by
  rw [bigSep_univ_at _ (0 : Dev nD), bigSep_congr (s := Finset.univ.erase (0 : Dev nD)) (Ψ := fun _ => (BI.emp : sProp 𝕄))
    fun c hc => by unfold atZero; rw [if_neg (Finset.ne_of_mem_erase hc)]; rfl, BI.bigSep_emp_const]
  unfold atZero
  rw [if_pos rfl]
  exact BI.equiv_iff.mp sep_emp

/-! ## Dealing everything -/

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (bar c) 0)

/-- What of a device's launch holdings is not of the cells. -/
def bundle (c : Dev nD) : sProp 𝕄 :=
  iprop(StableHlo.held (c : Thread nD τ) bufs (V₀ m c) ∗ creds c ∗ owesX c (O₀ c) ∗ ∃ r, prngReg c r)
def linear (c : Dev nD) : sProp 𝕄 :=
  iprop(atPos ER (bar c) 0 ∅ 0 ∗ (bigSep Finset.univ fun k : Fin 124 => openTok ER (scCell c k)) ∗ toks c)

theorem T₀_intro (K : GSem nD τ sig → ℕ) (c : Dev nD) : iprop(recs m K ∗ (linear c ∗ bundle m c)) ⊢ T₀ m c := by
  unfold bundle linear T₀ R Tk
  iintro ⟨HR, ⟨Hat, Ho, Ht⟩, Hh, Hc, HO, Hp⟩
  isplitl [Hh]; · iexact Hh
  isplitr [HO Hp]
  · iexists K
    isplitl [HR]; · iexact HR
    isplitl [Ht]; · iexact Ht
    isplitl [Hc]; · iexact Hc
    isplitl [Hat] <;> iassumption
  isplitl [HO] <;> iassumption

theorem core_init (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ atZero c)
    ⊢ (iprop(bundle m c ∗ (semVal (bar c) 0 ∗ atZero c)) : sProp 𝕄) := by
  rw [show unscopedBufs c (fun b => m ((c : Thread nD τ).loc b)) = StableHlo.held (c : Thread nD τ) bufs (V₀ m c) from unscoped_held c (V₀ m c),
    unscopedSems_eq]
  unfold bundle owesX
  iintro ⟨Hh, Hu, HO, Hcr, Hp, HG⟩
  ihave Hc := (launch_creds (F := F) c) $$ Hcr
  isplitr [Hu HG]
  · isplitl [Hh]; · iexact Hh
    isplitl [Hc]; · iexact Hc
    isplitl [HO]
    · iexists ∅; iexact HO
    · iexists (ρ c); iexact Hp
  isplitl [Hu] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ atZero c)) ∗ levAts L lv)
      ⊢ (|={Set.univ}=> bigSep Finset.univ (T₀ m) : sProp 𝕄) := by
  have hv : bigSep Finset.univ (fun c : Dev nD => (semVal (bar c) 0 : sProp 𝕄)) = bigSep barCells (fun g => (semVal g 0 : sProp 𝕄)) :=
    (bigSep_map (s := Finset.univ) barEmb (Φ := fun g : GSem nD τ sig => (semVal g 0 : sProp 𝕄))).symm
  have hat : bigSep barCells (fun g => (atPos ER g 0 ∅ 0 : sProp 𝕄)) = bigSep Finset.univ (fun c : Dev nD => (atPos ER (bar c) 0 ∅ 0 : sProp 𝕄)) :=
    bigSep_map (s := Finset.univ) barEmb (Φ := fun g : GSem nD τ sig => (atPos ER g 0 ∅ 0 : sProp 𝕄))
  have hop : bigSep scCells (fun g => (openTok ER g : sProp 𝕄))
      = bigSep Finset.univ (fun c : Dev nD => bigSep Finset.univ fun k : Fin 124 => openTok ER (scCell c k)) := by
    rw [bigSep_map, bigSep_univ_prod]; rfl
  have htk : bigSep allToks (fun x => (dutyTok ER x.1 x.2.1 x.2.2 : sProp 𝕄)) = bigSep Finset.univ fun c : Dev nD => toks c :=
    allToks_eq.trans toks_around
  have hall : bigSep Finset.univ (fun c : Dev nD => iprop(linear c ∗ bundle m c))
      = iprop(((bigSep Finset.univ fun c : Dev nD => atPos ER (bar c) 0 ∅ 0)
        ∗ (bigSep Finset.univ fun c : Dev nD => bigSep Finset.univ fun k : Fin 124 => openTok ER (scCell c k))
        ∗ bigSep Finset.univ fun c : Dev nD => toks c) ∗ bigSep Finset.univ (bundle m)) := by
    unfold linear
    rw [bigSep_sep', bigSep_sep', bigSep_sep']
  have hc : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ atZero c))
      ⊢ (iprop(bigSep Finset.univ (bundle m) ∗ bigSep barCells (fun g => semVal g 0) ∗ BI.own (ER lE)) : sProp 𝕄) := by
    refine (show _ ⊢ (bigSep Finset.univ fun c : Dev nD => iprop(bundle m c ∗ (semVal (bar c) 0 ∗ atZero c)) : sProp 𝕄) from
      bigSep_mono fun c _ => core_init m ρ c).trans (Entails.of_eq ?_)
    rw [bigSep_sep', bigSep_sep', hv]
    exact congrArg₂ _ rfl (congrArg₂ _ rfl atZero_all)
  iintro ⟨H, #HL⟩
  ihave H := hc $$ H
  icases H with ⟨HB, Hv, Hu⟩
  unfold lE
  imod (Rounds.fund_launch ER (Rd m) disjoint_cells (fun g _ h => h) allToks) $$ [Hv Hu] with ⟨%κ, -, #Hinv, #Hr, Hat, Hopen, Htok⟩
  · isplitl [Hv]
    · iexact Hv
    · iexact Hu
  imodintro
  iapply (bigSep_with_persistent (R := recs m κ) (Φ := fun c => iprop(linear c ∗ bundle m c)) fun c _ => T₀_intro m κ c)
  isplitr
  · unfold recs
    isplitr; · iexact Hinv
    isplitr; · iexact Hr
    iexact HL
  iapply (Entails.of_eq hall.symm)
  isplitr [HB]
  · isplitl [Hat]; · iapply (Entails.of_eq hat) $$ Hat
    isplitl [Hopen]; · iapply (Entails.of_eq hop) $$ Hopen
    iapply (Entails.of_eq htk) $$ Htok
  · iexact HB

/-! ## The run -/

def segs : List (Pipeline.Seg (pcfgs (F := F)) adm (pdats m) () defs₀ 𝒱₀ L lv) := [.host (seg0 m), .region (reg0 m)]

theorem main_eq (c : Dev nD) : main (F := F) c = Pipeline.Seg.run (segs m) :=
  main_segs adm (pdats m) () 𝒱₀ L lv (seg0 m) (reg0 m) rfl c

theorem V₂_arg0 (c : Dev nD) : V₂ m c main_arg0 = m ((c : Thread nD τ).loc main_arg0) := (V₂_ne m c (by decide)).trans (V_main_arg0 m c)
theorem V₂_arg1 (c : Dev nD) : V₂ m c main_arg1 = m ((c : Thread nD τ).loc main_arg1) := (V₂_ne m c (by decide)).trans (V_main_arg1 m c)
theorem V₂_arg2 (c : Dev nD) : V₂ m c main_arg2 = m ((c : Thread nD τ).loc main_arg2) := (V₂_ne m c (by decide)).trans (V_main_arg2 m c)

set_option backward.isDefEq.respectTransparency.types false in
/-- From any memory with zero counters, every weakly fair execution ends, with the arguments as launched, the
    result array at `outA` on every device, and every semaphore counter at zero. -/
theorem run_main : θ_run defs (onTc (τ := τ) (main (F := F))) (s₀ m ρ)
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
        ∧ r.2.mem ((c : Thread nD τ).loc main_v4) = outA m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := atZero) (u₀ := u₀)
    (hu₀ := by
      unfold u₀
      iintro Hu
      ihave H := (ownU_pair _ _) $$ Hu
      icases H with ⟨HP, HX⟩
      imodintro
      isplitl [HP]; · iexact HP
      rw [atZero_all]; iexact HX)
    (T₀ := T₀ m) (Tₙ := Tₙ m)
    (hch := ⟨fun c => .rfl, fun c => reg_pre m c, fun c => reg_post m c⟩)
    (hinit := init m ρ)
    (QY := fun c s => ((s.mem ((c : Thread nD τ).loc main_arg0) = V₂ m c main_arg0 ∧ s.mem ((c : Thread nD τ).loc main_arg1) = V₂ m c main_arg1
        ∧ s.mem ((c : Thread nD τ).loc main_arg2) = V₂ m c main_arg2) ∧ s.mem ((c : Thread nD τ).loc main_v4) = V₂ m c main_v4) ∧ s.sem (bar c) = 0)
    (hfin := fun c s' => by
      dsimp only [Tₙ]; rw [bufs_eq]
      iintro ⟨⟨⟨H0, H1, H2, -, -, -, H6⟩, Hb⟩, HSI⟩
      icombine HSI H0 gives %h0
      icombine HSI H1 gives %h1
      icombine HSI H2 gives %h2
      icombine HSI H6 gives %h6
      icombine HSI Hb gives %hb
      imodintro
      isplitr
      · ipureintro
        exact ⟨⟨⟨Buf.eq_of_forall_mem_univ h0, Buf.eq_of_forall_mem_univ h1, Buf.eq_of_forall_mem_univ h2⟩, Buf.eq_of_forall_mem_univ h6⟩,
          by simpa using hb⟩
      iexact HSI)
    (hQ := fun s h hs => ⟨fun c => by
        obtain ⟨⟨⟨h0, h1, h2⟩, h6⟩, -⟩ := h c
        rw [V₂_arg0] at h0; rw [V₂_arg1] at h1; rw [V₂_arg2] at h2; rw [V₂_out] at h6
        exact ⟨⟨h0, h1, h2⟩, h6⟩,
      sem_eq_zero hs fun c sm hsm => by
        obtain rfl := unscoped_eq sm hsm
        exact (h c).2⟩)

end Cert.KernelIdeal.Talk
-- ==== Proof.PartVal.lean ====
/-
The three partial results a device computes, read at an index.
-/
module

public import proofs.«01_k».proof.Proof.Protocol
public import Idealize.ShloMosaic.Lib.Pointwise

@[expose] public section

noncomputable section

namespace Cert.KernelIdeal.Talk

open Cert.KernelIdeal Cert.KernelIdeal.Gen Idealize.ShloMosaic

theorem mask_apply (h : Fin 8) (j : Fin 512) : k0_pay2 (ix2 h j) = if j.val / 64 = h.val then 1#1 else 0#1 := by
  pointwise [k0_pay2]
  revert h j
  decide +kernel
theorem pay12_apply (q : Vec Ideal S1x512 .f32) (w : IVec S8x512 1) (h : Fin 8) (j : Fin 512) :
    k0_pay12 w q (ix2 h j) = if w (ix2 h j) = 1#1 then q (ix2 (0 : Fin 1) j) else 0 := by
  pointwise [k0_pay12]
  rfl
theorem pay13_apply (x : FVec Ideal S8x512 .f32) (k : Vec Ideal S1x1x512x512 .f32) (h : Fin 8) (n : Fin 512) :
    k0_pay13 x k (ix2 h n) = (∑ j : Fin 512, x (ix2 h j) * k (ix4 (0 : Fin 1) (0 : Fin 1) n j)) * Ideal.ofBits .f32 0x3E000000#32 := by
  pointwise [k0_pay13]
theorem pay14_apply (x : FVec Ideal S8x512 .f32) (k : Vec Ideal S1x1x512x512 .f32) (h : Fin 8) :
    k0_pay14 x k (ix2 h (0 : Fin 1)) = (Finset.univ : Finset (Fin 512)).fold max (Ideal.ofBits .f32 0xFF800000#32) fun n => k0_pay13 x k (ix2 h n) := by
  pointwise [k0_pay14]
theorem pay15_apply (x : FVec Ideal S8x512 .f32) (k : Vec Ideal S1x1x512x512 .f32) (h : Fin 8) (n : Fin 512) :
    k0_pay15 x k (ix2 h n) = Ideal.exp (k0_pay13 x k (ix2 h n) - k0_pay14 x k (ix2 h (0 : Fin 1))) := by
  pointwise [k0_pay15]
theorem pay17_apply (x : FVec Ideal S8x512 .f32) (k : Vec Ideal S1x1x512x512 .f32) (h : Fin 8) :
    k0_pay17 x k (ix4 (0 : Fin 1) (0 : Fin 1) h (0 : Fin 1)) = k0_pay14 x k (ix2 h (0 : Fin 1)) := by
  pointwise [k0_pay17]
theorem pay18_apply (x : FVec Ideal S8x512 .f32) (k : Vec Ideal S1x1x512x512 .f32) (h : Fin 8) :
    k0_pay18 x k (ix4 (0 : Fin 1) (0 : Fin 1) h (0 : Fin 1)) = ∑ n : Fin 512, k0_pay15 x k (ix2 h n) := by
  pointwise [k0_pay18]
theorem pay16_apply (x : FVec Ideal S8x512 .f32) (k v : Vec Ideal S1x1x512x512 .f32) (h : Fin 8) (d : Fin 64) :
    k0_pay16 x k v (ix4 (0 : Fin 1) (0 : Fin 1) h d) = ∑ n : Fin 512, k0_pay15 x k (ix2 h n) * v (ix4 (0 : Fin 1) (0 : Fin 1) n (⟨64 * h.val + d.val, by omega⟩ : Fin 512)) := by
  pointwise [k0_pay16]
  obtain ⟨h, hh⟩ := h
  interval_cases h <;> simp

end Cert.KernelIdeal.Talk

end
-- ==== Proof.Softmax.lean ====
/-
Combining sixteen partial soft-maxes gives the soft-max over all keys, over the extended reals. The scores
are real; the values being averaged may be infinite.
-/
module

public import Idealize.ShloMosaic.PureOps.Ideal

@[expose] public section

noncomputable section

namespace Cert.Softmax

open Idealize.ShloMosaic

/-- A finite nonempty supremum of reals is a real. -/
theorem sup_real {ι : Type} (A : Finset ι) (i₀ : ι) (h : i₀ ∈ A) (t : ι → ℝ) : ∃ r : ℝ, (A.sup fun i => ((t i : ℝ) : EReal)) = (r : EReal) := by
  have hb : (A.sup fun i => ((t i : ℝ) : EReal)) ≠ ⊥ := fun e =>
    EReal.coe_ne_bot (t i₀) (le_bot_iff.mp (e ▸ Finset.le_sup (f := fun i => ((t i : ℝ) : EReal)) h))
  have ht : (A.sup fun i => ((t i : ℝ) : EReal)) ≠ ⊤ := by
    refine ne_of_lt ((Finset.sup_lt_iff (bot_lt_top)).mpr fun i _ => EReal.coe_lt_top _)
  exact ⟨_, (EReal.coe_toReal ht hb).symm⟩

/-- A nonnegative real distributes over a finite sum. -/
theorem mul_sum {ι : Type} (A : Finset ι) (a : ℝ) (h : 0 ≤ a) (f : ι → EReal) : (a : EReal) * ∑ i ∈ A, f i = ∑ i ∈ A, (a : EReal) * f i := by
  classical
  induction A using Finset.induction_on with
  | empty => simp
  | insert i A hi ih =>
    rw [Finset.sum_insert hi, Finset.sum_insert hi, EReal.left_distrib_of_nonneg_of_ne_top (EReal.coe_nonneg.mpr h) (EReal.coe_ne_top a), ih]

theorem coe_sum {ι : Type} (A : Finset ι) (f : ι → ℝ) : ((∑ i ∈ A, f i : ℝ) : EReal) = ∑ i ∈ A, (f i : EReal) := by
  classical
  induction A using Finset.induction_on with
  | empty => simp
  | insert i A hi ih => rw [Finset.sum_insert hi, Finset.sum_insert hi, EReal.coe_add, ih]

/-- Key `n` of shard `s`, among all keys. -/
def key (s : Fin 16) (n : Fin 512) : Fin 8192 := ⟨512 * s.val + n.val, by omega⟩
theorem sum_key {M : Type} [AddCommMonoid M] (f : Fin 8192 → M) : ∑ s : Fin 16, ∑ n : Fin 512, f (key s n) = ∑ κ : Fin 8192, f κ := by
  rw [← Fintype.sum_prod_type' fun s n => f (key s n)]
  exact Fintype.sum_equiv (finProdFinEquiv (m := 16) (n := 512)) _ _ fun p => congrArg f (Fin.ext (by
    show 512 * p.1.val + p.2.val = p.2.val + 512 * p.1.val
    omega))
theorem exists_key (κ : Fin 8192) : ∃ s n, κ = key s n :=
  ⟨⟨κ.val / 512, by omega⟩, ⟨κ.val % 512, Nat.mod_lt _ (by decide)⟩, Fin.ext (by show κ.val = 512 * (κ.val / 512) + κ.val % 512; omega)⟩

theorem combine (T : Fin 8192 → ℝ) (v : Fin 8192 → EReal) (M : Fin 16 → EReal) (M0 M1 : EReal)
    (hM : ∀ s, M s = Finset.univ.sup fun n : Fin 512 => ((T (key s n) : ℝ) : EReal))
    (h0 : M0 = Finset.univ.sup M) (h1 : M1 = Finset.univ.sup fun κ => ((T κ : ℝ) : EReal)) :
    Ideal.div (∑ s, Ideal.exp (M s - M0) * ∑ n, Ideal.exp ((T (key s n) : EReal) - M s) * v (key s n))
        (∑ s, Ideal.exp (M s - M0) * ∑ n, Ideal.exp ((T (key s n) : EReal) - M s))
      = ∑ κ, v κ * Ideal.div (Ideal.exp ((T κ : EReal) - M1)) (∑ κ', Ideal.exp ((T κ' : EReal) - M1)) := by
  have e01 : M0 = M1 := by
    rw [h0, h1]
    refine le_antisymm (Finset.sup_le fun s _ => ?_) (Finset.sup_le fun κ _ => ?_)
    · rw [hM]
      exact Finset.sup_le fun n _ => Finset.le_sup (f := fun κ => ((T κ : ℝ) : EReal)) (Finset.mem_univ (key s n))
    · obtain ⟨s, n, rfl⟩ := exists_key κ
      exact ((Finset.le_sup (f := fun n : Fin 512 => ((T (key s n) : ℝ) : EReal)) (Finset.mem_univ n)).trans (le_of_eq (hM s).symm)).trans (Finset.le_sup (Finset.mem_univ s))
  subst e01
  obtain ⟨μ, hμ⟩ := sup_real Finset.univ (0 : Fin 8192) (Finset.mem_univ _) T
  rw [← h1] at hμ
  choose a ha using fun s => sup_real Finset.univ (0 : Fin 512) (Finset.mem_univ _) fun n => T (key s n)
  have ha' : ∀ s, M s = (a s : EReal) := fun s => (hM s).trans (ha s)
  clear hM h0 h1 ha
  subst hμ
  simp only [ha']
  simp only [← EReal.coe_sub, Ideal.exp_coe]
  have hp : ∀ s n, Real.exp (a s - μ) * Real.exp (T (key s n) - a s) = Real.exp (T (key s n) - μ) := fun s n => by
    rw [← Real.exp_add]; congr 1; ring
  have hO : (∑ s, (Real.exp (a s - μ) : EReal) * ∑ n, (Real.exp (T (key s n) - a s) : EReal) * v (key s n)) = ∑ κ, (Real.exp (T κ - μ) : EReal) * v κ := by
    rw [← sum_key fun κ => (Real.exp (T κ - μ) : EReal) * v κ]
    refine Finset.sum_congr rfl fun s _ => ?_
    rw [mul_sum _ _ (Real.exp_pos _).le]
    refine Finset.sum_congr rfl fun n _ => ?_
    rw [← mul_assoc, ← EReal.coe_mul, hp]
  have hL : (∑ s, (Real.exp (a s - μ) : EReal) * ∑ n, (Real.exp (T (key s n) - a s) : EReal)) = ((∑ κ, Real.exp (T κ - μ) : ℝ) : EReal) := by
    rw [coe_sum, ← sum_key fun κ => (Real.exp (T κ - μ) : EReal)]
    refine Finset.sum_congr rfl fun s _ => ?_
    rw [mul_sum _ _ (Real.exp_pos _).le]
    refine Finset.sum_congr rfl fun n _ => ?_
    rw [← EReal.coe_mul, hp]
  rw [hO, hL, ← coe_sum]
  have hpos : 0 < ∑ κ, Real.exp (T κ - μ) := Finset.sum_pos (fun κ _ => Real.exp_pos _) ⟨0, Finset.mem_univ _⟩
  rw [Ideal.div_coe hpos.ne', EReal.mul_comm, mul_sum _ _ (one_div_pos.mpr hpos).le]
  refine Finset.sum_congr rfl fun κ _ => ?_
  rw [Ideal.div_coe hpos.ne', EReal.mul_comm, EReal.mul_comm (Real.exp (T κ - μ) : EReal) (v κ), mul_assoc]

end Cert.Softmax

end
-- ==== Proof.KerVal.lean ====
/-
The kernel's result read at an index.
-/
module

public import proofs.«01_k».proof.Proof.Launch
public import Idealize.ShloMosaic.Lib.Pipeline.ValueKit
public import proofs.«01_k».proof.Proof.Comb
public import proofs.«01_k».proof.Proof.PartVal
public import proofs.«01_k».proof.Proof.Softmax

@[expose] public section

noncomputable section

namespace Cert.KernelIdeal.Talk

open Cert.KernelIdeal Cert.KernelIdeal.Gen Idealize.ShloMosaic Idealize.ShloMosaic.TcCoe

/-! ## The combine -/

theorem colM_apply (x : FVec Ideal S64x128 .f32) (r : Fin 64) : colM x (ix2 r (0 : Fin 1)) = x (ix2 r (64 : Fin 128)) := by
  pointwise [colM]
theorem colL_apply (x : FVec Ideal S64x128 .f32) (r : Fin 64) : colL x (ix2 r (0 : Fin 1)) = x (ix2 r (65 : Fin 128)) := by
  pointwise [colL]
theorem colO_apply (x : FVec Ideal S64x128 .f32) (r d : Fin 64) : colO x (ix2 r d) = x (ix2 r (⟨d.val, by omega⟩ : Fin 128)) := by
  pointwise [colO]
theorem wt_apply (x : FVec Ideal S64x128 .f32) (M : FVec Ideal S64x1 .f32) (r : Fin 64) :
    wt x M (ix2 r (0 : Fin 1)) = Ideal.exp (x (ix2 r (64 : Fin 128)) - M (ix2 r (0 : Fin 1))) := by
  rw [← colM_apply x r]
  rfl
theorem wide_apply (x : FVec Ideal S64x1 .f32) (r d : Fin 64) : broadcastTo S64x64 x broadcasts_S64x1_S64x64 (ix2 r d) = x (ix2 r (0 : Fin 1)) := by
  pointwise

theorem mxs_apply (g : ℕ → FVec Ideal S64x128 .f32) (r : Fin 64) (n : ℕ) :
    mxs g n (ix2 r (0 : Fin 1)) = (Finset.range (n + 1)).sup fun s => g s (ix2 r (64 : Fin 128)) := by
  induction n with
  | zero => simp [mxs, colM_apply]
  | succ n ih =>
    rw [Finset.range_add_one, Finset.sup_insert, ← ih, ← colM_apply (g (n + 1)) r]
    show max (mxs g n (ix2 r (0 : Fin 1))) (colM (g (n + 1)) (ix2 r (0 : Fin 1))) = _
    exact max_comm _ _
theorem lsum_apply (g : ℕ → FVec Ideal S64x128 .f32) (M : FVec Ideal S64x1 .f32) (r : Fin 64) (n : ℕ) :
    lsum g M n (ix2 r (0 : Fin 1)) = ∑ s ∈ Finset.range n, Ideal.exp (g s (ix2 r (64 : Fin 128)) - M (ix2 r (0 : Fin 1))) * g s (ix2 r (65 : Fin 128)) := by
  induction n with
  | zero =>
    rw [Finset.range_zero, Finset.sum_empty]
    pointwise [lsum]
  | succ n ih =>
    rw [Finset.sum_range_succ, ← ih, ← wt_apply, ← colL_apply (g n) r]
    rfl
theorem osum_apply (g : ℕ → FVec Ideal S64x128 .f32) (M : FVec Ideal S64x1 .f32) (r d : Fin 64) (n : ℕ) :
    osum g M n (ix2 r d) = ∑ s ∈ Finset.range n, Ideal.exp (g s (ix2 r (64 : Fin 128)) - M (ix2 r (0 : Fin 1))) * g s (ix2 r (⟨d.val, by omega⟩ : Fin 128)) := by
  induction n with
  | zero =>
    rw [Finset.range_zero, Finset.sum_empty]
    pointwise [osum]
  | succ n ih =>
    rw [Finset.sum_range_succ, ← ih, ← wt_apply, ← colO_apply (g n) r d, ← wide_apply (wt (g n) M) r d]
    rfl

theorem sup_range (f : ℕ → EReal) : (Finset.range 16).sup f = Finset.univ.sup fun s : Fin 16 => f s.val :=
  le_antisymm (Finset.sup_le fun n hn => Finset.le_sup (f := fun s : Fin 16 => f s.val) (Finset.mem_univ ⟨n, Finset.mem_range.mp hn⟩))
    (Finset.sup_le fun s _ => Finset.le_sup (Finset.mem_range.mpr s.isLt))

theorem quot_apply (g : ℕ → FVec Ideal S64x128 .f32) (r d : Fin 64) :
    quot g (ix2 r d) = Ideal.div
      (∑ s : Fin 16, Ideal.exp (g s.val (ix2 r (64 : Fin 128)) - mxs g 15 (ix2 r (0 : Fin 1))) * g s.val (ix2 r (⟨d.val, by omega⟩ : Fin 128)))
      (∑ s : Fin 16, Ideal.exp (g s.val (ix2 r (64 : Fin 128)) - mxs g 15 (ix2 r (0 : Fin 1))) * g s.val (ix2 r (65 : Fin 128))) := by
  have e : quot g (ix2 r d) = Ideal.div (osum g (mxs g 15) 16 (ix2 r d)) (broadcastTo S64x64 (lsum g (mxs g 15) 16) broadcasts_S64x1_S64x64 (ix2 r d)) := rfl
  rw [e, wide_apply, osum_apply, lsum_apply, Finset.sum_range, Finset.sum_range]

/-! ## The gathered partial results -/

theorem out_apply (y : FVec Ideal S64x64 .f32) (b h : Fin 8) (d : Fin 64) :
    k0_pay1 (shapeCast S8x8x64 y shapeCasts_S64x64_S8x8x64) (ix4 b (0 : Fin 1) h d) = y (ix2 (⟨8 * b.val + h.val, by omega⟩ : Fin 64) d) := by
  pointwise [k0_pay1]
  congr 2
  exact Fin.ext (by show b.val * 8 + h.val = 8 * b.val + h.val; omega)

variable (m : (ℓ : Loc nD τ sig) → Buf (Elt Ideal) ℓ)

theorem rowN_val (f : Vec Ideal S16x4x16x128 .f32) (s : Fin 16) : rowN f s.val = row f s := by
  unfold rowN
  congr 1
  exact Fin.ext (Nat.mod_eq_of_lt s.isLt)

theorem G_at (s : Fin 16) (b h : Fin 8) (j : Fin 128) (hj : j.val < 66) :
    rowN (G m) s.val (ix2 (⟨8 * b.val + h.val, by omega⟩ : Fin 64) j)
      = if h' : j.val < 64 then partO (qrow m s b) (kblk m s b) (vblk m s b) (oIx h ⟨j.val, h'⟩)
        else if j.val = 64 then partM (qrow m s b) (kblk m s b) (lIx h) else partL (qrow m s b) (kblk m s b) (lIx h) := by
  rw [rowN_val, row_apply]
  have eb : ∀ i : S16x4x16x128.Idx, (i 1).val = (8 * b.val + h.val) / 16 → (i 2).val = (8 * b.val + h.val) % 16 → bOf i = b := fun i h1 h2 => Fin.ext (by
    show 2 * (i 1).val + (i 2).val / 8 = b.val
    rw [h1, h2]; omega)
  have eh : ∀ i : S16x4x16x128.Idx, (i 2).val = (8 * b.val + h.val) % 16 → hOf i = h := fun i h2 => Fin.ext (by
    show (i 2).val % 8 = h.val
    rw [h2]; omega)
  unfold G
  rw [eb _ rfl rfl, eh _ rfl]
  rfl

/-! ## The arguments -/

/-- A device's three arguments. -/
def aQ (s : Dev nD) : FVec Ideal S8x1x8x64 .f32 := m ((s : Thread nD τ).loc main_arg0)
def aK (s : Dev nD) : FVec Ideal S8x512x8x64 .f32 := m ((s : Thread nD τ).loc main_arg1)
def aV (s : Dev nD) : FVec Ideal S8x512x8x64 .f32 := m ((s : Thread nD τ).loc main_arg2)
theorem V_q (s : Dev nD) : (V m s main_v1 : Vec Ideal S8x512 .f32) = shapeCast S8x512 (aQ m s) shapeCasts_S8x1x8x64_S8x512 := by
  rfl
theorem V_k (s : Dev nD) : (V m s main_v2 : Vec Ideal S8x512x512 .f32) = shapeCast S8x512x512 (aK m s) shapeCasts_S8x512x8x64_S8x512x512 := by
  rfl
theorem V_v (s : Dev nD) : (V m s main_v3 : Vec Ideal S8x512x512 .f32) = shapeCast S8x512x512 (aV m s) shapeCasts_S8x512x8x64_S8x512x512 := by
  rfl

theorem cast_q (x : Vec Ideal S8x1x8x64 .f32) (b h : Fin 8) (d : Fin 64) :
    shapeCast S8x512 x shapeCasts_S8x1x8x64_S8x512 (ix2 b (⟨64 * h.val + d.val, by omega⟩ : Fin 512)) = x (ix4 b (0 : Fin 1) h d) := by
  pointwise
theorem cast_k (x : Vec Ideal S8x512x8x64 .f32) (b h : Fin 8) (n : Fin 512) (d : Fin 64) :
    shapeCast S8x512x512 x shapeCasts_S8x512x8x64_S8x512x512 (ix3 b n (⟨64 * h.val + d.val, by omega⟩ : Fin 512)) = x (ix4 b n h d) := by
  pointwise
theorem qIx_eq (b : Fin 8) (j : Fin 512) : qIx b j = ix2 b j := by
  funext a
  match a with
  | 0 => rfl
  | 1 => rfl
theorem kIx_eq (b : Fin 8) (n j : Fin 512) : kIx b n j = ix3 b n j := by
  funext a
  match a with
  | 0 => rfl
  | 1 => rfl
  | 2 => rfl
theorem oIx_eq (h : Fin 8) (d : Fin 64) : oIx h d = ix4 (0 : Fin 1) (0 : Fin 1) h d := by
  funext a
  match a with
  | 0 => rfl
  | 1 => rfl
  | 2 => rfl
  | 3 => rfl
theorem lIx_eq (h : Fin 8) : lIx h = ix4 (0 : Fin 1) (0 : Fin 1) h (0 : Fin 1) := by
  funext a
  match a with
  | 0 => rfl
  | 1 => rfl
  | 2 => rfl
  | 3 => rfl

theorem q_apply (s : Dev nD) (b h : Fin 8) (d : Fin 64) :
    qrow m s b (ix2 (0 : Fin 1) (⟨64 * h.val + d.val, by omega⟩ : Fin 512)) = aQ m s (ix4 b (0 : Fin 1) h d) := by
  show (V m s main_v1 : Vec Ideal S8x512 .f32) (qIx b (⟨64 * h.val + d.val, by omega⟩ : Fin 512)) = _
  rw [qIx_eq, V_q, cast_q]
theorem k_apply (s : Dev nD) (b h : Fin 8) (n : Fin 512) (d : Fin 64) :
    kblk m s b (ix4 (0 : Fin 1) (0 : Fin 1) n (⟨64 * h.val + d.val, by omega⟩ : Fin 512)) = aK m s (ix4 b n h d) := by
  show (V m s main_v2 : Vec Ideal S8x512x512 .f32) (kIx b n (⟨64 * h.val + d.val, by omega⟩ : Fin 512)) = _
  rw [kIx_eq, V_k, cast_k]
theorem v_apply (s : Dev nD) (b h : Fin 8) (n : Fin 512) (d : Fin 64) :
    vblk m s b (ix4 (0 : Fin 1) (0 : Fin 1) n (⟨64 * h.val + d.val, by omega⟩ : Fin 512)) = aV m s (ix4 b n h d) := by
  show (V m s main_v3 : Vec Ideal S8x512x512 .f32) (kIx b n (⟨64 * h.val + d.val, by omega⟩ : Fin 512)) = _
  rw [kIx_eq, V_v, cast_k]

/-! ## One block's scores and partial results -/

/-- A head's part of a row of 512 columns. -/
def col (h : Fin 8) (d : Fin 64) : Fin 512 := ⟨64 * h.val + d.val, by omega⟩
theorem sum_masked (h : Fin 8) (q k : Fin 512 → EReal) :
    (∑ j : Fin 512, (if j.val / 64 = h.val then q j else 0) * k j) = ∑ d : Fin 64, q (col h d) * k (col h d) := by
  have e : ∀ f : Fin 512 → EReal, ∑ j, f j = ∑ g : Fin 8, ∑ d : Fin 64, f (col g d) := fun f => by
    rw [← Fintype.sum_prod_type' fun g d => f (col g d)]
    exact (Fintype.sum_equiv (finProdFinEquiv (m := 8) (n := 64)) _ _ fun p => congrArg f (Fin.ext (by
      show 64 * p.1.val + p.2.val = p.2.val + 64 * p.1.val
      omega))).symm
  rw [e, Finset.sum_eq_single h]
  · exact Finset.sum_congr rfl fun d _ => by rw [if_pos (by show (64 * h.val + d.val) / 64 = h.val; omega)]
  · intro g _ hg
    refine Finset.sum_eq_zero fun d _ => ?_
    rw [if_neg (by show ¬ (64 * g.val + d.val) / 64 = h.val; have := fun e => hg (Fin.ext e); omega), zero_mul]
  · exact fun hn => absurd (Finset.mem_univ h) hn

/-- The score of query `(b, h)` against key `n` of device `s`. -/
def score (s : Dev nD) (b h : Fin 8) (n : Fin 512) : EReal :=
  (∑ d : Fin 64, aQ m s (ix4 b (0 : Fin 1) h d)
    * aK m s (ix4 b n h d)) * Ideal.ofBits .f32 0x3E000000#32
theorem score_eq (s : Dev nD) (b h : Fin 8) (n : Fin 512) : k0_pay13 (k0_pay12 k0_pay2 (qrow m s b)) (kblk m s b) (ix2 h n) = score m s b h n := by
  have e : ∀ j : Fin 512, k0_pay12 k0_pay2 (qrow m s b) (ix2 h j) = if j.val / 64 = h.val then qrow m s b (ix2 (0 : Fin 1) j) else 0 := fun j => by
    rw [pay12_apply, mask_apply]
    by_cases hj : j.val / 64 = h.val
    · rw [if_pos hj, if_pos rfl, if_pos hj]
    · rw [if_neg hj, if_neg (by decide), if_neg hj]
  rw [pay13_apply]
  simp only [e]
  rw [sum_masked h (fun j => qrow m s b (ix2 (0 : Fin 1) j)) (fun j => kblk m s b (ix4 (0 : Fin 1) (0 : Fin 1) n j))]
  unfold score
  congr 1
  exact Finset.sum_congr rfl fun d _ => congrArg₂ (· * ·) (q_apply m s b h d) (k_apply m s b h n d)

theorem neg_inf : Ideal.ofBits .f32 0xFF800000#32 = ⊥ := by simp [Ideal.ofBits, Ideal.ieee]

theorem max_eq (s : Dev nD) (b h : Fin 8) : k0_pay14 (k0_pay12 k0_pay2 (qrow m s b)) (kblk m s b) (ix2 h (0 : Fin 1)) = Finset.univ.sup fun n => score m s b h n := by
  rw [pay14_apply, neg_inf]
  simp only [score_eq]
  rfl
theorem partM_apply (s : Dev nD) (b h : Fin 8) : partM (qrow m s b) (kblk m s b) (lIx h) = Finset.univ.sup fun n => score m s b h n := by
  unfold partM
  rw [lIx_eq, pay17_apply, max_eq]
theorem partL_apply (s : Dev nD) (b h : Fin 8) : partL (qrow m s b) (kblk m s b) (lIx h)
    = ∑ n, Ideal.exp (score m s b h n - Finset.univ.sup fun n => score m s b h n) := by
  unfold partL
  rw [lIx_eq, pay18_apply]
  simp only [pay15_apply, max_eq, score_eq]
theorem partO_apply (s : Dev nD) (b h : Fin 8) (d : Fin 64) : partO (qrow m s b) (kblk m s b) (vblk m s b) (oIx h d)
    = ∑ n, Ideal.exp (score m s b h n - Finset.univ.sup fun n => score m s b h n)
        * aV m s (ix4 b n h d) := by
  unfold partO
  rw [oIx_eq, pay16_apply]
  simp only [pay15_apply, max_eq, score_eq, v_apply]

/-- The kernel's result at an index. -/
theorem outV_apply (b h : Fin 8) (d : Fin 64) : outV m (ix4 b (0 : Fin 1) h d) = Ideal.div
    (∑ s : Fin 16, Ideal.exp ((Finset.univ.sup fun n => score m s b h n) - Finset.univ.sup fun s' : Fin 16 => Finset.univ.sup fun n => score m s' b h n)
      * ∑ n, Ideal.exp (score m s b h n - Finset.univ.sup fun n => score m s b h n) * aV m s (ix4 b n h d))
    (∑ s : Fin 16, Ideal.exp ((Finset.univ.sup fun n => score m s b h n) - Finset.univ.sup fun s' : Fin 16 => Finset.univ.sup fun n => score m s' b h n)
      * ∑ n, Ideal.exp (score m s b h n - Finset.univ.sup fun n => score m s b h n)) := by
  unfold outV
  rw [cOut_eq, out_apply, quot_apply]
  have gM : ∀ s : Fin 16, rowN (G m) s.val (ix2 (⟨8 * b.val + h.val, by omega⟩ : Fin 64) (64 : Fin 128)) = Finset.univ.sup fun n => score m s b h n := fun s => by
    rw [G_at m s b h (64 : Fin 128) (by decide), dif_neg (by decide), if_pos (by decide), partM_apply]
  have gL : ∀ s : Fin 16, rowN (G m) s.val (ix2 (⟨8 * b.val + h.val, by omega⟩ : Fin 64) (65 : Fin 128)) = ∑ n, Ideal.exp (score m s b h n - Finset.univ.sup fun n => score m s b h n) := fun s => by
    rw [G_at m s b h (65 : Fin 128) (by decide), dif_neg (by decide), if_neg (by decide), partL_apply]
  have gO : ∀ s : Fin 16, rowN (G m) s.val (ix2 (⟨8 * b.val + h.val, by omega⟩ : Fin 64) (⟨d.val, by omega⟩ : Fin 128))
      = ∑ n, Ideal.exp (score m s b h n - Finset.univ.sup fun n => score m s b h n) * aV m s (ix4 b n h d) := fun s => by
    rw [G_at m s b h (⟨d.val, by omega⟩ : Fin 128) (by show d.val < 66; omega), dif_pos d.isLt, partO_apply]
  have gX : mxs (rowN (G m)) 15 (ix2 (⟨8 * b.val + h.val, by omega⟩ : Fin 64) (0 : Fin 1)) = Finset.univ.sup fun s' : Fin 16 => Finset.univ.sup fun n => score m s' b h n := by
    rw [mxs_apply, sup_range]
    exact congrArg (Finset.sup Finset.univ) (funext gM)
  simp only [gM, gL, gO, gX]

/-- The output array in the end. -/
theorem outA_eq {F : FTy → Type} [FloatOps F] (m : (ℓ : Loc nD τ sig) → Buf (Elt F) ℓ) (c : Dev nD) : (dat0 m c).arrAt (1 : Fin 2) cfg0.N = outV m := by
  refine (dat0 m c).arrAt_eq_of_after_last (1 : Fin 2) t0_0 (by decide +kernel) _ fun j => ?_
  rfl

end Cert.KernelIdeal.Talk

end
-- ==== Proof.RefVal.lean ====
/-
The reference's result read at an index.
-/
module

public import proofs.«01_k».proof.Proof.Gen.ReferenceIdeal.Run
public import Idealize.ShloMosaic.Lib.Pointwise

@[expose] public section

noncomputable section

namespace Cert.ReferenceIdeal.Val

open Cert.ReferenceIdeal Cert.ReferenceIdeal.Gen Idealize.ShloMosaic

/-- The scaled scores. -/
def scores (q : FVec Ideal S8x1x8x64 .f32) (k : FVec Ideal S8x8192x8x64 .f32) : FVec Ideal S8x8x1x8192 .f32 :=
  mulf (Host.dotGeneral dot_S8x1x8x64_S8x8192x8x64_S8x8x1x8192_3_3_1_1_02_02 none q k) (broadcastInDim S8x8x1x8192 ![] bcast_S_S8x8x1x8192 (constant S_ .f32 0x3E000000#32))
def maxes (s : FVec Ideal S8x8x1x8192 .f32) : FVec Ideal S8x8x1 .f32 :=
  Host.reduce FloatOps.maximumf s (constant S_ .f32 0xFF800000#32) reducesTo_S8x8x1x8192_S8x8x1_d3 h_S_
def spread (x : FVec Ideal S8x8x1 .f32) : FVec Ideal S8x8x1x8192 .f32 :=
  broadcastInDim S8x8x1x8192 ![0, 1, 2, 3] bcast_S8x8x1x1_S8x8x1x8192_0_1_2_3 (broadcastInDim S8x8x1x1 ![0, 1, 2] bcast_S8x8x1_S8x8x1x1_0_1_2 x)
def weights (s : FVec Ideal S8x8x1x8192 .f32) : FVec Ideal S8x8x1x8192 .f32 := Host.exp (subf s (spread (maxes s)))
def sums (p : FVec Ideal S8x8x1x8192 .f32) : FVec Ideal S8x8x1 .f32 :=
  Host.reduceAdd p (constant S_ .f32 0x00000000#32) reducesTo_S8x8x1x8192_S8x8x1_d3 h_S_
def result (q : FVec Ideal S8x1x8x64 .f32) (k v : FVec Ideal S8x8192x8x64 .f32) : FVec Ideal S8x1x8x64 .f32 :=
  transpose S8x1x8x64 [0, 3, 1, 2] (Host.dotGeneral dot_S8x8192x8x64_S8x8x1x8192_S8x8x64x1_1_3_3_2_02_01 none v
    (Host.divf (weights (scores q k)) (spread (sums (weights (scores q k)))))) transposes_S8x8x64x1_S8x1x8x64_0_3_1_2

theorem scores_apply (q : FVec Ideal S8x1x8x64 .f32) (k : FVec Ideal S8x8192x8x64 .f32) (b h : Fin 8) (n : Fin 8192) :
    scores q k (ix4 b h (0 : Fin 1) n) = (∑ d : Fin 64, q (ix4 b (0 : Fin 1) h d) * k (ix4 b n h d)) * Ideal.ofBits .f32 0x3E000000#32 := by
  pointwise [scores]
theorem maxes_apply (s : FVec Ideal S8x8x1x8192 .f32) (b h : Fin 8) :
    maxes s (ix3 b h (0 : Fin 1)) = (Finset.univ : Finset (Fin 8192)).fold max (Ideal.ofBits .f32 0xFF800000#32) fun n => s (ix4 b h (0 : Fin 1) n) := by
  pointwise [maxes]
theorem spread_apply (x : FVec Ideal S8x8x1 .f32) (b h : Fin 8) (n : Fin 8192) : spread x (ix4 b h (0 : Fin 1) n) = x (ix3 b h (0 : Fin 1)) := by
  pointwise [spread]
theorem weights_apply (s : FVec Ideal S8x8x1x8192 .f32) (b h : Fin 8) (n : Fin 8192) :
    weights s (ix4 b h (0 : Fin 1) n) = Ideal.exp (s (ix4 b h (0 : Fin 1) n) - maxes s (ix3 b h (0 : Fin 1))) := by
  rw [← spread_apply (maxes s) b h n]
  pointwise [weights]
theorem sums_apply (p : FVec Ideal S8x8x1x8192 .f32) (b h : Fin 8) :
    sums p (ix3 b h (0 : Fin 1)) = ∑ n : Fin 8192, p (ix4 b h (0 : Fin 1) n) := by
  pointwise [sums]
/-- The weighted sum of the values. -/
def mix (v : FVec Ideal S8x8192x8x64 .f32) (w : FVec Ideal S8x8x1x8192 .f32) : FVec Ideal S8x1x8x64 .f32 :=
  transpose S8x1x8x64 [0, 3, 1, 2] (Host.dotGeneral dot_S8x8192x8x64_S8x8x1x8192_S8x8x64x1_1_3_3_2_02_01 none v w) transposes_S8x8x64x1_S8x1x8x64_0_3_1_2
theorem mix_apply (v : FVec Ideal S8x8192x8x64 .f32) (w : FVec Ideal S8x8x1x8192 .f32) (b h : Fin 8) (d : Fin 64) :
    mix v w (ix4 b (0 : Fin 1) h d) = ∑ n : Fin 8192, v (ix4 b n h d) * w (ix4 b h (0 : Fin 1) n) := by
  pointwise [mix]
theorem divf_apply (p l : FVec Ideal S8x8x1x8192 .f32) (i : S8x8x1x8192.Idx) : Host.divf p l i = Ideal.div (p i) (l i) := by
  pointwise
theorem result_apply (q : FVec Ideal S8x1x8x64 .f32) (k v : FVec Ideal S8x8192x8x64 .f32) (b h : Fin 8) (d : Fin 64) :
    result q k v (ix4 b (0 : Fin 1) h d) = ∑ n : Fin 8192, v (ix4 b n h d)
      * Ideal.div (weights (scores q k) (ix4 b h (0 : Fin 1) n)) (sums (weights (scores q k)) (ix3 b h (0 : Fin 1))) := by
  refine (mix_apply v _ b h d).trans (Finset.sum_congr rfl fun n _ => ?_)
  rw [divf_apply, spread_apply]

end Cert.ReferenceIdeal.Val

end
-- ==== Proof.Value.lean ====
/-
The kernel's result and the reference's are equal when the queries and the keys are finite.
-/
module

public import proofs.«01_k».proof.Proof.KerVal
public import proofs.«01_k».proof.Proof.RefVal
public import proofs.«01_k».proof.Proof.Gen.Pre_finite_qk_KernelIdeal

@[expose] public section

noncomputable section

namespace Cert.Value

open Idealize.ShloMosaic Idealize.ShloMosaic.TcCoe Cert.KernelIdeal Cert.KernelIdeal.Talk Cert.Softmax

theorem scale_real : ∃ r : ℝ, Ideal.ofBits .f32 0x3E000000#32 = (r : EReal) := by
  refine ⟨8388608 * (2 ^ 26)⁻¹, ?_⟩
  simp [Ideal.ofBits, Ideal.ieee]
theorem pos_inf : Ideal.ofBits .f32 0x7F800000#32 = ⊤ := by simp [Ideal.ofBits, Ideal.ieee]

/-- What the precondition says of one number. -/
theorem real_of_abs (x : EReal) (h : FloatOps.cmpf (F := Ideal) (φ := .f32) .olt (FloatOps.hostAbsf (F := Ideal) (φ := .f32) x) (Ideal.ofBits .f32 0x7F800000#32) = 1#1) : ∃ r : ℝ, x = (r : EReal) := by
  rw [pos_inf] at h
  have h' : max x (-x) < ⊤ := by
    by_contra hn
    refine absurd (h.symm.trans (show _ = 0#1 from ?_)) (by decide)
    show BitVec.ofBool (decide (max x (-x) < ⊤)) = 0#1
    rw [decide_eq_false hn]
    rfl
  have h1 : x ≠ ⊤ := fun e => absurd h' (by rw [e]; simp)
  have h2 : x ≠ ⊥ := fun e => absurd h' (by rw [e]; simp)
  exact ⟨_, (EReal.coe_toReal h1 h2).symm⟩

theorem finite [Cert.Pre_finite_qk_KernelIdeal.Facts] (Q : FVec Ideal S8x1x8x64 .f32) (K V : FVec Ideal S8x512x8x64 .f32)
    (h : (Cert.Pre_finite_qk_KernelIdeal.fn (F := Ideal) Q K V).1 = (fun _ => 1#1) ∧ (Cert.Pre_finite_qk_KernelIdeal.fn (F := Ideal) Q K V).2 = (fun _ => 1#1)) :
    (∀ i, ∃ r : ℝ, Q i = (r : EReal)) ∧ ∀ i, ∃ r : ℝ, K i = (r : EReal) :=
  ⟨fun i => real_of_abs _ (congrFun h.1 i), fun i => real_of_abs _ (congrFun h.2 i)⟩

theorem outV_eq (m : (ℓ : Loc nD τ sig) → Buf (Elt Ideal) ℓ) (q : FVec Ideal Cert.ReferenceIdeal.S8x1x8x64 .f32) (k v : FVec Ideal Cert.ReferenceIdeal.S8x8192x8x64 .f32)
    (hq : ∀ s : Dev nD, aQ m s = q) (hk : ∀ (s : Dev nD) (b h : Fin 8) (n : Fin 512) (d : Fin 64), aK m s (ix4 b n h d) = k (ix4 b (key s n) h d))
    (hv : ∀ (s : Dev nD) (b h : Fin 8) (n : Fin 512) (d : Fin 64), aV m s (ix4 b n h d) = v (ix4 b (key s n) h d))
    (fq : ∀ i, ∃ r : ℝ, q i = (r : EReal)) (fk : ∀ b κ h d, ∃ r : ℝ, k (ix4 b κ h d) = (r : EReal)) :
    outV m = Cert.ReferenceIdeal.Val.result q k v := by
  have main : ∀ (b h : Fin 8) (d : Fin 64), outV m (ix4 b (0 : Fin 1) h d) = Cert.ReferenceIdeal.Val.result q k v (ix4 b (0 : Fin 1) h d) := by
    intro b h d
    choose qr hqr using fq
    choose kr hkr using fk
    obtain ⟨c, hc⟩ := scale_real
    let T : Fin 8192 → ℝ := fun κ => (∑ e : Fin 64, qr (ix4 b (0 : Fin 1) h e) * kr b κ h e) * c
    have hT : ∀ κ, Cert.ReferenceIdeal.Val.scores q k (ix4 b h (0 : Fin 1) κ) = ((T κ : ℝ) : EReal) := fun κ => by
      rw [Cert.ReferenceIdeal.Val.scores_apply, hc]
      simp only [hqr, hkr, T, ← EReal.coe_mul, ← coe_sum]
    have hS : ∀ s n, score m s b h n = ((T (key s n) : ℝ) : EReal) := fun s n => by
      rw [← hT, Cert.ReferenceIdeal.Val.scores_apply]
      unfold score
      simp only [hq, hk]
    rw [outV_apply, Cert.ReferenceIdeal.Val.result_apply]
    simp only [hS, hv, Cert.ReferenceIdeal.Val.sums_apply, Cert.ReferenceIdeal.Val.weights_apply, Cert.ReferenceIdeal.Val.maxes_apply, neg_inf, hT]
    exact combine T (fun κ => v (ix4 b κ h d)) _ _ _ (fun _ => rfl) rfl rfl
  funext i
  have e : i = ix4 (i 0 : Fin 8) (0 : Fin 1) (i 2 : Fin 8) (i 3 : Fin 64) := by
    funext a
    match a with
    | 0 => rfl
    | 1 => exact Fin.ext (by have := (i 1).isLt; have h1 : (i 1).val < 1 := this; show (i 1).val = 0; omega)
    | 2 => rfl
    | 3 => rfl
  rw [e]
  exact main _ _ _

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_qk_KernelIdeal
public import proofs.«01_k».proof.Proof.Gen.Pre_finite_qk_ReferenceIdeal
public import proofs.«01_k».proof.Proof.RunMain
public import proofs.«01_k».proof.Proof.Value
public import Idealize.ShloMosaic.Adequacy
public import Idealize.ShloMosaic.Init

@[expose] public section

noncomputable section

namespace Cert.Proof

open Idealize.ShloMosaic Idealize.SL.Sem

/-! ## The printed kernel and the idealized one have the same text -/

section same
variable {F : FTy → Type} [FloatOps F]
set_option maxRecDepth 20000 in
theorem defs₀_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l x
  match l, x with
  | 0, (t, s) => rfl
theorem defs_same : Cert.Kernel.defs (F := F) = Cert.KernelIdeal.defs (F := F) :=
  congrArg (Pipeline.defs (Cert.KernelIdeal.pcfgs (F := F))) defs₀_same
end same

/-- The run's frame, at any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).1, h.2⟩) (Cert.KernelIdeal.Talk.run_main m ρ)

theorem frame_kernel : Cert.quiescent_Kernel := by
  intro m ρ _
  have key : ∀ d : Defs Cert.KernelIdeal.nD Cert.KernelIdeal.τ Cert.KernelIdeal.sig (Elt Bits)
      (Pipeline.Sig Cert.KernelIdeal.Λ₀ (Fin 1) fun p => (Cert.KernelIdeal.pcfgs (F := Bits) p).Adm), d = Cert.KernelIdeal.defs (F := Bits) →
      θ_run d (onTc (τ := Cert.KernelIdeal.τ) (Cert.KernelIdeal.main (F := Bits))) ⟨m, fun _ => 0, ρ⟩ (fun r =>
        (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) := by
    rintro _ rfl
    exact frame_any m ρ
  exact key _ defs_same

theorem frame_ideal : Cert.quiescent_KernelIdeal := fun m ρ _ =>
  (θ_run Cert.KernelIdeal.defs _ _).mono (fun _ h => ⟨fun c => (h.1 c).1, h.2⟩) (Cert.KernelIdeal.Talk.run_main (F := Ideal) m ρ)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Where an element of a device's block lies in the whole array. -/
theorem block_at (x : Vec Ideal Cert.ReferenceIdeal.S8x8192x8x64 .f32) (s : Fin 16) (b h : Fin 8) (n : Fin 512) (d : Fin 64) :
    Layout.block ⟨4, ![8, 512, 8, 64]⟩ ⟨4, ![8, 8192, 8, 64]⟩ 1 16 s x (by decide) (ix4 b n h d) = x (ix4 b (Cert.Softmax.key s n) h d) := by
  rw [Layout.block_apply]
  congr 1
  funext a
  match a with
  | 0 => rfl
  | 1 => exact Fin.ext (by show s.val * 512 + n.val = 512 * s.val + n.val; omega)
  | 2 => rfl
  | 3 => rfl

theorem algebraic : Cert.algebraic_KernelIdeal_ReferenceIdeal_pre_finite_qk_KernelIdeal := by
  intro m g m' g' hpre hargs
  have hv : Cert.KernelIdeal.Talk.outV m = Cert.ReferenceIdeal.Val.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) := by
    have hk : ∀ (s : Dev Cert.KernelIdeal.nD) (b h : Fin 8) (n : Fin 512) (d : Fin 64), Cert.KernelIdeal.Talk.aK m s (ix4 b n h d)
        = (m' (((0 : Dev Cert.ReferenceIdeal.nD).tc : Thread Cert.ReferenceIdeal.nD Cert.ReferenceIdeal.τ).loc Cert.ReferenceIdeal.main_arg1) : Vec Ideal Cert.ReferenceIdeal.S8x8192x8x64 .f32) (ix4 b (Cert.Softmax.key s n) h d) :=
      fun s b h n d => (congrFun (hargs s).2.1 (ix4 b n h d)).trans (block_at _ s b h n d)
    refine Cert.Value.outV_eq m _ _ _ (fun s => (hargs s).1) hk (fun s b h n d => (congrFun (hargs s).2.2 (ix4 b n h d)).trans (block_at _ s b h n d)) (fun i => ?_) (fun b κ h d => ?_)
    · exact (congrFun (hargs 0).1 i) ▸ (Cert.Value.finite _ _ _ (hpre 0)).1 i
    · obtain ⟨s, n, rfl⟩ := Cert.Softmax.exists_key κ
      exact (hk s b h n d) ▸ (Cert.Value.finite _ _ _ (hpre s)).2 (ix4 b n h d)
  refine ⟨_, (θ_run Cert.KernelIdeal.defs _ _).mono (fun _ h c => ⟨(h.1 c).2.trans ((Cert.KernelIdeal.Talk.outA_eq m c).trans hv), (h.1 c).1⟩) (Cert.KernelIdeal.Talk.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  Cert.Pre_finite_qk_KernelIdeal.Gen.facts, Cert.Pre_finite_qk_ReferenceIdeal.Gen.facts,
  frame_kernel, frame_ideal, fun m ρ _ => frame_ideal m ρ trivial, frame_reference, fun m ρ _ => frame_reference m ρ trivial, trivial, algebraic⟩

end Cert.Proof

end
